-- ==== Defs.lean ====
def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelXa (m : (ℓ : Loc Cert.KernelXa.nD Cert.KernelXa.τ Cert.KernelXa.sig) → Buf (Elt Bits) ℓ) : Prop :=
  True

def Pre_KernelXaIdeal (m : (ℓ : Loc Cert.KernelXaIdeal.nD Cert.KernelXaIdeal.τ Cert.KernelXaIdeal.sig) → Buf (Elt Ideal) ℓ) : Prop :=
  True

def Pre_ReferenceXaIdeal (m : (ℓ : Loc Cert.ReferenceXaIdeal.nD Cert.ReferenceXaIdeal.τ Cert.ReferenceXaIdeal.sig) → Buf (Elt Ideal) ℓ) : Prop :=
  True

def Pre_KernelEx [hPre_tables_ok : Cert.Pre_tables_ok.Facts] (m : (ℓ : Loc Cert.KernelEx.nD Cert.KernelEx.τ Cert.KernelEx.sig) → Buf (Elt Bits) ℓ) : Prop :=
  ∀ c : Dev Cert.KernelEx.nD,
    (Cert.Pre_tables_ok.fn (F := Bits) (m ((c.tc : Thread Cert.KernelEx.nD Cert.KernelEx.τ).loc Cert.KernelEx.main_arg0)) (m ((c.tc : Thread Cert.KernelEx.nD Cert.KernelEx.τ).loc Cert.KernelEx.main_arg1)) (m ((c.tc : Thread Cert.KernelEx.nD Cert.KernelEx.τ).loc Cert.KernelEx.main_arg2)) (m ((c.tc : Thread Cert.KernelEx.nD Cert.KernelEx.τ).loc Cert.KernelEx.main_arg3)) (m ((c.tc : Thread Cert.KernelEx.nD Cert.KernelEx.τ).loc Cert.KernelEx.main_arg4)) (m ((c.tc : Thread Cert.KernelEx.nD Cert.KernelEx.τ).loc Cert.KernelEx.main_arg5)) (m ((c.tc : Thread Cert.KernelEx.nD Cert.KernelEx.τ).loc Cert.KernelEx.main_arg6))) = (fun _ => 1#1)

def Pre_KernelExIdeal [hPre_tables_ok : Cert.Pre_tables_ok.Facts] (m : (ℓ : Loc Cert.KernelExIdeal.nD Cert.KernelExIdeal.τ Cert.KernelExIdeal.sig) → Buf (Elt Ideal) ℓ) : Prop :=
  ∀ c : Dev Cert.KernelExIdeal.nD,
    (Cert.Pre_tables_ok.fn (F := Ideal) (m ((c.tc : Thread Cert.KernelExIdeal.nD Cert.KernelExIdeal.τ).loc Cert.KernelExIdeal.main_arg0)) (m ((c.tc : Thread Cert.KernelExIdeal.nD Cert.KernelExIdeal.τ).loc Cert.KernelExIdeal.main_arg1)) (m ((c.tc : Thread Cert.KernelExIdeal.nD Cert.KernelExIdeal.τ).loc Cert.KernelExIdeal.main_arg2)) (m ((c.tc : Thread Cert.KernelExIdeal.nD Cert.KernelExIdeal.τ).loc Cert.KernelExIdeal.main_arg3)) (m ((c.tc : Thread Cert.KernelExIdeal.nD Cert.KernelExIdeal.τ).loc Cert.KernelExIdeal.main_arg4)) (m ((c.tc : Thread Cert.KernelExIdeal.nD Cert.KernelExIdeal.τ).loc Cert.KernelExIdeal.main_arg5)) (m ((c.tc : Thread Cert.KernelExIdeal.nD Cert.KernelExIdeal.τ).loc Cert.KernelExIdeal.main_arg6))) = (fun _ => 1#1)

def Pre_ReferenceExIdeal [hPre_tables_ok : Cert.Pre_tables_ok.Facts] (m : (ℓ : Loc Cert.ReferenceExIdeal.nD Cert.ReferenceExIdeal.τ Cert.ReferenceExIdeal.sig) → Buf (Elt Ideal) ℓ) : Prop :=
  ∀ c : Dev Cert.ReferenceExIdeal.nD,
    (Cert.Pre_tables_ok.fn (F := Ideal) (m ((c.tc : Thread Cert.ReferenceExIdeal.nD Cert.ReferenceExIdeal.τ).loc Cert.ReferenceExIdeal.main_arg0)) (m ((c.tc : Thread Cert.ReferenceExIdeal.nD Cert.ReferenceExIdeal.τ).loc Cert.ReferenceExIdeal.main_arg1)) (m ((c.tc : Thread Cert.ReferenceExIdeal.nD Cert.ReferenceExIdeal.τ).loc Cert.ReferenceExIdeal.main_arg2)) (m ((c.tc : Thread Cert.ReferenceExIdeal.nD Cert.ReferenceExIdeal.τ).loc Cert.ReferenceExIdeal.main_arg3)) (m ((c.tc : Thread Cert.ReferenceExIdeal.nD Cert.ReferenceExIdeal.τ).loc Cert.ReferenceExIdeal.main_arg4)) (m ((c.tc : Thread Cert.ReferenceExIdeal.nD Cert.ReferenceExIdeal.τ).loc Cert.ReferenceExIdeal.main_arg5)) (m ((c.tc : Thread Cert.ReferenceExIdeal.nD Cert.ReferenceExIdeal.τ).loc Cert.ReferenceExIdeal.main_arg6))) = (fun _ => 1#1)

def Pre_KernelMx (m : (ℓ : Loc Cert.KernelMx.nD Cert.KernelMx.τ Cert.KernelMx.sig) → Buf (Elt Bits) ℓ) : Prop :=
  True

def Pre_KernelMxIdeal (m : (ℓ : Loc Cert.KernelMxIdeal.nD Cert.KernelMxIdeal.τ Cert.KernelMxIdeal.sig) → Buf (Elt Ideal) ℓ) : Prop :=
  True

def Pre_ReferenceMxIdeal (m : (ℓ : Loc Cert.ReferenceMxIdeal.nD Cert.ReferenceMxIdeal.τ Cert.ReferenceMxIdeal.sig) → Buf (Elt Ideal) ℓ) : Prop :=
  True

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelXa [hKernelXa : Cert.KernelXa.Facts] : Prop :=
  ∀ (m : (ℓ : Loc Cert.KernelXa.nD Cert.KernelXa.τ Cert.KernelXa.sig) → Buf (Elt Bits) ℓ) (g : Dev Cert.KernelXa.nD → PrngReg), Pre_KernelXa m →
    θ_run (Cert.KernelXa.defs (F := Bits)) (onTc (τ := Cert.KernelXa.τ) (Cert.KernelXa.main (F := Bits))) ⟨m, fun _ => 0, g⟩ (fun r => (∀ c : Dev Cert.KernelXa.nD,
      r.2.mem ((c.tc : Thread Cert.KernelXa.nD Cert.KernelXa.τ).loc Cert.KernelXa.main_arg0) = m ((c.tc : Thread Cert.KernelXa.nD Cert.KernelXa.τ).loc Cert.KernelXa.main_arg0)
      ∧ r.2.mem ((c.tc : Thread Cert.KernelXa.nD Cert.KernelXa.τ).loc Cert.KernelXa.main_arg1) = m ((c.tc : Thread Cert.KernelXa.nD Cert.KernelXa.τ).loc Cert.KernelXa.main_arg1)
      ∧ r.2.mem ((c.tc : Thread Cert.KernelXa.nD Cert.KernelXa.τ).loc Cert.KernelXa.main_arg2) = m ((c.tc : Thread Cert.KernelXa.nD Cert.KernelXa.τ).loc Cert.KernelXa.main_arg2)
      ∧ r.2.mem ((c.tc : Thread Cert.KernelXa.nD Cert.KernelXa.τ).loc Cert.KernelXa.main_arg3) = m ((c.tc : Thread Cert.KernelXa.nD Cert.KernelXa.τ).loc Cert.KernelXa.main_arg3)
      ∧ r.2.mem ((c.tc : Thread Cert.KernelXa.nD Cert.KernelXa.τ).loc Cert.KernelXa.main_arg4) = m ((c.tc : Thread Cert.KernelXa.nD Cert.KernelXa.τ).loc Cert.KernelXa.main_arg4)
      ∧ r.2.mem ((c.tc : Thread Cert.KernelXa.nD Cert.KernelXa.τ).loc Cert.KernelXa.main_arg5) = m ((c.tc : Thread Cert.KernelXa.nD Cert.KernelXa.τ).loc Cert.KernelXa.main_arg5)
      ∧ r.2.mem ((c.tc : Thread Cert.KernelXa.nD Cert.KernelXa.τ).loc Cert.KernelXa.main_arg6) = m ((c.tc : Thread Cert.KernelXa.nD Cert.KernelXa.τ).loc Cert.KernelXa.main_arg6)
      ∧ r.2.mem ((c.tc : Thread Cert.KernelXa.nD Cert.KernelXa.τ).loc Cert.KernelXa.main_arg7) = m ((c.tc : Thread Cert.KernelXa.nD Cert.KernelXa.τ).loc Cert.KernelXa.main_arg7))
      ∧ r.2.sem = fun _ => 0)

def quiescent_KernelXaIdeal [hKernelXaIdeal : Cert.KernelXaIdeal.Facts] : Prop :=
  ∀ (m : (ℓ : Loc Cert.KernelXaIdeal.nD Cert.KernelXaIdeal.τ Cert.KernelXaIdeal.sig) → Buf (Elt Ideal) ℓ) (g : Dev Cert.KernelXaIdeal.nD → PrngReg), Pre_KernelXaIdeal m →
    θ_run (Cert.KernelXaIdeal.defs (F := Ideal)) (onTc (τ := Cert.KernelXaIdeal.τ) (Cert.KernelXaIdeal.main (F := Ideal))) ⟨m, fun _ => 0, g⟩ (fun r => (∀ c : Dev Cert.KernelXaIdeal.nD,
      r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
      ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
      ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
      ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3)
      ∧ r.2.mem ((c.tc : Thread Cert.KernelXaIdeal.nD Cert.KernelXaIdeal.τ).loc Cert.KernelXaIdeal.main_arg4) = m ((c.tc : Thread Cert.KernelXaIdeal.nD Cert.KernelXaIdeal.τ).loc Cert.KernelXaIdeal.main_arg4)
      ∧ r.2.mem ((c.tc : Thread Cert.KernelXaIdeal.nD Cert.KernelXaIdeal.τ).loc Cert.KernelXaIdeal.main_arg5) = m ((c.tc : Thread Cert.KernelXaIdeal.nD Cert.KernelXaIdeal.τ).loc Cert.KernelXaIdeal.main_arg5)
      ∧ r.2.mem ((c.tc : Thread Cert.KernelXaIdeal.nD Cert.KernelXaIdeal.τ).loc Cert.KernelXaIdeal.main_arg6) = m ((c.tc : Thread Cert.KernelXaIdeal.nD Cert.KernelXaIdeal.τ).loc Cert.KernelXaIdeal.main_arg6)
      ∧ r.2.mem ((c.tc : Thread Cert.KernelXaIdeal.nD Cert.KernelXaIdeal.τ).loc Cert.KernelXaIdeal.main_arg7) = m ((c.tc : Thread Cert.KernelXaIdeal.nD Cert.KernelXaIdeal.τ).loc Cert.KernelXaIdeal.main_arg7))
      ∧ r.2.sem = fun _ => 0)

def quiescent_ReferenceXaIdeal [hReferenceXaIdeal : Cert.ReferenceXaIdeal.Facts] : Prop :=
  ∀ (m : (ℓ : Loc Cert.ReferenceXaIdeal.nD Cert.ReferenceXaIdeal.τ Cert.ReferenceXaIdeal.sig) → Buf (Elt Ideal) ℓ) (g : Dev Cert.ReferenceXaIdeal.nD → PrngReg), Pre_ReferenceXaIdeal m →
    θ_run (Cert.ReferenceXaIdeal.defs (F := Ideal)) (onTc (τ := Cert.ReferenceXaIdeal.τ) (Cert.ReferenceXaIdeal.main (F := Ideal))) ⟨m, fun _ => 0, g⟩ (fun r => (∀ c : Dev Cert.ReferenceXaIdeal.nD,
      r.2.mem ((c.tc : Thread Cert.ReferenceXaIdeal.nD Cert.ReferenceXaIdeal.τ).loc Cert.ReferenceXaIdeal.main_arg0) = m ((c.tc : Thread Cert.ReferenceXaIdeal.nD Cert.ReferenceXaIdeal.τ).loc Cert.ReferenceXaIdeal.main_arg0)
      ∧ r.2.mem ((c.tc : Thread Cert.ReferenceXaIdeal.nD Cert.ReferenceXaIdeal.τ).loc Cert.ReferenceXaIdeal.main_arg1) = m ((c.tc : Thread Cert.ReferenceXaIdeal.nD Cert.ReferenceXaIdeal.τ).loc Cert.ReferenceXaIdeal.main_arg1)
      ∧ r.2.mem ((c.tc : Thread Cert.ReferenceXaIdeal.nD Cert.ReferenceXaIdeal.τ).loc Cert.ReferenceXaIdeal.main_arg2) = m ((c.tc : Thread Cert.ReferenceXaIdeal.nD Cert.ReferenceXaIdeal.τ).loc Cert.ReferenceXaIdeal.main_arg2)
      ∧ r.2.mem ((c.tc : Thread Cert.ReferenceXaIdeal.nD Cert.ReferenceXaIdeal.τ).loc Cert.ReferenceXaIdeal.main_arg3) = m ((c.tc : Thread Cert.ReferenceXaIdeal.nD Cert.ReferenceXaIdeal.τ).loc Cert.ReferenceXaIdeal.main_arg3)
      ∧ r.2.mem ((c.tc : Thread Cert.ReferenceXaIdeal.nD Cert.ReferenceXaIdeal.τ).loc Cert.ReferenceXaIdeal.main_arg4) = m ((c.tc : Thread Cert.ReferenceXaIdeal.nD Cert.ReferenceXaIdeal.τ).loc Cert.ReferenceXaIdeal.main_arg4)
      ∧ r.2.mem ((c.tc : Thread Cert.ReferenceXaIdeal.nD Cert.ReferenceXaIdeal.τ).loc Cert.ReferenceXaIdeal.main_arg5) = m ((c.tc : Thread Cert.ReferenceXaIdeal.nD Cert.ReferenceXaIdeal.τ).loc Cert.ReferenceXaIdeal.main_arg5)
      ∧ r.2.mem ((c.tc : Thread Cert.ReferenceXaIdeal.nD Cert.ReferenceXaIdeal.τ).loc Cert.ReferenceXaIdeal.main_arg6) = m ((c.tc : Thread Cert.ReferenceXaIdeal.nD Cert.ReferenceXaIdeal.τ).loc Cert.ReferenceXaIdeal.main_arg6)
      ∧ r.2.mem ((c.tc : Thread Cert.ReferenceXaIdeal.nD Cert.ReferenceXaIdeal.τ).loc Cert.ReferenceXaIdeal.main_arg7) = m ((c.tc : Thread Cert.ReferenceXaIdeal.nD Cert.ReferenceXaIdeal.τ).loc Cert.ReferenceXaIdeal.main_arg7))
      ∧ r.2.sem = fun _ => 0)

def quiescent_KernelEx [hKernelEx : Cert.KernelEx.Facts] [hPre_tables_ok : Cert.Pre_tables_ok.Facts] : Prop :=
  ∀ (m : (ℓ : Loc Cert.KernelEx.nD Cert.KernelEx.τ Cert.KernelEx.sig) → Buf (Elt Bits) ℓ) (g : Dev Cert.KernelEx.nD → PrngReg), Pre_KernelEx m →
    θ_run (Cert.KernelEx.defs (F := Bits)) (onTc (τ := Cert.KernelEx.τ) (Cert.KernelEx.main (F := Bits))) ⟨m, fun _ => 0, g⟩ (fun r => (∀ c : Dev Cert.KernelEx.nD,
      r.2.mem ((c.tc : Thread Cert.KernelEx.nD Cert.KernelEx.τ).loc Cert.KernelEx.main_arg0) = m ((c.tc : Thread Cert.KernelEx.nD Cert.KernelEx.τ).loc Cert.KernelEx.main_arg0)
      ∧ r.2.mem ((c.tc : Thread Cert.KernelEx.nD Cert.KernelEx.τ).loc Cert.KernelEx.main_arg1) = m ((c.tc : Thread Cert.KernelEx.nD Cert.KernelEx.τ).loc Cert.KernelEx.main_arg1)
      ∧ r.2.mem ((c.tc : Thread Cert.KernelEx.nD Cert.KernelEx.τ).loc Cert.KernelEx.main_arg2) = m ((c.tc : Thread Cert.KernelEx.nD Cert.KernelEx.τ).loc Cert.KernelEx.main_arg2)
      ∧ r.2.mem ((c.tc : Thread Cert.KernelEx.nD Cert.KernelEx.τ).loc Cert.KernelEx.main_arg3) = m ((c.tc : Thread Cert.KernelEx.nD Cert.KernelEx.τ).loc Cert.KernelEx.main_arg3)
      ∧ r.2.mem ((c.tc : Thread Cert.KernelEx.nD Cert.KernelEx.τ).loc Cert.KernelEx.main_arg4) = m ((c.tc : Thread Cert.KernelEx.nD Cert.KernelEx.τ).loc Cert.KernelEx.main_arg4)
      ∧ r.2.mem ((c.tc : Thread Cert.KernelEx.nD Cert.KernelEx.τ).loc Cert.KernelEx.main_arg5) = m ((c.tc : Thread Cert.KernelEx.nD Cert.KernelEx.τ).loc Cert.KernelEx.main_arg5)
      ∧ r.2.mem ((c.tc : Thread Cert.KernelEx.nD Cert.KernelEx.τ).loc Cert.KernelEx.main_arg6) = m ((c.tc : Thread Cert.KernelEx.nD Cert.KernelEx.τ).loc Cert.KernelEx.main_arg6))
      ∧ r.2.sem = fun _ => 0)

def quiescent_KernelExIdeal [hKernelExIdeal : Cert.KernelExIdeal.Facts] [hPre_tables_ok : Cert.Pre_tables_ok.Facts] : Prop :=
  ∀ (m : (ℓ : Loc Cert.KernelExIdeal.nD Cert.KernelExIdeal.τ Cert.KernelExIdeal.sig) → Buf (Elt Ideal) ℓ) (g : Dev Cert.KernelExIdeal.nD → PrngReg), Pre_KernelExIdeal m →
    θ_run (Cert.KernelExIdeal.defs (F := Ideal)) (onTc (τ := Cert.KernelExIdeal.τ) (Cert.KernelExIdeal.main (F := Ideal))) ⟨m, fun _ => 0, g⟩ (fun r => (∀ c : Dev Cert.KernelExIdeal.nD,
      r.2.mem ((c.tc : Thread Cert.KernelExIdeal.nD Cert.KernelExIdeal.τ).loc Cert.KernelExIdeal.main_arg0) = m ((c.tc : Thread Cert.KernelExIdeal.nD Cert.KernelExIdeal.τ).loc Cert.KernelExIdeal.main_arg0)
      ∧ r.2.mem ((c.tc : Thread Cert.KernelExIdeal.nD Cert.KernelExIdeal.τ).loc Cert.KernelExIdeal.main_arg1) = m ((c.tc : Thread Cert.KernelExIdeal.nD Cert.KernelExIdeal.τ).loc Cert.KernelExIdeal.main_arg1)
      ∧ r.2.mem ((c.tc : Thread Cert.KernelExIdeal.nD Cert.KernelExIdeal.τ).loc Cert.KernelExIdeal.main_arg2) = m ((c.tc : Thread Cert.KernelExIdeal.nD Cert.KernelExIdeal.τ).loc Cert.KernelExIdeal.main_arg2)
      ∧ r.2.mem ((c.tc : Thread Cert.KernelExIdeal.nD Cert.KernelExIdeal.τ).loc Cert.KernelExIdeal.main_arg3) = m ((c.tc : Thread Cert.KernelExIdeal.nD Cert.KernelExIdeal.τ).loc Cert.KernelExIdeal.main_arg3)
      ∧ r.2.mem ((c.tc : Thread Cert.KernelExIdeal.nD Cert.KernelExIdeal.τ).loc Cert.KernelExIdeal.main_arg4) = m ((c.tc : Thread Cert.KernelExIdeal.nD Cert.KernelExIdeal.τ).loc Cert.KernelExIdeal.main_arg4)
      ∧ r.2.mem ((c.tc : Thread Cert.KernelExIdeal.nD Cert.KernelExIdeal.τ).loc Cert.KernelExIdeal.main_arg5) = m ((c.tc : Thread Cert.KernelExIdeal.nD Cert.KernelExIdeal.τ).loc Cert.KernelExIdeal.main_arg5)
      ∧ r.2.mem ((c.tc : Thread Cert.KernelExIdeal.nD Cert.KernelExIdeal.τ).loc Cert.KernelExIdeal.main_arg6) = m ((c.tc : Thread Cert.KernelExIdeal.nD Cert.KernelExIdeal.τ).loc Cert.KernelExIdeal.main_arg6))
      ∧ r.2.sem = fun _ => 0)

def quiescent_ReferenceExIdeal [hReferenceExIdeal : Cert.ReferenceExIdeal.Facts] [hPre_tables_ok : Cert.Pre_tables_ok.Facts] : Prop :=
  ∀ (m : (ℓ : Loc Cert.ReferenceExIdeal.nD Cert.ReferenceExIdeal.τ Cert.ReferenceExIdeal.sig) → Buf (Elt Ideal) ℓ) (g : Dev Cert.ReferenceExIdeal.nD → PrngReg), Pre_ReferenceExIdeal m →
    θ_run (Cert.ReferenceExIdeal.defs (F := Ideal)) (onTc (τ := Cert.ReferenceExIdeal.τ) (Cert.ReferenceExIdeal.main (F := Ideal))) ⟨m, fun _ => 0, g⟩ (fun r => (∀ c : Dev Cert.ReferenceExIdeal.nD,
      r.2.mem ((c.tc : Thread Cert.ReferenceExIdeal.nD Cert.ReferenceExIdeal.τ).loc Cert.ReferenceExIdeal.main_arg0) = m ((c.tc : Thread Cert.ReferenceExIdeal.nD Cert.ReferenceExIdeal.τ).loc Cert.ReferenceExIdeal.main_arg0)
      ∧ r.2.mem ((c.tc : Thread Cert.ReferenceExIdeal.nD Cert.ReferenceExIdeal.τ).loc Cert.ReferenceExIdeal.main_arg1) = m ((c.tc : Thread Cert.ReferenceExIdeal.nD Cert.ReferenceExIdeal.τ).loc Cert.ReferenceExIdeal.main_arg1)
      ∧ r.2.mem ((c.tc : Thread Cert.ReferenceExIdeal.nD Cert.ReferenceExIdeal.τ).loc Cert.ReferenceExIdeal.main_arg2) = m ((c.tc : Thread Cert.ReferenceExIdeal.nD Cert.ReferenceExIdeal.τ).loc Cert.ReferenceExIdeal.main_arg2)
      ∧ r.2.mem ((c.tc : Thread Cert.ReferenceExIdeal.nD Cert.ReferenceExIdeal.τ).loc Cert.ReferenceExIdeal.main_arg3) = m ((c.tc : Thread Cert.ReferenceExIdeal.nD Cert.ReferenceExIdeal.τ).loc Cert.ReferenceExIdeal.main_arg3)
      ∧ r.2.mem ((c.tc : Thread Cert.ReferenceExIdeal.nD Cert.ReferenceExIdeal.τ).loc Cert.ReferenceExIdeal.main_arg4) = m ((c.tc : Thread Cert.ReferenceExIdeal.nD Cert.ReferenceExIdeal.τ).loc Cert.ReferenceExIdeal.main_arg4)
      ∧ r.2.mem ((c.tc : Thread Cert.ReferenceExIdeal.nD Cert.ReferenceExIdeal.τ).loc Cert.ReferenceExIdeal.main_arg5) = m ((c.tc : Thread Cert.ReferenceExIdeal.nD Cert.ReferenceExIdeal.τ).loc Cert.ReferenceExIdeal.main_arg5)
      ∧ r.2.mem ((c.tc : Thread Cert.ReferenceExIdeal.nD Cert.ReferenceExIdeal.τ).loc Cert.ReferenceExIdeal.main_arg6) = m ((c.tc : Thread Cert.ReferenceExIdeal.nD Cert.ReferenceExIdeal.τ).loc Cert.ReferenceExIdeal.main_arg6))
      ∧ r.2.sem = fun _ => 0)

def quiescent_KernelMx [hKernelMx : Cert.KernelMx.Facts] : Prop :=
  ∀ (m : (ℓ : Loc Cert.KernelMx.nD Cert.KernelMx.τ Cert.KernelMx.sig) → Buf (Elt Bits) ℓ) (g : Dev Cert.KernelMx.nD → PrngReg), Pre_KernelMx m →
    θ_run (Cert.KernelMx.defs (F := Bits)) (onTc (τ := Cert.KernelMx.τ) (Cert.KernelMx.main (F := Bits))) ⟨m, fun _ => 0, g⟩ (fun r => (∀ c : Dev Cert.KernelMx.nD,
      r.2.mem ((c.tc : Thread Cert.KernelMx.nD Cert.KernelMx.τ).loc Cert.KernelMx.main_arg0) = m ((c.tc : Thread Cert.KernelMx.nD Cert.KernelMx.τ).loc Cert.KernelMx.main_arg0)
      ∧ r.2.mem ((c.tc : Thread Cert.KernelMx.nD Cert.KernelMx.τ).loc Cert.KernelMx.main_arg1) = m ((c.tc : Thread Cert.KernelMx.nD Cert.KernelMx.τ).loc Cert.KernelMx.main_arg1)
      ∧ r.2.mem ((c.tc : Thread Cert.KernelMx.nD Cert.KernelMx.τ).loc Cert.KernelMx.main_arg2) = m ((c.tc : Thread Cert.KernelMx.nD Cert.KernelMx.τ).loc Cert.KernelMx.main_arg2)
      ∧ r.2.mem ((c.tc : Thread Cert.KernelMx.nD Cert.KernelMx.τ).loc Cert.KernelMx.main_arg3) = m ((c.tc : Thread Cert.KernelMx.nD Cert.KernelMx.τ).loc Cert.KernelMx.main_arg3)
      ∧ r.2.mem ((c.tc : Thread Cert.KernelMx.nD Cert.KernelMx.τ).loc Cert.KernelMx.main_arg4) = m ((c.tc : Thread Cert.KernelMx.nD Cert.KernelMx.τ).loc Cert.KernelMx.main_arg4)
      ∧ r.2.mem ((c.tc : Thread Cert.KernelMx.nD Cert.KernelMx.τ).loc Cert.KernelMx.main_arg5) = m ((c.tc : Thread Cert.KernelMx.nD Cert.KernelMx.τ).loc Cert.KernelMx.main_arg5)
      ∧ r.2.mem ((c.tc : Thread Cert.KernelMx.nD Cert.KernelMx.τ).loc Cert.KernelMx.main_arg6) = m ((c.tc : Thread Cert.KernelMx.nD Cert.KernelMx.τ).loc Cert.KernelMx.main_arg6)
      ∧ r.2.mem ((c.tc : Thread Cert.KernelMx.nD Cert.KernelMx.τ).loc Cert.KernelMx.main_arg7) = m ((c.tc : Thread Cert.KernelMx.nD Cert.KernelMx.τ).loc Cert.KernelMx.main_arg7)
      ∧ r.2.mem ((c.tc : Thread Cert.KernelMx.nD Cert.KernelMx.τ).loc Cert.KernelMx.main_arg8) = m ((c.tc : Thread Cert.KernelMx.nD Cert.KernelMx.τ).loc Cert.KernelMx.main_arg8)
      ∧ r.2.mem ((c.tc : Thread Cert.KernelMx.nD Cert.KernelMx.τ).loc Cert.KernelMx.main_arg9) = m ((c.tc : Thread Cert.KernelMx.nD Cert.KernelMx.τ).loc Cert.KernelMx.main_arg9)
      ∧ r.2.mem ((c.tc : Thread Cert.KernelMx.nD Cert.KernelMx.τ).loc Cert.KernelMx.main_arg10) = m ((c.tc : Thread Cert.KernelMx.nD Cert.KernelMx.τ).loc Cert.KernelMx.main_arg10)
      ∧ r.2.mem ((c.tc : Thread Cert.KernelMx.nD Cert.KernelMx.τ).loc Cert.KernelMx.main_arg11) = m ((c.tc : Thread Cert.KernelMx.nD Cert.KernelMx.τ).loc Cert.KernelMx.main_arg11)
      ∧ r.2.mem ((c.tc : Thread Cert.KernelMx.nD Cert.KernelMx.τ).loc Cert.KernelMx.main_arg12) = m ((c.tc : Thread Cert.KernelMx.nD Cert.KernelMx.τ).loc Cert.KernelMx.main_arg12)
      ∧ r.2.mem ((c.tc : Thread Cert.KernelMx.nD Cert.KernelMx.τ).loc Cert.KernelMx.main_arg13) = m ((c.tc : Thread Cert.KernelMx.nD Cert.KernelMx.τ).loc Cert.KernelMx.main_arg13))
      ∧ r.2.sem = fun _ => 0)

def quiescent_KernelMxIdeal [hKernelMxIdeal : Cert.KernelMxIdeal.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
      ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
      ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
      ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7)
      ∧ r.2.mem ((c.tc : Thread Cert.KernelMxIdeal.nD Cert.KernelMxIdeal.τ).loc Cert.KernelMxIdeal.main_arg8) = m ((c.tc : Thread Cert.KernelMxIdeal.nD Cert.KernelMxIdeal.τ).loc Cert.KernelMxIdeal.main_arg8)
      ∧ r.2.mem ((c.tc : Thread Cert.KernelMxIdeal.nD Cert.KernelMxIdeal.τ).loc Cert.KernelMxIdeal.main_arg9) = m ((c.tc : Thread Cert.KernelMxIdeal.nD Cert.KernelMxIdeal.τ).loc Cert.KernelMxIdeal.main_arg9)
      ∧ r.2.mem ((c.tc : Thread Cert.KernelMxIdeal.nD Cert.KernelMxIdeal.τ).loc Cert.KernelMxIdeal.main_arg10) = m ((c.tc : Thread Cert.KernelMxIdeal.nD Cert.KernelMxIdeal.τ).loc Cert.KernelMxIdeal.main_arg10)
      ∧ r.2.mem ((c.tc : Thread Cert.KernelMxIdeal.nD Cert.KernelMxIdeal.τ).loc Cert.KernelMxIdeal.main_arg11) = m ((c.tc : Thread Cert.KernelMxIdeal.nD Cert.KernelMxIdeal.τ).loc Cert.KernelMxIdeal.main_arg11)
      ∧ r.2.mem ((c.tc : Thread Cert.KernelMxIdeal.nD Cert.KernelMxIdeal.τ).loc Cert.KernelMxIdeal.main_arg12) = m ((c.tc : Thread Cert.KernelMxIdeal.nD Cert.KernelMxIdeal.τ).loc Cert.KernelMxIdeal.main_arg12)
      ∧ r.2.mem ((c.tc : Thread Cert.KernelMxIdeal.nD Cert.KernelMxIdeal.τ).loc Cert.KernelMxIdeal.main_arg13) = m ((c.tc : Thread Cert.KernelMxIdeal.nD Cert.KernelMxIdeal.τ).loc Cert.KernelMxIdeal.main_arg13))
      ∧ r.2.sem = fun _ => 0)

def quiescent_ReferenceMxIdeal [hReferenceMxIdeal : Cert.ReferenceMxIdeal.Facts] : Prop :=
  ∀ (m : (ℓ : Loc Cert.ReferenceMxIdeal.nD Cert.ReferenceMxIdeal.τ Cert.ReferenceMxIdeal.sig) → Buf (Elt Ideal) ℓ) (g : Dev Cert.ReferenceMxIdeal.nD → PrngReg), Pre_ReferenceMxIdeal m →
    θ_run (Cert.ReferenceMxIdeal.defs (F := Ideal)) (onTc (τ := Cert.ReferenceMxIdeal.τ) (Cert.ReferenceMxIdeal.main (F := Ideal))) ⟨m, fun _ => 0, g⟩ (fun r => (∀ c : Dev Cert.ReferenceMxIdeal.nD,
      r.2.mem ((c.tc : Thread Cert.ReferenceMxIdeal.nD Cert.ReferenceMxIdeal.τ).loc Cert.ReferenceMxIdeal.main_arg0) = m ((c.tc : Thread Cert.ReferenceMxIdeal.nD Cert.ReferenceMxIdeal.τ).loc Cert.ReferenceMxIdeal.main_arg0)
      ∧ r.2.mem ((c.tc : Thread Cert.ReferenceMxIdeal.nD Cert.ReferenceMxIdeal.τ).loc Cert.ReferenceMxIdeal.main_arg1) = m ((c.tc : Thread Cert.ReferenceMxIdeal.nD Cert.ReferenceMxIdeal.τ).loc Cert.ReferenceMxIdeal.main_arg1)
      ∧ r.2.mem ((c.tc : Thread Cert.ReferenceMxIdeal.nD Cert.ReferenceMxIdeal.τ).loc Cert.ReferenceMxIdeal.main_arg2) = m ((c.tc : Thread Cert.ReferenceMxIdeal.nD Cert.ReferenceMxIdeal.τ).loc Cert.ReferenceMxIdeal.main_arg2)
      ∧ r.2.mem ((c.tc : Thread Cert.ReferenceMxIdeal.nD Cert.ReferenceMxIdeal.τ).loc Cert.ReferenceMxIdeal.main_arg3) = m ((c.tc : Thread Cert.ReferenceMxIdeal.nD Cert.ReferenceMxIdeal.τ).loc Cert.ReferenceMxIdeal.main_arg3)
      ∧ r.2.mem ((c.tc : Thread Cert.ReferenceMxIdeal.nD Cert.ReferenceMxIdeal.τ).loc Cert.ReferenceMxIdeal.main_arg4) = m ((c.tc : Thread Cert.ReferenceMxIdeal.nD Cert.ReferenceMxIdeal.τ).loc Cert.ReferenceMxIdeal.main_arg4)
      ∧ r.2.mem ((c.tc : Thread Cert.ReferenceMxIdeal.nD Cert.ReferenceMxIdeal.τ).loc Cert.ReferenceMxIdeal.main_arg5) = m ((c.tc : Thread Cert.ReferenceMxIdeal.nD Cert.ReferenceMxIdeal.τ).loc Cert.ReferenceMxIdeal.main_arg5)
      ∧ r.2.mem ((c.tc : Thread Cert.ReferenceMxIdeal.nD Cert.ReferenceMxIdeal.τ).loc Cert.ReferenceMxIdeal.main_arg6) = m ((c.tc : Thread Cert.ReferenceMxIdeal.nD Cert.ReferenceMxIdeal.τ).loc Cert.ReferenceMxIdeal.main_arg6)
      ∧ r.2.mem ((c.tc : Thread Cert.ReferenceMxIdeal.nD Cert.ReferenceMxIdeal.τ).loc Cert.ReferenceMxIdeal.main_arg7) = m ((c.tc : Thread Cert.ReferenceMxIdeal.nD Cert.ReferenceMxIdeal.τ).loc Cert.ReferenceMxIdeal.main_arg7)
      ∧ r.2.mem ((c.tc : Thread Cert.ReferenceMxIdeal.nD Cert.ReferenceMxIdeal.τ).loc Cert.ReferenceMxIdeal.main_arg8) = m ((c.tc : Thread Cert.ReferenceMxIdeal.nD Cert.ReferenceMxIdeal.τ).loc Cert.ReferenceMxIdeal.main_arg8)
      ∧ r.2.mem ((c.tc : Thread Cert.ReferenceMxIdeal.nD Cert.ReferenceMxIdeal.τ).loc Cert.ReferenceMxIdeal.main_arg9) = m ((c.tc : Thread Cert.ReferenceMxIdeal.nD Cert.ReferenceMxIdeal.τ).loc Cert.ReferenceMxIdeal.main_arg9)
      ∧ r.2.mem ((c.tc : Thread Cert.ReferenceMxIdeal.nD Cert.ReferenceMxIdeal.τ).loc Cert.ReferenceMxIdeal.main_arg10) = m ((c.tc : Thread Cert.ReferenceMxIdeal.nD Cert.ReferenceMxIdeal.τ).loc Cert.ReferenceMxIdeal.main_arg10)
      ∧ r.2.mem ((c.tc : Thread Cert.ReferenceMxIdeal.nD Cert.ReferenceMxIdeal.τ).loc Cert.ReferenceMxIdeal.main_arg11) = m ((c.tc : Thread Cert.ReferenceMxIdeal.nD Cert.ReferenceMxIdeal.τ).loc Cert.ReferenceMxIdeal.main_arg11)
      ∧ r.2.mem ((c.tc : Thread Cert.ReferenceMxIdeal.nD Cert.ReferenceMxIdeal.τ).loc Cert.ReferenceMxIdeal.main_arg12) = m ((c.tc : Thread Cert.ReferenceMxIdeal.nD Cert.ReferenceMxIdeal.τ).loc Cert.ReferenceMxIdeal.main_arg12)
      ∧ r.2.mem ((c.tc : Thread Cert.ReferenceMxIdeal.nD Cert.ReferenceMxIdeal.τ).loc Cert.ReferenceMxIdeal.main_arg13) = m ((c.tc : Thread Cert.ReferenceMxIdeal.nD Cert.ReferenceMxIdeal.τ).loc Cert.ReferenceMxIdeal.main_arg13))
      ∧ r.2.sem = fun _ => 0)

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v3_0)) (v1 : (c : Dev Cert.KernelKvIdeal.nD) → Buf (Elt Ideal) ((c.tc : Thread Cert.KernelKvIdeal.nD Cert.KernelKvIdeal.τ).loc Cert.KernelKvIdeal.main_v3_1)) (v2 : (c : Dev Cert.KernelKvIdeal.nD) → Buf (Elt Ideal) ((c.tc : Thread Cert.KernelKvIdeal.nD Cert.KernelKvIdeal.τ).loc Cert.KernelKvIdeal.main_v3_2)) (v3 : (c : Dev Cert.KernelKvIdeal.nD) → Buf (Elt Ideal) ((c.tc : Thread Cert.KernelKvIdeal.nD Cert.KernelKvIdeal.τ).loc Cert.KernelKvIdeal.main_v3_3)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v3_0) = v0 c
          ∧ r.2.mem ((c.tc : Thread Cert.KernelKvIdeal.nD Cert.KernelKvIdeal.τ).loc Cert.KernelKvIdeal.main_v3_1) = v1 c
          ∧ r.2.mem ((c.tc : Thread Cert.KernelKvIdeal.nD Cert.KernelKvIdeal.τ).loc Cert.KernelKvIdeal.main_v3_2) = v2 c
          ∧ r.2.mem ((c.tc : Thread Cert.KernelKvIdeal.nD Cert.KernelKvIdeal.τ).loc Cert.KernelKvIdeal.main_v3_3) = v3 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v1) = v0 c
          ∧ r.2.mem ((c.tc : Thread Cert.ReferenceKvIdeal.nD Cert.ReferenceKvIdeal.τ).loc Cert.ReferenceKvIdeal.main_v3) = v1 c
          ∧ r.2.mem ((c.tc : Thread Cert.ReferenceKvIdeal.nD Cert.ReferenceKvIdeal.τ).loc Cert.ReferenceKvIdeal.main_v4) = v2 c
          ∧ r.2.mem ((c.tc : Thread Cert.ReferenceKvIdeal.nD Cert.ReferenceKvIdeal.τ).loc Cert.ReferenceKvIdeal.main_v5) = v3 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelXa_KernelXaIdeal : Prop :=
  True

def algebraic_KernelXaIdeal_ReferenceXaIdeal_on_attended [hKernelXaIdeal : Cert.KernelXaIdeal.Facts] [hReferenceXaIdeal : Cert.ReferenceXaIdeal.Facts] [hOn_attended : Cert.On_attended.Facts] : Prop :=
  ∀ (m : (ℓ : Loc Cert.KernelXaIdeal.nD Cert.KernelXaIdeal.τ Cert.KernelXaIdeal.sig) → Buf (Elt Ideal) ℓ) (g : Dev Cert.KernelXaIdeal.nD → PrngReg)
    (m' : (ℓ : Loc Cert.ReferenceXaIdeal.nD Cert.ReferenceXaIdeal.τ Cert.ReferenceXaIdeal.sig) → Buf (Elt Ideal) ℓ) (g' : Dev Cert.ReferenceXaIdeal.nD → PrngReg), Pre_KernelXaIdeal m →
    (∀ c : Dev Cert.KernelXaIdeal.nD,
      m' ((c.tc : Thread Cert.ReferenceXaIdeal.nD Cert.ReferenceXaIdeal.τ).loc Cert.ReferenceXaIdeal.main_arg0) = m ((c.tc : Thread Cert.KernelXaIdeal.nD Cert.KernelXaIdeal.τ).loc Cert.KernelXaIdeal.main_arg0)
      ∧ m' ((c.tc : Thread Cert.ReferenceXaIdeal.nD Cert.ReferenceXaIdeal.τ).loc Cert.ReferenceXaIdeal.main_arg1) = m ((c.tc : Thread Cert.KernelXaIdeal.nD Cert.KernelXaIdeal.τ).loc Cert.KernelXaIdeal.main_arg1)
      ∧ m' ((c.tc : Thread Cert.ReferenceXaIdeal.nD Cert.ReferenceXaIdeal.τ).loc Cert.ReferenceXaIdeal.main_arg2) = m ((c.tc : Thread Cert.KernelXaIdeal.nD Cert.KernelXaIdeal.τ).loc Cert.KernelXaIdeal.main_arg2)
      ∧ m' ((c.tc : Thread Cert.ReferenceXaIdeal.nD Cert.ReferenceXaIdeal.τ).loc Cert.ReferenceXaIdeal.main_arg3) = m ((c.tc : Thread Cert.KernelXaIdeal.nD Cert.KernelXaIdeal.τ).loc Cert.KernelXaIdeal.main_arg3)
      ∧ m' ((c.tc : Thread Cert.ReferenceXaIdeal.nD Cert.ReferenceXaIdeal.τ).loc Cert.ReferenceXaIdeal.main_arg4) = m ((c.tc : Thread Cert.KernelXaIdeal.nD Cert.KernelXaIdeal.τ).loc Cert.KernelXaIdeal.main_arg4)
      ∧ m' ((c.tc : Thread Cert.ReferenceXaIdeal.nD Cert.ReferenceXaIdeal.τ).loc Cert.ReferenceXaIdeal.main_arg5) = m ((c.tc : Thread Cert.KernelXaIdeal.nD Cert.KernelXaIdeal.τ).loc Cert.KernelXaIdeal.main_arg5)
      ∧ m' ((c.tc : Thread Cert.ReferenceXaIdeal.nD Cert.ReferenceXaIdeal.τ).loc Cert.ReferenceXaIdeal.main_arg6) = m ((c.tc : Thread Cert.KernelXaIdeal.nD Cert.KernelXaIdeal.τ).loc Cert.KernelXaIdeal.main_arg6)
      ∧ m' ((c.tc : Thread Cert.ReferenceXaIdeal.nD Cert.ReferenceXaIdeal.τ).loc Cert.ReferenceXaIdeal.main_arg7) = m ((c.tc : Thread Cert.KernelXaIdeal.nD Cert.KernelXaIdeal.τ).loc Cert.KernelXaIdeal.main_arg7)) →
    ∃ (v0 : (c : Dev Cert.KernelXaIdeal.nD) → Buf (Elt Ideal) ((c.tc : Thread Cert.KernelXaIdeal.nD Cert.KernelXaIdeal.τ).loc Cert.KernelXaIdeal.main_v18_0)) (v1 : (c : Dev Cert.KernelXaIdeal.nD) → Buf (Elt Ideal) ((c.tc : Thread Cert.KernelXaIdeal.nD Cert.KernelXaIdeal.τ).loc Cert.KernelXaIdeal.main_v18_1)) (v2 : (c : Dev Cert.KernelXaIdeal.nD) → Buf (Elt Ideal) ((c.tc : Thread Cert.KernelXaIdeal.nD Cert.KernelXaIdeal.τ).loc Cert.KernelXaIdeal.main_v18_2)),
      θ_run (Cert.KernelXaIdeal.defs (F := Ideal)) (onTc (τ := Cert.KernelXaIdeal.τ) (Cert.KernelXaIdeal.main (F := Ideal))) ⟨m, fun _ => 0, g⟩ (fun r => ∀ c : Dev Cert.KernelXaIdeal.nD,
          (∀ i : (⟨2, ![32768, 1152]⟩ : Shape).Idx, (Cert.On_attended.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3)) (m ((c.tc : Thread Cert.KernelXaIdeal.nD Cert.KernelXaIdeal.τ).loc Cert.KernelXaIdeal.main_arg4)) (m ((c.tc : Thread Cert.KernelXaIdeal.nD Cert.KernelXaIdeal.τ).loc Cert.KernelXaIdeal.main_arg5)) (m ((c.tc : Thread Cert.KernelXaIdeal.nD Cert.KernelXaIdeal.τ).loc Cert.KernelXaIdeal.main_arg6)) (m ((c.tc : Thread Cert.KernelXaIdeal.nD Cert.KernelXaIdeal.τ).loc Cert.KernelXaIdeal.main_arg7))).1 i = 1#1 → r.2.mem ((c.tc : Thread Cert.KernelXaIdeal.nD Cert.KernelXaIdeal.τ).loc Cert.KernelXaIdeal.main_v18_0) i = v0 c i)
          ∧ (∀ i : (⟨2, ![8, 32768]⟩ : Shape).Idx, (Cert.On_attended.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3)) (m ((c.tc : Thread Cert.KernelXaIdeal.nD Cert.KernelXaIdeal.τ).loc Cert.KernelXaIdeal.main_arg4)) (m ((c.tc : Thread Cert.KernelXaIdeal.nD Cert.KernelXaIdeal.τ).loc Cert.KernelXaIdeal.main_arg5)) (m ((c.tc : Thread Cert.KernelXaIdeal.nD Cert.KernelXaIdeal.τ).loc Cert.KernelXaIdeal.main_arg6)) (m ((c.tc : Thread Cert.KernelXaIdeal.nD Cert.KernelXaIdeal.τ).loc Cert.KernelXaIdeal.main_arg7))).2.1 i = 1#1 → r.2.mem ((c.tc : Thread Cert.KernelXaIdeal.nD Cert.KernelXaIdeal.τ).loc Cert.KernelXaIdeal.main_v18_1) i = v1 c i)
          ∧ (∀ i : (⟨2, ![32, 128]⟩ : Shape).Idx, (Cert.On_attended.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3)) (m ((c.tc : Thread Cert.KernelXaIdeal.nD Cert.KernelXaIdeal.τ).loc Cert.KernelXaIdeal.main_arg4)) (m ((c.tc : Thread Cert.KernelXaIdeal.nD Cert.KernelXaIdeal.τ).loc Cert.KernelXaIdeal.main_arg5)) (m ((c.tc : Thread Cert.KernelXaIdeal.nD Cert.KernelXaIdeal.τ).loc Cert.KernelXaIdeal.main_arg6)) (m ((c.tc : Thread Cert.KernelXaIdeal.nD Cert.KernelXaIdeal.τ).loc Cert.KernelXaIdeal.main_arg7))).2.2 i = 1#1 → r.2.mem ((c.tc : Thread Cert.KernelXaIdeal.nD Cert.KernelXaIdeal.τ).loc Cert.KernelXaIdeal.main_v18_2) i = v2 c i)
          ∧ r.2.mem ((c.tc : Thread Cert.KernelXaIdeal.nD Cert.KernelXaIdeal.τ).loc Cert.KernelXaIdeal.main_arg0) = m ((c.tc : Thread Cert.KernelXaIdeal.nD Cert.KernelXaIdeal.τ).loc Cert.KernelXaIdeal.main_arg0)
          ∧ r.2.mem ((c.tc : Thread Cert.KernelXaIdeal.nD Cert.KernelXaIdeal.τ).loc Cert.KernelXaIdeal.main_arg1) = m ((c.tc : Thread Cert.KernelXaIdeal.nD Cert.KernelXaIdeal.τ).loc Cert.KernelXaIdeal.main_arg1)
          ∧ r.2.mem ((c.tc : Thread Cert.KernelXaIdeal.nD Cert.KernelXaIdeal.τ).loc Cert.KernelXaIdeal.main_arg2) = m ((c.tc : Thread Cert.KernelXaIdeal.nD Cert.KernelXaIdeal.τ).loc Cert.KernelXaIdeal.main_arg2)
          ∧ r.2.mem ((c.tc : Thread Cert.KernelXaIdeal.nD Cert.KernelXaIdeal.τ).loc Cert.KernelXaIdeal.main_arg3) = m ((c.tc : Thread Cert.KernelXaIdeal.nD Cert.KernelXaIdeal.τ).loc Cert.KernelXaIdeal.main_arg3)
          ∧ r.2.mem ((c.tc : Thread Cert.KernelXaIdeal.nD Cert.KernelXaIdeal.τ).loc Cert.KernelXaIdeal.main_arg4) = m ((c.tc : Thread Cert.KernelXaIdeal.nD Cert.KernelXaIdeal.τ).loc Cert.KernelXaIdeal.main_arg4)
          ∧ r.2.mem ((c.tc : Thread Cert.KernelXaIdeal.nD Cert.KernelXaIdeal.τ).loc Cert.KernelXaIdeal.main_arg5) = m ((c.tc : Thread Cert.KernelXaIdeal.nD Cert.KernelXaIdeal.τ).loc Cert.KernelXaIdeal.main_arg5)
          ∧ r.2.mem ((c.tc : Thread Cert.KernelXaIdeal.nD Cert.KernelXaIdeal.τ).loc Cert.KernelXaIdeal.main_arg6) = m ((c.tc : Thread Cert.KernelXaIdeal.nD Cert.KernelXaIdeal.τ).loc Cert.KernelXaIdeal.main_arg6)
          ∧ r.2.mem ((c.tc : Thread Cert.KernelXaIdeal.nD Cert.KernelXaIdeal.τ).loc Cert.KernelXaIdeal.main_arg7) = m ((c.tc : Thread Cert.KernelXaIdeal.nD Cert.KernelXaIdeal.τ).loc Cert.KernelXaIdeal.main_arg7))
      ∧ θ_run (Cert.ReferenceXaIdeal.defs (F := Ideal)) (onTc (τ := Cert.ReferenceXaIdeal.τ) (Cert.ReferenceXaIdeal.main (F := Ideal))) ⟨m', fun _ => 0, g'⟩ (fun r => ∀ c : Dev Cert.ReferenceXaIdeal.nD,
          (∀ i : (⟨2, ![32768, 1152]⟩ : Shape).Idx, (Cert.On_attended.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3)) (m ((c.tc : Thread Cert.KernelXaIdeal.nD Cert.KernelXaIdeal.τ).loc Cert.KernelXaIdeal.main_arg4)) (m ((c.tc : Thread Cert.KernelXaIdeal.nD Cert.KernelXaIdeal.τ).loc Cert.KernelXaIdeal.main_arg5)) (m ((c.tc : Thread Cert.KernelXaIdeal.nD Cert.KernelXaIdeal.τ).loc Cert.KernelXaIdeal.main_arg6)) (m ((c.tc : Thread Cert.KernelXaIdeal.nD Cert.KernelXaIdeal.τ).loc Cert.KernelXaIdeal.main_arg7))).1 i = 1#1 → r.2.mem ((c.tc : Thread Cert.ReferenceXaIdeal.nD Cert.ReferenceXaIdeal.τ).loc Cert.ReferenceXaIdeal.main_v53) i = v0 c i)
          ∧ (∀ i : (⟨2, ![8, 32768]⟩ : Shape).Idx, (Cert.On_attended.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3)) (m ((c.tc : Thread Cert.KernelXaIdeal.nD Cert.KernelXaIdeal.τ).loc Cert.KernelXaIdeal.main_arg4)) (m ((c.tc : Thread Cert.KernelXaIdeal.nD Cert.KernelXaIdeal.τ).loc Cert.KernelXaIdeal.main_arg5)) (m ((c.tc : Thread Cert.KernelXaIdeal.nD Cert.KernelXaIdeal.τ).loc Cert.KernelXaIdeal.main_arg6)) (m ((c.tc : Thread Cert.KernelXaIdeal.nD Cert.KernelXaIdeal.τ).loc Cert.KernelXaIdeal.main_arg7))).2.1 i = 1#1 → r.2.mem ((c.tc : Thread Cert.ReferenceXaIdeal.nD Cert.ReferenceXaIdeal.τ).loc Cert.ReferenceXaIdeal.main_v54) i = v1 c i)
          ∧ (∀ i : (⟨2, ![32, 128]⟩ : Shape).Idx, (Cert.On_attended.fn (F := Ideal) (m ((c.tc : Thread Cert.KernelXaIdeal.nD Cert.KernelXaIdeal.τ).loc Cert.KernelXaIdeal.main_arg0)) (m ((c.tc : Thread Cert.KernelXaIdeal.nD Cert.KernelXaIdeal.τ).loc Cert.KernelXaIdeal.main_arg1)) (m ((c.tc : Thread Cert.KernelXaIdeal.nD Cert.KernelXaIdeal.τ).loc Cert.KernelXaIdeal.main_arg2)) (m ((c.tc : Thread Cert.KernelXaIdeal.nD Cert.KernelXaIdeal.τ).loc Cert.KernelXaIdeal.main_arg3)) (m ((c.tc : Thread Cert.KernelXaIdeal.nD Cert.KernelXaIdeal.τ).loc Cert.KernelXaIdeal.main_arg4)) (m ((c.tc : Thread Cert.KernelXaIdeal.nD Cert.KernelXaIdeal.τ).loc Cert.KernelXaIdeal.main_arg5)) (m ((c.tc : Thread Cert.KernelXaIdeal.nD Cert.KernelXaIdeal.τ).loc Cert.KernelXaIdeal.main_arg6)) (m ((c.tc : Thread Cert.KernelXaIdeal.nD Cert.KernelXaIdeal.τ).loc Cert.KernelXaIdeal.main_arg7))).2.2 i = 1#1 → r.2.mem ((c.tc : Thread Cert.ReferenceXaIdeal.nD Cert.ReferenceXaIdeal.τ).loc Cert.ReferenceXaIdeal.main_v55) i = v2 c i)
          ∧ r.2.mem ((c.tc : Thread Cert.ReferenceXaIdeal.nD Cert.ReferenceXaIdeal.τ).loc Cert.ReferenceXaIdeal.main_arg0) = m' ((c.tc : Thread Cert.ReferenceXaIdeal.nD Cert.ReferenceXaIdeal.τ).loc Cert.ReferenceXaIdeal.main_arg0)
          ∧ r.2.mem ((c.tc : Thread Cert.ReferenceXaIdeal.nD Cert.ReferenceXaIdeal.τ).loc Cert.ReferenceXaIdeal.main_arg1) = m' ((c.tc : Thread Cert.ReferenceXaIdeal.nD Cert.ReferenceXaIdeal.τ).loc Cert.ReferenceXaIdeal.main_arg1)
          ∧ r.2.mem ((c.tc : Thread Cert.ReferenceXaIdeal.nD Cert.ReferenceXaIdeal.τ).loc Cert.ReferenceXaIdeal.main_arg2) = m' ((c.tc : Thread Cert.ReferenceXaIdeal.nD Cert.ReferenceXaIdeal.τ).loc Cert.ReferenceXaIdeal.main_arg2)
          ∧ r.2.mem ((c.tc : Thread Cert.ReferenceXaIdeal.nD Cert.ReferenceXaIdeal.τ).loc Cert.ReferenceXaIdeal.main_arg3) = m' ((c.tc : Thread Cert.ReferenceXaIdeal.nD Cert.ReferenceXaIdeal.τ).loc Cert.ReferenceXaIdeal.main_arg3)
          ∧ r.2.mem ((c.tc : Thread Cert.ReferenceXaIdeal.nD Cert.ReferenceXaIdeal.τ).loc Cert.ReferenceXaIdeal.main_arg4) = m' ((c.tc : Thread Cert.ReferenceXaIdeal.nD Cert.ReferenceXaIdeal.τ).loc Cert.ReferenceXaIdeal.main_arg4)
          ∧ r.2.mem ((c.tc : Thread Cert.ReferenceXaIdeal.nD Cert.ReferenceXaIdeal.τ).loc Cert.ReferenceXaIdeal.main_arg5) = m' ((c.tc : Thread Cert.ReferenceXaIdeal.nD Cert.ReferenceXaIdeal.τ).loc Cert.ReferenceXaIdeal.main_arg5)
          ∧ r.2.mem ((c.tc : Thread Cert.ReferenceXaIdeal.nD Cert.ReferenceXaIdeal.τ).loc Cert.ReferenceXaIdeal.main_arg6) = m' ((c.tc : Thread Cert.ReferenceXaIdeal.nD Cert.ReferenceXaIdeal.τ).loc Cert.ReferenceXaIdeal.main_arg6)
          ∧ r.2.mem ((c.tc : Thread Cert.ReferenceXaIdeal.nD Cert.ReferenceXaIdeal.τ).loc Cert.ReferenceXaIdeal.main_arg7) = m' ((c.tc : Thread Cert.ReferenceXaIdeal.nD Cert.ReferenceXaIdeal.τ).loc Cert.ReferenceXaIdeal.main_arg7))

def preserves_KernelEx_KernelExIdeal : Prop :=
  True

def algebraic_KernelExIdeal_ReferenceExIdeal [hKernelExIdeal : Cert.KernelExIdeal.Facts] [hReferenceExIdeal : Cert.ReferenceExIdeal.Facts] [hPre_tables_ok : Cert.Pre_tables_ok.Facts] : Prop :=
  ∀ (m : (ℓ : Loc Cert.KernelExIdeal.nD Cert.KernelExIdeal.τ Cert.KernelExIdeal.sig) → Buf (Elt Ideal) ℓ) (g : Dev Cert.KernelExIdeal.nD → PrngReg)
    (m' : (ℓ : Loc Cert.ReferenceExIdeal.nD Cert.ReferenceExIdeal.τ Cert.ReferenceExIdeal.sig) → Buf (Elt Ideal) ℓ) (g' : Dev Cert.ReferenceExIdeal.nD → PrngReg), Pre_KernelExIdeal m →
    (∀ c : Dev Cert.KernelExIdeal.nD,
      m' ((c.tc : Thread Cert.ReferenceExIdeal.nD Cert.ReferenceExIdeal.τ).loc Cert.ReferenceExIdeal.main_arg0) = m ((c.tc : Thread Cert.KernelExIdeal.nD Cert.KernelExIdeal.τ).loc Cert.KernelExIdeal.main_arg0)
      ∧ m' ((c.tc : Thread Cert.ReferenceExIdeal.nD Cert.ReferenceExIdeal.τ).loc Cert.ReferenceExIdeal.main_arg1) = m ((c.tc : Thread Cert.KernelExIdeal.nD Cert.KernelExIdeal.τ).loc Cert.KernelExIdeal.main_arg1)
      ∧ m' ((c.tc : Thread Cert.ReferenceExIdeal.nD Cert.ReferenceExIdeal.τ).loc Cert.ReferenceExIdeal.main_arg2) = m ((c.tc : Thread Cert.KernelExIdeal.nD Cert.KernelExIdeal.τ).loc Cert.KernelExIdeal.main_arg2)
      ∧ m' ((c.tc : Thread Cert.ReferenceExIdeal.nD Cert.ReferenceExIdeal.τ).loc Cert.ReferenceExIdeal.main_arg3) = m ((c.tc : Thread Cert.KernelExIdeal.nD Cert.KernelExIdeal.τ).loc Cert.KernelExIdeal.main_arg3)
      ∧ m' ((c.tc : Thread Cert.ReferenceExIdeal.nD Cert.ReferenceExIdeal.τ).loc Cert.ReferenceExIdeal.main_arg4) = m ((c.tc : Thread Cert.KernelExIdeal.nD Cert.KernelExIdeal.τ).loc Cert.KernelExIdeal.main_arg4)
      ∧ m' ((c.tc : Thread Cert.ReferenceExIdeal.nD Cert.ReferenceExIdeal.τ).loc Cert.ReferenceExIdeal.main_arg5) = m ((c.tc : Thread Cert.KernelExIdeal.nD Cert.KernelExIdeal.τ).loc Cert.KernelExIdeal.main_arg5)
      ∧ m' ((c.tc : Thread Cert.ReferenceExIdeal.nD Cert.ReferenceExIdeal.τ).loc Cert.ReferenceExIdeal.main_arg6) = m ((c.tc : Thread Cert.KernelExIdeal.nD Cert.KernelExIdeal.τ).loc Cert.KernelExIdeal.main_arg6)) →
    ∃ (v0 : (c : Dev Cert.KernelExIdeal.nD) → Buf (Elt Ideal) ((c.tc : Thread Cert.KernelExIdeal.nD Cert.KernelExIdeal.τ).loc Cert.KernelExIdeal.main_v0)),
      θ_run (Cert.KernelExIdeal.defs (F := Ideal)) (onTc (τ := Cert.KernelExIdeal.τ) (Cert.KernelExIdeal.main (F := Ideal))) ⟨m, fun _ => 0, g⟩ (fun r => ∀ c : Dev Cert.KernelExIdeal.nD,
          r.2.mem ((c.tc : Thread Cert.KernelExIdeal.nD Cert.KernelExIdeal.τ).loc Cert.KernelExIdeal.main_v0) = v0 c
          ∧ r.2.mem ((c.tc : Thread Cert.KernelExIdeal.nD Cert.KernelExIdeal.τ).loc Cert.KernelExIdeal.main_arg0) = m ((c.tc : Thread Cert.KernelExIdeal.nD Cert.KernelExIdeal.τ).loc Cert.KernelExIdeal.main_arg0)
          ∧ r.2.mem ((c.tc : Thread Cert.KernelExIdeal.nD Cert.KernelExIdeal.τ).loc Cert.KernelExIdeal.main_arg1) = m ((c.tc : Thread Cert.KernelExIdeal.nD Cert.KernelExIdeal.τ).loc Cert.KernelExIdeal.main_arg1)
          ∧ r.2.mem ((c.tc : Thread Cert.KernelExIdeal.nD Cert.KernelExIdeal.τ).loc Cert.KernelExIdeal.main_arg2) = m ((c.tc : Thread Cert.KernelExIdeal.nD Cert.KernelExIdeal.τ).loc Cert.KernelExIdeal.main_arg2)
          ∧ r.2.mem ((c.tc : Thread Cert.KernelExIdeal.nD Cert.KernelExIdeal.τ).loc Cert.KernelExIdeal.main_arg3) = m ((c.tc : Thread Cert.KernelExIdeal.nD Cert.KernelExIdeal.τ).loc Cert.KernelExIdeal.main_arg3)
          ∧ r.2.mem ((c.tc : Thread Cert.KernelExIdeal.nD Cert.KernelExIdeal.τ).loc Cert.KernelExIdeal.main_arg4) = m ((c.tc : Thread Cert.KernelExIdeal.nD Cert.KernelExIdeal.τ).loc Cert.KernelExIdeal.main_arg4)
          ∧ r.2.mem ((c.tc : Thread Cert.KernelExIdeal.nD Cert.KernelExIdeal.τ).loc Cert.KernelExIdeal.main_arg5) = m ((c.tc : Thread Cert.KernelExIdeal.nD Cert.KernelExIdeal.τ).loc Cert.KernelExIdeal.main_arg5)
          ∧ r.2.mem ((c.tc : Thread Cert.KernelExIdeal.nD Cert.KernelExIdeal.τ).loc Cert.KernelExIdeal.main_arg6) = m ((c.tc : Thread Cert.KernelExIdeal.nD Cert.KernelExIdeal.τ).loc Cert.KernelExIdeal.main_arg6))
      ∧ θ_run (Cert.ReferenceExIdeal.defs (F := Ideal)) (onTc (τ := Cert.ReferenceExIdeal.τ) (Cert.ReferenceExIdeal.main (F := Ideal))) ⟨m', fun _ => 0, g'⟩ (fun r => ∀ c : Dev Cert.ReferenceExIdeal.nD,
          r.2.mem ((c.tc : Thread Cert.ReferenceExIdeal.nD Cert.ReferenceExIdeal.τ).loc Cert.ReferenceExIdeal.main_v35) = v0 c
          ∧ r.2.mem ((c.tc : Thread Cert.ReferenceExIdeal.nD Cert.ReferenceExIdeal.τ).loc Cert.ReferenceExIdeal.main_arg0) = m' ((c.tc : Thread Cert.ReferenceExIdeal.nD Cert.ReferenceExIdeal.τ).loc Cert.ReferenceExIdeal.main_arg0)
          ∧ r.2.mem ((c.tc : Thread Cert.ReferenceExIdeal.nD Cert.ReferenceExIdeal.τ).loc Cert.ReferenceExIdeal.main_arg1) = m' ((c.tc : Thread Cert.ReferenceExIdeal.nD Cert.ReferenceExIdeal.τ).loc Cert.ReferenceExIdeal.main_arg1)
          ∧ r.2.mem ((c.tc : Thread Cert.ReferenceExIdeal.nD Cert.ReferenceExIdeal.τ).loc Cert.ReferenceExIdeal.main_arg2) = m' ((c.tc : Thread Cert.ReferenceExIdeal.nD Cert.ReferenceExIdeal.τ).loc Cert.ReferenceExIdeal.main_arg2)
          ∧ r.2.mem ((c.tc : Thread Cert.ReferenceExIdeal.nD Cert.ReferenceExIdeal.τ).loc Cert.ReferenceExIdeal.main_arg3) = m' ((c.tc : Thread Cert.ReferenceExIdeal.nD Cert.ReferenceExIdeal.τ).loc Cert.ReferenceExIdeal.main_arg3)
          ∧ r.2.mem ((c.tc : Thread Cert.ReferenceExIdeal.nD Cert.ReferenceExIdeal.τ).loc Cert.ReferenceExIdeal.main_arg4) = m' ((c.tc : Thread Cert.ReferenceExIdeal.nD Cert.ReferenceExIdeal.τ).loc Cert.ReferenceExIdeal.main_arg4)
          ∧ r.2.mem ((c.tc : Thread Cert.ReferenceExIdeal.nD Cert.ReferenceExIdeal.τ).loc Cert.ReferenceExIdeal.main_arg5) = m' ((c.tc : Thread Cert.ReferenceExIdeal.nD Cert.ReferenceExIdeal.τ).loc Cert.ReferenceExIdeal.main_arg5)
          ∧ r.2.mem ((c.tc : Thread Cert.ReferenceExIdeal.nD Cert.ReferenceExIdeal.τ).loc Cert.ReferenceExIdeal.main_arg6) = m' ((c.tc : Thread Cert.ReferenceExIdeal.nD Cert.ReferenceExIdeal.τ).loc Cert.ReferenceExIdeal.main_arg6))

def preserves_KernelMx_KernelMxIdeal : Prop :=
  True

def algebraic_KernelMxIdeal_ReferenceMxIdeal_on_conv_kept [hKernelMxIdeal : Cert.KernelMxIdeal.Facts] [hReferenceMxIdeal : Cert.ReferenceMxIdeal.Facts] [hOn_conv_kept : Cert.On_conv_kept.Facts] : Prop :=
  ∀ (m : (ℓ : Loc Cert.KernelMxIdeal.nD Cert.KernelMxIdeal.τ Cert.KernelMxIdeal.sig) → Buf (Elt Ideal) ℓ) (g : Dev Cert.KernelMxIdeal.nD → PrngReg)
    (m' : (ℓ : Loc Cert.ReferenceMxIdeal.nD Cert.ReferenceMxIdeal.τ Cert.ReferenceMxIdeal.sig) → Buf (Elt Ideal) ℓ) (g' : Dev Cert.ReferenceMxIdeal.nD → PrngReg), Pre_KernelMxIdeal m →
    (∀ c : Dev Cert.KernelMxIdeal.nD,
      m' ((c.tc : Thread Cert.ReferenceMxIdeal.nD Cert.ReferenceMxIdeal.τ).loc Cert.ReferenceMxIdeal.main_arg0) = m ((c.tc : Thread Cert.KernelMxIdeal.nD Cert.KernelMxIdeal.τ).loc Cert.KernelMxIdeal.main_arg0)
      ∧ m' ((c.tc : Thread Cert.ReferenceMxIdeal.nD Cert.ReferenceMxIdeal.τ).loc Cert.ReferenceMxIdeal.main_arg1) = m ((c.tc : Thread Cert.KernelMxIdeal.nD Cert.KernelMxIdeal.τ).loc Cert.KernelMxIdeal.main_arg1)
      ∧ m' ((c.tc : Thread Cert.ReferenceMxIdeal.nD Cert.ReferenceMxIdeal.τ).loc Cert.ReferenceMxIdeal.main_arg2) = m ((c.tc : Thread Cert.KernelMxIdeal.nD Cert.KernelMxIdeal.τ).loc Cert.KernelMxIdeal.main_arg2)
      ∧ m' ((c.tc : Thread Cert.ReferenceMxIdeal.nD Cert.ReferenceMxIdeal.τ).loc Cert.ReferenceMxIdeal.main_arg3) = m ((c.tc : Thread Cert.KernelMxIdeal.nD Cert.KernelMxIdeal.τ).loc Cert.KernelMxIdeal.main_arg3)
      ∧ m' ((c.tc : Thread Cert.ReferenceMxIdeal.nD Cert.ReferenceMxIdeal.τ).loc Cert.ReferenceMxIdeal.main_arg4) = m ((c.tc : Thread Cert.KernelMxIdeal.nD Cert.KernelMxIdeal.τ).loc Cert.KernelMxIdeal.main_arg4)
      ∧ m' ((c.tc : Thread Cert.ReferenceMxIdeal.nD Cert.ReferenceMxIdeal.τ).loc Cert.ReferenceMxIdeal.main_arg5) = m ((c.tc : Thread Cert.KernelMxIdeal.nD Cert.KernelMxIdeal.τ).loc Cert.KernelMxIdeal.main_arg5)
      ∧ m' ((c.tc : Thread Cert.ReferenceMxIdeal.nD Cert.ReferenceMxIdeal.τ).loc Cert.ReferenceMxIdeal.main_arg6) = m ((c.tc : Thread Cert.KernelMxIdeal.nD Cert.KernelMxIdeal.τ).loc Cert.KernelMxIdeal.main_arg6)
      ∧ m' ((c.tc : Thread Cert.ReferenceMxIdeal.nD Cert.ReferenceMxIdeal.τ).loc Cert.ReferenceMxIdeal.main_arg7) = m ((c.tc : Thread Cert.KernelMxIdeal.nD Cert.KernelMxIdeal.τ).loc Cert.KernelMxIdeal.main_arg7)
      ∧ m' ((c.tc : Thread Cert.ReferenceMxIdeal.nD Cert.ReferenceMxIdeal.τ).loc Cert.ReferenceMxIdeal.main_arg8) = m ((c.tc : Thread Cert.KernelMxIdeal.nD Cert.KernelMxIdeal.τ).loc Cert.KernelMxIdeal.main_arg8)
      ∧ m' ((c.tc : Thread Cert.ReferenceMxIdeal.nD Cert.ReferenceMxIdeal.τ).loc Cert.ReferenceMxIdeal.main_arg9) = m ((c.tc : Thread Cert.KernelMxIdeal.nD Cert.KernelMxIdeal.τ).loc Cert.KernelMxIdeal.main_arg9)
      ∧ m' ((c.tc : Thread Cert.ReferenceMxIdeal.nD Cert.ReferenceMxIdeal.τ).loc Cert.ReferenceMxIdeal.main_arg10) = m ((c.tc : Thread Cert.KernelMxIdeal.nD Cert.KernelMxIdeal.τ).loc Cert.KernelMxIdeal.main_arg10)
      ∧ m' ((c.tc : Thread Cert.ReferenceMxIdeal.nD Cert.ReferenceMxIdeal.τ).loc Cert.ReferenceMxIdeal.main_arg11) = m ((c.tc : Thread Cert.KernelMxIdeal.nD Cert.KernelMxIdeal.τ).loc Cert.KernelMxIdeal.main_arg11)
      ∧ m' ((c.tc : Thread Cert.ReferenceMxIdeal.nD Cert.ReferenceMxIdeal.τ).loc Cert.ReferenceMxIdeal.main_arg12) = m ((c.tc : Thread Cert.KernelMxIdeal.nD Cert.KernelMxIdeal.τ).loc Cert.KernelMxIdeal.main_arg12)
      ∧ m' ((c.tc : Thread Cert.ReferenceMxIdeal.nD Cert.ReferenceMxIdeal.τ).loc Cert.ReferenceMxIdeal.main_arg13) = m ((c.tc : Thread Cert.KernelMxIdeal.nD Cert.KernelMxIdeal.τ).loc Cert.KernelMxIdeal.main_arg13)) →
    ∃ (v0 : (c : Dev Cert.KernelMxIdeal.nD) → Buf (Elt Ideal) ((c.tc : Thread Cert.KernelMxIdeal.nD Cert.KernelMxIdeal.τ).loc Cert.KernelMxIdeal.main_v106_0)) (v1 : (c : Dev Cert.KernelMxIdeal.nD) → Buf (Elt Ideal) ((c.tc : Thread Cert.KernelMxIdeal.nD Cert.KernelMxIdeal.τ).loc Cert.KernelMxIdeal.main_v106_1)) (v2 : (c : Dev Cert.KernelMxIdeal.nD) → Buf (Elt Ideal) ((c.tc : Thread Cert.KernelMxIdeal.nD Cert.KernelMxIdeal.τ).loc Cert.KernelMxIdeal.main_v106_2)) (v3 : (c : Dev Cert.KernelMxIdeal.nD) → Buf (Elt Ideal) ((c.tc : Thread Cert.KernelMxIdeal.nD Cert.KernelMxIdeal.τ).loc Cert.KernelMxIdeal.main_v106_3)) (v4 : (c : Dev Cert.KernelMxIdeal.nD) → Buf (Elt Ideal) ((c.tc : Thread Cert.KernelMxIdeal.nD Cert.KernelMxIdeal.τ).loc Cert.KernelMxIdeal.main_v106_4)) (v5 : (c : Dev Cert.KernelMxIdeal.nD) → Buf (Elt Ideal) ((c.tc : Thread Cert.KernelMxIdeal.nD Cert.KernelMxIdeal.τ).loc Cert.KernelMxIdeal.main_v106_5)),
      θ_run (Cert.KernelMxIdeal.defs (F := Ideal)) (onTc (τ := Cert.KernelMxIdeal.τ) (Cert.KernelMxIdeal.main (F := Ideal))) ⟨m, fun _ => 0, g⟩ (fun r => ∀ c : Dev Cert.KernelMxIdeal.nD,
          (∀ i : (⟨2, ![1024, 1024]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).1 i = 1#1 → r.2.mem ((c.tc : Thread Cert.KernelMxIdeal.nD Cert.KernelMxIdeal.τ).loc Cert.KernelMxIdeal.main_v106_0) i = v0 c i)
          ∧ (∀ i : (⟨3, ![32, 3, 1024]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.1 i = 1#1 → r.2.mem ((c.tc : Thread Cert.KernelMxIdeal.nD Cert.KernelMxIdeal.τ).loc Cert.KernelMxIdeal.main_v106_1) i = v1 c i)
          ∧ (∀ i : (⟨4, ![32, 4, 128, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.1 i = 1#1 → r.2.mem ((c.tc : Thread Cert.KernelMxIdeal.nD Cert.KernelMxIdeal.τ).loc Cert.KernelMxIdeal.main_v106_2) i = v2 c i)
          ∧ (∀ i : (⟨3, ![32, 4, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.2.1 i = 1#1 → r.2.mem ((c.tc : Thread Cert.KernelMxIdeal.nD Cert.KernelMxIdeal.τ).loc Cert.KernelMxIdeal.main_v106_3) i = v3 c i)
          ∧ (∀ i : (⟨3, ![32, 4, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.2.2.1 i = 1#1 → r.2.mem ((c.tc : Thread Cert.KernelMxIdeal.nD Cert.KernelMxIdeal.τ).loc Cert.KernelMxIdeal.main_v106_4) i = v4 c i)
          ∧ (∀ i : (⟨4, ![32, 4, 128, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.2.2.2 i = 1#1 → r.2.mem ((c.tc : Thread Cert.KernelMxIdeal.nD Cert.KernelMxIdeal.τ).loc Cert.KernelMxIdeal.main_v106_5) i = v5 c i)
          ∧ r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
          ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
          ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
          ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
          ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
          ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
          ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
          ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7)
          ∧ r.2.mem ((c.tc : Thread Cert.KernelMxIdeal.nD Cert.KernelMxIdeal.τ).loc Cert.KernelMxIdeal.main_arg8) = m ((c.tc : Thread Cert.KernelMxIdeal.nD Cert.KernelMxIdeal.τ).loc Cert.KernelMxIdeal.main_arg8)
          ∧ r.2.mem ((c.tc : Thread Cert.KernelMxIdeal.nD Cert.KernelMxIdeal.τ).loc Cert.KernelMxIdeal.main_arg9) = m ((c.tc : Thread Cert.KernelMxIdeal.nD Cert.KernelMxIdeal.τ).loc Cert.KernelMxIdeal.main_arg9)
          ∧ r.2.mem ((c.tc : Thread Cert.KernelMxIdeal.nD Cert.KernelMxIdeal.τ).loc Cert.KernelMxIdeal.main_arg10) = m ((c.tc : Thread Cert.KernelMxIdeal.nD Cert.KernelMxIdeal.τ).loc Cert.KernelMxIdeal.main_arg10)
          ∧ r.2.mem ((c.tc : Thread Cert.KernelMxIdeal.nD Cert.KernelMxIdeal.τ).loc Cert.KernelMxIdeal.main_arg11) = m ((c.tc : Thread Cert.KernelMxIdeal.nD Cert.KernelMxIdeal.τ).loc Cert.KernelMxIdeal.main_arg11)
          ∧ r.2.mem ((c.tc : Thread Cert.KernelMxIdeal.nD Cert.KernelMxIdeal.τ).loc Cert.KernelMxIdeal.main_arg12) = m ((c.tc : Thread Cert.KernelMxIdeal.nD Cert.KernelMxIdeal.τ).loc Cert.KernelMxIdeal.main_arg12)
          ∧ r.2.mem ((c.tc : Thread Cert.KernelMxIdeal.nD Cert.KernelMxIdeal.τ).loc Cert.KernelMxIdeal.main_arg13) = m ((c.tc : Thread Cert.KernelMxIdeal.nD Cert.KernelMxIdeal.τ).loc Cert.KernelMxIdeal.main_arg13))
      ∧ θ_run (Cert.ReferenceMxIdeal.defs (F := Ideal)) (onTc (τ := Cert.ReferenceMxIdeal.τ) (Cert.ReferenceMxIdeal.main (F := Ideal))) ⟨m', fun _ => 0, g'⟩ (fun r => ∀ c : Dev Cert.ReferenceMxIdeal.nD,
          (∀ i : (⟨2, ![1024, 1024]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).1 i = 1#1 → r.2.mem ((c.tc : Thread Cert.ReferenceMxIdeal.nD Cert.ReferenceMxIdeal.τ).loc Cert.ReferenceMxIdeal.main_v3) i = v0 c i)
          ∧ (∀ i : (⟨3, ![32, 3, 1024]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.1 i = 1#1 → r.2.mem ((c.tc : Thread Cert.ReferenceMxIdeal.nD Cert.ReferenceMxIdeal.τ).loc Cert.ReferenceMxIdeal.main_v4) i = v1 c i)
          ∧ (∀ i : (⟨4, ![32, 4, 128, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.1 i = 1#1 → r.2.mem ((c.tc : Thread Cert.ReferenceMxIdeal.nD Cert.ReferenceMxIdeal.τ).loc Cert.ReferenceMxIdeal.main_v5) i = v2 c i)
          ∧ (∀ i : (⟨3, ![32, 4, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.2.1 i = 1#1 → r.2.mem ((c.tc : Thread Cert.ReferenceMxIdeal.nD Cert.ReferenceMxIdeal.τ).loc Cert.ReferenceMxIdeal.main_v6) i = v3 c i)
          ∧ (∀ i : (⟨3, ![32, 4, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.2.2.1 i = 1#1 → r.2.mem ((c.tc : Thread Cert.ReferenceMxIdeal.nD Cert.ReferenceMxIdeal.τ).loc Cert.ReferenceMxIdeal.main_v7) i = v4 c i)
          ∧ (∀ i : (⟨4, ![32, 4, 128, 128]⟩ : Shape).Idx, (Cert.On_conv_kept.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) (m ((c.tc : Thread Cert.KernelMxIdeal.nD Cert.KernelMxIdeal.τ).loc Cert.KernelMxIdeal.main_arg8)) (m ((c.tc : Thread Cert.KernelMxIdeal.nD Cert.KernelMxIdeal.τ).loc Cert.KernelMxIdeal.main_arg9)) (m ((c.tc : Thread Cert.KernelMxIdeal.nD Cert.KernelMxIdeal.τ).loc Cert.KernelMxIdeal.main_arg10)) (m ((c.tc : Thread Cert.KernelMxIdeal.nD Cert.KernelMxIdeal.τ).loc Cert.KernelMxIdeal.main_arg11)) (m ((c.tc : Thread Cert.KernelMxIdeal.nD Cert.KernelMxIdeal.τ).loc Cert.KernelMxIdeal.main_arg12)) (m ((c.tc : Thread Cert.KernelMxIdeal.nD Cert.KernelMxIdeal.τ).loc Cert.KernelMxIdeal.main_arg13))).2.2.2.2.2 i = 1#1 → r.2.mem ((c.tc : Thread Cert.ReferenceMxIdeal.nD Cert.ReferenceMxIdeal.τ).loc Cert.ReferenceMxIdeal.main_v8) i = v5 c i)
          ∧ r.2.mem ((c.tc : Thread Cert.ReferenceMxIdeal.nD Cert.ReferenceMxIdeal.τ).loc Cert.ReferenceMxIdeal.main_arg0) = m' ((c.tc : Thread Cert.ReferenceMxIdeal.nD Cert.ReferenceMxIdeal.τ).loc Cert.ReferenceMxIdeal.main_arg0)
          ∧ r.2.mem ((c.tc : Thread Cert.ReferenceMxIdeal.nD Cert.ReferenceMxIdeal.τ).loc Cert.ReferenceMxIdeal.main_arg1) = m' ((c.tc : Thread Cert.ReferenceMxIdeal.nD Cert.ReferenceMxIdeal.τ).loc Cert.ReferenceMxIdeal.main_arg1)
          ∧ r.2.mem ((c.tc : Thread Cert.ReferenceMxIdeal.nD Cert.ReferenceMxIdeal.τ).loc Cert.ReferenceMxIdeal.main_arg2) = m' ((c.tc : Thread Cert.ReferenceMxIdeal.nD Cert.ReferenceMxIdeal.τ).loc Cert.ReferenceMxIdeal.main_arg2)
          ∧ r.2.mem ((c.tc : Thread Cert.ReferenceMxIdeal.nD Cert.ReferenceMxIdeal.τ).loc Cert.ReferenceMxIdeal.main_arg3) = m' ((c.tc : Thread Cert.ReferenceMxIdeal.nD Cert.ReferenceMxIdeal.τ).loc Cert.ReferenceMxIdeal.main_arg3)
          ∧ r.2.mem ((c.tc : Thread Cert.ReferenceMxIdeal.nD Cert.ReferenceMxIdeal.τ).loc Cert.ReferenceMxIdeal.main_arg4) = m' ((c.tc : Thread Cert.ReferenceMxIdeal.nD Cert.ReferenceMxIdeal.τ).loc Cert.ReferenceMxIdeal.main_arg4)
          ∧ r.2.mem ((c.tc : Thread Cert.ReferenceMxIdeal.nD Cert.ReferenceMxIdeal.τ).loc Cert.ReferenceMxIdeal.main_arg5) = m' ((c.tc : Thread Cert.ReferenceMxIdeal.nD Cert.ReferenceMxIdeal.τ).loc Cert.ReferenceMxIdeal.main_arg5)
          ∧ r.2.mem ((c.tc : Thread Cert.ReferenceMxIdeal.nD Cert.ReferenceMxIdeal.τ).loc Cert.ReferenceMxIdeal.main_arg6) = m' ((c.tc : Thread Cert.ReferenceMxIdeal.nD Cert.ReferenceMxIdeal.τ).loc Cert.ReferenceMxIdeal.main_arg6)
          ∧ r.2.mem ((c.tc : Thread Cert.ReferenceMxIdeal.nD Cert.ReferenceMxIdeal.τ).loc Cert.ReferenceMxIdeal.main_arg7) = m' ((c.tc : Thread Cert.ReferenceMxIdeal.nD Cert.ReferenceMxIdeal.τ).loc Cert.ReferenceMxIdeal.main_arg7)
          ∧ r.2.mem ((c.tc : Thread Cert.ReferenceMxIdeal.nD Cert.ReferenceMxIdeal.τ).loc Cert.ReferenceMxIdeal.main_arg8) = m' ((c.tc : Thread Cert.ReferenceMxIdeal.nD Cert.ReferenceMxIdeal.τ).loc Cert.ReferenceMxIdeal.main_arg8)
          ∧ r.2.mem ((c.tc : Thread Cert.ReferenceMxIdeal.nD Cert.ReferenceMxIdeal.τ).loc Cert.ReferenceMxIdeal.main_arg9) = m' ((c.tc : Thread Cert.ReferenceMxIdeal.nD Cert.ReferenceMxIdeal.τ).loc Cert.ReferenceMxIdeal.main_arg9)
          ∧ r.2.mem ((c.tc : Thread Cert.ReferenceMxIdeal.nD Cert.ReferenceMxIdeal.τ).loc Cert.ReferenceMxIdeal.main_arg10) = m' ((c.tc : Thread Cert.ReferenceMxIdeal.nD Cert.ReferenceMxIdeal.τ).loc Cert.ReferenceMxIdeal.main_arg10)
          ∧ r.2.mem ((c.tc : Thread Cert.ReferenceMxIdeal.nD Cert.ReferenceMxIdeal.τ).loc Cert.ReferenceMxIdeal.main_arg11) = m' ((c.tc : Thread Cert.ReferenceMxIdeal.nD Cert.ReferenceMxIdeal.τ).loc Cert.ReferenceMxIdeal.main_arg11)
          ∧ r.2.mem ((c.tc : Thread Cert.ReferenceMxIdeal.nD Cert.ReferenceMxIdeal.τ).loc Cert.ReferenceMxIdeal.main_arg12) = m' ((c.tc : Thread Cert.ReferenceMxIdeal.nD Cert.ReferenceMxIdeal.τ).loc Cert.ReferenceMxIdeal.main_arg12)
          ∧ r.2.mem ((c.tc : Thread Cert.ReferenceMxIdeal.nD Cert.ReferenceMxIdeal.τ).loc Cert.ReferenceMxIdeal.main_arg13) = m' ((c.tc : Thread Cert.ReferenceMxIdeal.nD Cert.ReferenceMxIdeal.τ).loc Cert.ReferenceMxIdeal.main_arg13))

def Claim : Prop :=
  ∃ (hKernelKv : Cert.KernelKv.Facts) (hKernelKvIdeal : Cert.KernelKvIdeal.Facts) (hReferenceKvIdeal : Cert.ReferenceKvIdeal.Facts) (hKernelXa : Cert.KernelXa.Facts) (hKernelXaIdeal : Cert.KernelXaIdeal.Facts) (hReferenceXaIdeal : Cert.ReferenceXaIdeal.Facts) (hKernelEx : Cert.KernelEx.Facts) (hKernelExIdeal : Cert.KernelExIdeal.Facts) (hReferenceExIdeal : Cert.ReferenceExIdeal.Facts) (hKernelMx : Cert.KernelMx.Facts) (hKernelMxIdeal : Cert.KernelMxIdeal.Facts) (hReferenceMxIdeal : Cert.ReferenceMxIdeal.Facts) (hPre_tables_ok : Cert.Pre_tables_ok.Facts) (hOn_attended : Cert.On_attended.Facts) (hOn_conv_kept : Cert.On_conv_kept.Facts),
    quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelXa (hKernelXa := hKernelXa)
    ∧ quiescent_KernelXaIdeal (hKernelXaIdeal := hKernelXaIdeal)
    ∧ quiescent_ReferenceXaIdeal (hReferenceXaIdeal := hReferenceXaIdeal)
    ∧ quiescent_KernelEx (hKernelEx := hKernelEx) (hPre_tables_ok := hPre_tables_ok)
    ∧ quiescent_KernelExIdeal (hKernelExIdeal := hKernelExIdeal) (hPre_tables_ok := hPre_tables_ok)
    ∧ quiescent_ReferenceExIdeal (hReferenceExIdeal := hReferenceExIdeal) (hPre_tables_ok := hPre_tables_ok)
    ∧ quiescent_KernelMx (hKernelMx := hKernelMx)
    ∧ quiescent_KernelMxIdeal (hKernelMxIdeal := hKernelMxIdeal)
    ∧ quiescent_ReferenceMxIdeal (hReferenceMxIdeal := hReferenceMxIdeal)
    ∧ preserves_KernelKv_KernelKvIdeal
    ∧ algebraic_KernelKvIdeal_ReferenceKvIdeal (hKernelKvIdeal := hKernelKvIdeal) (hReferenceKvIdeal := hReferenceKvIdeal)
    ∧ preserves_KernelXa_KernelXaIdeal
    ∧ algebraic_KernelXaIdeal_ReferenceXaIdeal_on_attended (hKernelXaIdeal := hKernelXaIdeal) (hReferenceXaIdeal := hReferenceXaIdeal) (hOn_attended := hOn_attended)
    ∧ preserves_KernelEx_KernelExIdeal
    ∧ algebraic_KernelExIdeal_ReferenceExIdeal (hKernelExIdeal := hKernelExIdeal) (hReferenceExIdeal := hReferenceExIdeal) (hPre_tables_ok := hPre_tables_ok)
    ∧ preserves_KernelMx_KernelMxIdeal
    ∧ algebraic_KernelMxIdeal_ReferenceMxIdeal_on_conv_kept (hKernelMxIdeal := hKernelMxIdeal) (hReferenceMxIdeal := hReferenceMxIdeal) (hOn_conv_kept := hOn_conv_kept)
-- ==== On_attended.lean ====
abbrev S8x4096x1024 : Shape := ⟨3, ![8, 4096, 1024]⟩
abbrev S8x256x4x256 : Shape := ⟨4, ![8, 256, 4, 256]⟩
abbrev S1024x1024 : Shape := ⟨2, ![1024, 1024]⟩
abbrev S3x1024 : Shape := ⟨2, ![3, 1024]⟩
abbrev S1024x16 : Shape := ⟨2, ![1024, 16]⟩
abbrev S1152 : Shape := ⟨1, ![1152]⟩
abbrev S1x1152 : Shape := ⟨2, ![1, 1152]⟩
abbrev S_ : Shape := ⟨0, ![]⟩
abbrev S32768x1152 : Shape := ⟨2, ![32768, 1152]⟩
abbrev S8x32768 : Shape := ⟨2, ![8, 32768]⟩
abbrev S32x128 : Shape := ⟨2, ![32, 128]⟩

class Facts : Prop where
  bcast_S1152_S1x1152_1 : S1152.BroadcastsInDim S1x1152 (![1] : Fin 1 → Fin S1x1152.rank)
  bcast_S_S1x1152 : S_.BroadcastsInDim S1x1152 (![] : Fin 0 → Fin S1x1152.rank)
  bcast_S1x1152_S32768x1152_0_1 : S1x1152.BroadcastsInDim S32768x1152 (![0, 1] : Fin 2 → Fin S32768x1152.rank)
  bcast_S_S8x32768 : S_.BroadcastsInDim S8x32768 (![] : Fin 0 → Fin S8x32768.rank)
  bcast_S_S32x128 : S_.BroadcastsInDim S32x128 (![] : Fin 0 → Fin S32x128.rank)

variable [Facts]

def fn {F : FTy → Type} [FloatOps F] (main_arg0 : FVec F S8x4096x1024 .f32) (main_arg1 : FVec F S8x256x4x256 .f32) (main_arg2 : FVec F S8x256x4x256 .f32) (main_arg3 : FVec F S1024x1024 .f32) (main_arg4 : FVec F S1024x1024 .f32) (main_arg5 : FVec F S3x1024 .f32) (main_arg6 : FVec F S3x1024 .f32) (main_arg7 : FVec F S1024x16 .f32) : IVec S32768x1152 1 × IVec S8x32768 1 × IVec S32x128 1 :=
  let main_v0 : IVec S1152 32 := iotaInDim S1152 32 0
  let main_v1 : IVec S1x1152 32 := broadcastInDim S1x1152 ![1] bcast_S1152_S1x1152_1 main_v0
  let main_c : IVec S_ 32 := constantI S_ 32 1024#32
  let main_v2 : IVec S1x1152 32 := broadcastInDim S1x1152 ![] bcast_S_S1x1152 main_c
  let main_v3 : IVec S1x1152 1 := cmpi .slt main_v1 main_v2
  let main_v4 : IVec S32768x1152 1 := broadcastInDim S32768x1152 ![0, 1] bcast_S1x1152_S32768x1152_0_1 main_v3
  let main_c_0 : IVec S_ 1 := constantI S_ 1 0#1
  let main_v5 : IVec S8x32768 1 := broadcastInDim S8x32768 ![] bcast_S_S8x32768 main_c_0
  let main_c_1 : IVec S_ 1 := constantI S_ 1 0#1
  let main_v6 : IVec S32x128 1 := broadcastInDim S32x128 ![] bcast_S_S32x128 main_c_1
  (main_v4, main_v5, main_v6)
-- ==== On_conv_kept.lean ====
abbrev S32x32x1024 : Shape := ⟨3, ![32, 32, 1024]⟩
abbrev S1024x4104 : Shape := ⟨2, ![1024, 4104]⟩
abbrev S8 : Shape := ⟨1, ![8]⟩
abbrev S4x1024 : Shape := ⟨2, ![4, 1024]⟩
abbrev S512 : Shape := ⟨1, ![512]⟩
abbrev S1024x1024 : Shape := ⟨2, ![1024, 1024]⟩
abbrev S3x1024 : Shape := ⟨2, ![3, 1024]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S_ : Shape := ⟨0, ![]⟩

class Facts : Prop where
  bcast_S_S1024x1024 : S_.BroadcastsInDim S1024x1024 (![] : Fin 0 → Fin S1024x1024.rank)
  bcast_S_S32x3x1024 : S_.BroadcastsInDim S32x3x1024 (![] : Fin 0 → Fin S32x3x1024.rank)
  bcast_S_S32x4x128x128 : S_.BroadcastsInDim S32x4x128x128 (![] : Fin 0 → Fin S32x4x128x128.rank)
  bcast_S_S32x4x128 : S_.BroadcastsInDim S32x4x128 (![] : Fin 0 → Fin S32x4x128.rank)

variable [Facts]

def fn {F : FTy → Type} [FloatOps F] (main_arg0 : FVec F S32x32x1024 .f32) (main_arg1 : FVec F S1024x4104 .f32) (main_arg2 : FVec F S8 .f32) (main_arg3 : FVec F S4x1024 .f32) (main_arg4 : FVec F S512 .f32) (main_arg5 : FVec F S512 .f32) (main_arg6 : FVec F S1024x1024 .f32) (main_arg7 : FVec F S3x1024 .f32) (main_arg8 : FVec F S3x1024 .f32) (main_arg9 : FVec F S32x3x1024 .f32) (main_arg10 : FVec F S32x4x128x128 .f32) (main_arg11 : FVec F S32x4x128 .f32) (main_arg12 : FVec F S32x4 .f32) (main_arg13 : FVec F S32x4x128x128 .f32) : IVec S1024x1024 1 × IVec S32x3x1024 1 × IVec S32x4x128x128 1 × IVec S32x4x128 1 × IVec S32x4x128 1 × IVec S32x4x128x128 1 :=
  let main_c : IVec S_ 1 := constantI S_ 1 0#1
  let main_v0 : IVec S1024x1024 1 := broadcastInDim S1024x1024 ![] bcast_S_S1024x1024 main_c
  let main_c_0 : IVec S_ 1 := constantI S_ 1 1#1
  let main_v1 : IVec S32x3x1024 1 := broadcastInDim S32x3x1024 ![] bcast_S_S32x3x1024 main_c_0
  let main_c_1 : IVec S_ 1 := constantI S_ 1 0#1
  let main_v2 : IVec S32x4x128x128 1 := broadcastInDim S32x4x128x128 ![] bcast_S_S32x4x128x128 main_c_1
  let main_c_2 : IVec S_ 1 := constantI S_ 1 0#1
  let main_v3 : IVec S32x4x128 1 := broadcastInDim S32x4x128 ![] bcast_S_S32x4x128 main_c_2
  let main_c_3 : IVec S_ 1 := constantI S_ 1 0#1
  let main_v4 : IVec S32x4x128 1 := broadcastInDim S32x4x128 ![] bcast_S_S32x4x128 main_c_3
  let main_c_4 : IVec S_ 1 := constantI S_ 1 0#1
  let main_v5 : IVec S32x4x128x128 1 := broadcastInDim S32x4x128x128 ![] bcast_S_S32x4x128x128 main_c_4
  (main_v0, main_v1, main_v2, main_v3, main_v4, main_v5)
-- ==== Pre_tables_ok.lean ====
abbrev S39936x1152 : Shape := ⟨2, ![39936, 1152]⟩
abbrev S156 : Shape := ⟨1, ![156]⟩
abbrev S64x1024x512 : Shape := ⟨3, ![64, 1024, 512]⟩
abbrev S64x512x1024 : Shape := ⟨3, ![64, 512, 1024]⟩
abbrev S1 : Shape := ⟨1, ![1]⟩
abbrev S155 : Shape := ⟨1, ![155]⟩
abbrev S_ : Shape := ⟨0, ![]⟩

class Facts : Prop where
  slices_S156_S1_0 : S156.Slices ![0] S1
  slices_S156_S155_0 : S156.Slices ![0] S155
  concatenates_S1_S155_S156_d0 : Shape.Concatenates [S1, S155] S156 0
  bcast_S_S156 : S_.BroadcastsInDim S156 (![] : Fin 0 → Fin S156.rank)

variable [Facts]

def fn_part1 {F : FTy → Type} [FloatOps F] (main_arg3 : IVec S156 32) (main_v2 : IVec S156 32) (main_v16 : IVec S156 1) (main_v17 : IVec S156 32) : IVec S156 1 :=
  let main_v18 : IVec S156 1 := cmpi .sle main_arg3 main_v17
  let main_v19 : IVec S156 1 := andi main_v16 main_v18
  let main_v20 : IVec S156 1 := cmpi .sle main_arg3 main_v2
  let main_v21 : IVec S156 1 := andi main_v19 main_v20
  main_v21

def fn {F : FTy → Type} [FloatOps F] (main_arg0 : FVec F S39936x1152 .f32) (main_arg1 : IVec S156 32) (main_arg2 : IVec S156 32) (main_arg3 : IVec S156 32) (main_arg4 : FVec F S64x1024x512 .f32) (main_arg5 : FVec F S64x1024x512 .f32) (main_arg6 : FVec F S64x512x1024 .f32) : IVec S156 1 :=
  let main_v0 : IVec S1 32 := (extractStridedSlice S1 ![0] · slices_S156_S1_0) main_arg3
  let main_v1 : IVec S155 32 := (extractStridedSlice S155 ![0] · slices_S156_S155_0) main_arg3
  let main_v2 : IVec S156 32 := (fun a b => concatenate S156 0 [⟨S1, a⟩, ⟨S155, b⟩] concatenates_S1_S155_S156_d0) main_v0 main_v1
  let main_c : IVec S_ 32 := constantI S_ 32 0#32
  let main_v3 : IVec S156 32 := broadcastInDim S156 ![] bcast_S_S156 main_c
  let main_v4 : IVec S156 1 := cmpi .sge main_arg1 main_v3
  let main_c_0 : IVec S_ 32 := constantI S_ 32 64#32
  let main_v5 : IVec S156 32 := broadcastInDim S156 ![] bcast_S_S156 main_c_0
  let main_v6 : IVec S156 1 := cmpi .slt main_arg1 main_v5
  let main_v7 : IVec S156 1 := andi main_v4 main_v6
  let main_c_1 : IVec S_ 32 := constantI S_ 32 0#32
  let main_v8 : IVec S156 32 := broadcastInDim S156 ![] bcast_S_S156 main_c_1
  let main_v9 : IVec S156 1 := cmpi .sge main_arg2 main_v8
  let main_v10 : IVec S156 1 := andi main_v7 main_v9
  let main_c_2 : IVec S_ 32 := constantI S_ 32 64#32
  let main_v11 : IVec S156 32 := broadcastInDim S156 ![] bcast_S_S156 main_c_2
  let main_v12 : IVec S156 1 := cmpi .slt main_arg2 main_v11
  let main_v13 : IVec S156 1 := andi main_v10 main_v12
  let main_c_3 : IVec S_ 32 := constantI S_ 32 0#32
  let main_v14 : IVec S156 32 := broadcastInDim S156 ![] bcast_S_S156 main_c_3
  let main_v15 : IVec S156 1 := cmpi .sge main_arg3 main_v14
  let main_v16 : IVec S156 1 := andi main_v13 main_v15
  let main_c_4 : IVec S_ 32 := constantI S_ 32 1#32
  let main_v17 : IVec S156 32 := broadcastInDim S156 ![] bcast_S_S156 main_c_4
  fn_part1 (F := F) main_arg3 main_v2 main_v16 main_v17
-- ==== KernelKv.lean ====
abbrev S8x256x1024 : Shape := ⟨3, ![8, 256, 1024]⟩
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S2048x1024, .f32⟩
  | .hbm, ⟨4, _⟩ => ⟨S1024x1024, .bf16⟩
  | .hbm, ⟨5, _⟩ => ⟨S1024x1024, .bf16⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceKvIdeal.lean ====
abbrev S8x256x1024 : Shape := ⟨3, ![8, 256, 1024]⟩
abbrev S1024x1024 : Shape := ⟨2, ![1024, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S8x256x1024, .f32⟩
  | .hbm, ⟨4, _⟩ => ⟨S2048x1024, .f32⟩
  | .hbm, ⟨5, _⟩ => ⟨S8x256x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXa.lean ====
abbrev S8x4096x1024 : Shape := ⟨3, ![8, 4096, 1024]⟩
abbrev S8x256x4x256 : Shape := ⟨4, ![8, 256, 4, 256]⟩
abbrev S1024x1024 : Shape := ⟨2, ![1024, 1024]⟩
abbrev S3x1024 : Shape := ⟨2, ![3, 1024]⟩
abbrev S1024x16 : Shape := ⟨2, ![1024, 16]⟩
abbrev S_ : Shape := ⟨0, ![]⟩
abbrev S32x128 : Shape := ⟨2, ![32, 128]⟩
abbrev S8x256x1024 : Shape := ⟨3, ![8, 256, 1024]⟩
abbrev S16x1024 : Shape := ⟨2, ![16, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32768x1024 : Shape := ⟨2, ![32768, 1024]⟩
abbrev S1x1024 : Shape := ⟨2, ![1, 1024]⟩
abbrev S32768x1152 : Shape := ⟨2, ![32768, 1152]⟩
abbrev S8x32768 : Shape := ⟨2, ![8, 32768]⟩
abbrev S512x1024 : Shape := ⟨2, ![512, 1024]⟩
abbrev S1x256x1024 : Shape := ⟨3, ![1, 256, 1024]⟩
abbrev S512x1152 : Shape := ⟨2, ![512, 1152]⟩
abbrev S8x512 : Shape := ⟨2, ![8, 512]⟩
abbrev S512x256 : Shape := ⟨2, ![512, 256]⟩
abbrev S1x256x256 : Shape := ⟨3, ![1, 256, 256]⟩
abbrev S256x256 : Shape := ⟨2, ![256, 256]⟩
abbrev S16x512 : Shape := ⟨2, ![16, 512]⟩
abbrev S32x512 : Shape := ⟨2, ![32, 512]⟩
abbrev S32x1 : Shape := ⟨2, ![32, 1]⟩
abbrev S32 : Shape := ⟨1, ![32]⟩
abbrev S6x512 : Shape := ⟨2, ![6, 512]⟩
abbrev S126x512 : Shape := ⟨2, ![126, 512]⟩
abbrev S128x512 : Shape := ⟨2, ![128, 512]⟩
abbrev S512x128 : Shape := ⟨2, ![512, 128]⟩

abbrev nBuf : Space → Nat
  | .hbm => 30
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x256x4x256, .f32⟩
  | .hbm, ⟨2, _⟩ => ⟨S8x256x4x256, .f32⟩
  | .hbm, ⟨3, _⟩ => ⟨S1024x1024, .f32⟩
  | .hbm, ⟨4, _⟩ => ⟨S1024x1024, .f32⟩
  | .hbm, ⟨5, _⟩ => ⟨S3x1024, .f32⟩
  | .hbm, ⟨6, _⟩ => ⟨S3x1024, .f32⟩
  | .hbm, ⟨7, _⟩ => ⟨S1024x16, .f32⟩
  | .hbm, ⟨8, _⟩ => ⟨S1024x1024, .bf16⟩
  | .hbm, ⟨9, _⟩ => ⟨S1024x1024, .bf16⟩
  | .hbm, ⟨10, _⟩ => ⟨S_, .f32⟩
  | .hbm, ⟨11, _⟩ => ⟨S32x128, .f32⟩
  | .hbm, ⟨12, _⟩ => ⟨S8x256x1024, .f32⟩
  | .hbm, ⟨13, _⟩ => ⟨S8x256x1024, .bf16⟩
  | .hbm, ⟨14, _⟩ => ⟨S8x256x1024, .f32⟩
  | .hbm, ⟨15, _⟩ => ⟨S8x256x1024, .bf16⟩
  | .hbm, ⟨16, _⟩ => ⟨S16x1024, .f32⟩
  | .hbm, ⟨17, _⟩ => ⟨S512, .i32⟩
  | .hbm, ⟨18, _⟩ => ⟨S512x1, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S32768x1024, .f32⟩
  | .hbm, ⟨25, _⟩ => ⟨S1x1024, .f32⟩
  | .hbm, ⟨26, _⟩ => ⟨S1x1024, .f32⟩
  | .hbm, ⟨27, _⟩ => ⟨S32768x1152, .f32⟩
  | .hbm, ⟨28, _⟩ => ⟨S8x32768, .i32⟩
  | .hbm, ⟨29, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S16x1024, .f32⟩
  | .local _ .vmem, ⟨11, _⟩ => ⟨S512x512, .bf16⟩
  | .local _ .vmem, ⟨12, _⟩ => ⟨S32x128, .f32⟩
  | .local _ .vmem, ⟨13, _⟩ => ⟨S512x1152, .f32⟩
  | .local _ .vmem, ⟨14, _⟩ => ⟨S512x1152, .f32⟩
  | .local _ .vmem, ⟨15, _⟩ => ⟨S8x512, .i32⟩
  | .local _ .vmem, ⟨16, _⟩ => ⟨S8x512, .i32⟩
  | .local _ .vmem, ⟨17, _⟩ => ⟨S32x128, .f32⟩
  | .local _ .vmem, ⟨18, _⟩ => ⟨S512x1024, .bf16⟩
  | .local _ .vmem, ⟨19, _⟩ => ⟨S512x1024, .bf16⟩
  | .local _ .vmem, ⟨20, _⟩ => ⟨S32x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceXaIdeal.lean ====
abbrev S8x4096x1024 : Shape := ⟨3, ![8, 4096, 1024]⟩
abbrev S8x256x4x256 : Shape := ⟨4, ![8, 256, 4, 256]⟩
abbrev S1024x1024 : Shape := ⟨2, ![1024, 1024]⟩
abbrev S3x1024 : Shape := ⟨2, ![3, 1024]⟩
abbrev S1024x16 : Shape := ⟨2, ![1024, 16]⟩
abbrev S8x4096x4x256 : Shape := ⟨4, ![8, 4096, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩
abbrev S8x4096 : Shape := ⟨2, ![8, 4096]⟩
abbrev S8x4096x1 : Shape := ⟨3, ![8, 4096, 1]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩
abbrev S32768x128 : Shape := ⟨2, ![32768, 128]⟩
abbrev S32768x1152 : Shape := ⟨2, ![32768, 1152]⟩
abbrev S8x32768 : Shape := ⟨2, ![8, 32768]⟩
abbrev S32x128 : Shape := ⟨2, ![32, 128]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x4x256, .f32⟩
  | .hbm, ⟨2, _⟩ => ⟨S8x256x4x256, .f32⟩
  | .hbm, ⟨3, _⟩ => ⟨S1024x1024, .f32⟩
  | .hbm, ⟨4, _⟩ => ⟨S1024x1024, .f32⟩
  | .hbm, ⟨5, _⟩ => ⟨S3x1024, .f32⟩
  | .hbm, ⟨6, _⟩ => ⟨S3x1024, .f32⟩
  | .hbm, ⟨7, _⟩ => ⟨S1024x16, .f32⟩
  | .hbm, ⟨8, _⟩ => ⟨S8x4096x1024, .f32⟩
  | .hbm, ⟨9, _⟩ => ⟨S8x4096x4x256, .f32⟩
  | .hbm, ⟨10, _⟩ => ⟨S8x4x4096x256, .f32⟩
  | .hbm, ⟨11, _⟩ => ⟨S_, .f32⟩
  | .hbm, ⟨12, _⟩ => ⟨S8x4x4096x256, .f32⟩
  | .hbm, ⟨13, _⟩ => ⟨S8x4x4096x256, .f32⟩
  | .hbm, ⟨14, _⟩ => ⟨S_, .f32⟩
  | .hbm, ⟨15, _⟩ => ⟨S8x4x4096, .f32⟩
  | .hbm, ⟨16, _⟩ => ⟨S_, .f32⟩
  | .hbm, ⟨17, _⟩ => ⟨S8x4x4096, .f32⟩
  | .hbm, ⟨18, _⟩ => ⟨S8x4x4096, .f32⟩
  | .hbm, ⟨19, _⟩ => ⟨S8x4x4096x1, .f32⟩
  | .hbm, ⟨20, _⟩ => ⟨S8x4x4096x256, .f32⟩
  | .hbm, ⟨21, _⟩ => ⟨S8x4x4096x256, .f32⟩
  | .hbm, ⟨22, _⟩ => ⟨S8x4x4096x256, .f32⟩
  | .hbm, ⟨23, _⟩ => ⟨S_, .f32⟩
  | .hbm, ⟨24, _⟩ => ⟨S8x4x4096, .f32⟩
  | .hbm, ⟨25, _⟩ => ⟨S8x4x4096x1, .f32⟩
  | .hbm, ⟨26, _⟩ => ⟨S8x4x4096x256, .f32⟩
  | .hbm, ⟨27, _⟩ => ⟨S8x4x4096x256, .f32⟩
  | .hbm, ⟨28, _⟩ => ⟨S8x4x256x4096, .f32⟩
  | .hbm, ⟨29, _⟩ => ⟨S8x4096x4x256, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1024, .f32⟩
  | .hbm, ⟨60, _⟩ => ⟨S1024, .f32⟩
  | .hbm, ⟨61, _⟩ => ⟨S1x1x1024, .f32⟩
  | .hbm, ⟨62, _⟩ => ⟨S8x4096x1024, .f32⟩
  | .hbm, ⟨63, _⟩ => ⟨S8x4096x1024, .f32⟩
  | .hbm, ⟨64, _⟩ => ⟨S1x1024, .f32⟩
  | .hbm, ⟨65, _⟩ => ⟨S1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S32768x1024, .f32⟩
  | .hbm, ⟨70, _⟩ => ⟨S_, .f32⟩
  | .hbm, ⟨71, _⟩ => ⟨S32768x128, .f32⟩
  | .hbm, ⟨72, _⟩ => ⟨S32768x1152, .f32⟩
  | .hbm, ⟨73, _⟩ => ⟨S_, .i32⟩
  | .hbm, ⟨74, _⟩ => ⟨S8x32768, .i32⟩
  | .hbm, ⟨75, _⟩ => ⟨S_, .f32⟩
  | .hbm, ⟨76, _⟩ => ⟨S32x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_c : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== KernelEx.lean ====
abbrev S39936x1152 : Shape := ⟨2, ![39936, 1152]⟩
abbrev S156 : Shape := ⟨1, ![156]⟩
abbrev S64x1024x512 : Shape := ⟨3, ![64, 1024, 512]⟩
abbrev S64x512x1024 : Shape := ⟨3, ![64, 512, 1024]⟩
abbrev S319488x128 : Shape := ⟨2, ![319488, 128]⟩
abbrev S256x1152 : Shape := ⟨2, ![256, 1152]⟩
abbrev S1 : Shape := ⟨1, ![1]⟩
abbrev S1x1024x512 : Shape := ⟨3, ![1, 1024, 512]⟩
abbrev S1x512x1024 : Shape := ⟨3, ![1, 512, 1024]⟩
abbrev S2048x128 : Shape := ⟨2, ![2048, 128]⟩
abbrev S1024x512 : Shape := ⟨2, ![1024, 512]⟩
abbrev S512x1024 : Shape := ⟨2, ![512, 1024]⟩
abbrev S256x1024 : Shape := ⟨2, ![256, 1024]⟩
abbrev S256x128 : Shape := ⟨2, ![256, 128]⟩
abbrev S256x512 : Shape := ⟨2, ![256, 512]⟩
abbrev S256x1 : Shape := ⟨2, ![256, 1]⟩

abbrev nBuf : Space → Nat
  | .hbm => 5
  | .vmem => 22
  | .smem => 3
  | _ => 0

abbrev bufTy : (tb : Table) → Fin (tcTables nBuf tb) → BufTy
  | .hbm, ⟨0, _⟩ => ⟨S39936x1152, .f32⟩
  | .hbm, ⟨1, _⟩ => ⟨S64x1024x512, .f32⟩
  | .hbm, ⟨2, _⟩ => ⟨S64x1024x512, .f32⟩
  | .hbm, ⟨3, _⟩ => ⟨S64x512x1024, .f32⟩
  | .hbm, ⟨4, _⟩ => ⟨S319488x128, .f32⟩
  | .local _ .vmem, ⟨0, _⟩ => ⟨S256x1152, .f32⟩
  | .local _ .vmem, ⟨1, _⟩ => ⟨S256x1152, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x512x1024, .f32⟩
  | .local _ .vmem, ⟨13, _⟩ => ⟨S1x512x1024, .f32⟩
  | .local _ .vmem, ⟨14, _⟩ => ⟨S2048x128, .f32⟩
  | .local _ .vmem, ⟨15, _⟩ => ⟨S2048x128, .f32⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | .local _ .vmem, ⟨21, _⟩ => ⟨S512x1024, .bf16⟩
  | .local _ .smem, ⟨0, _⟩ => ⟨S156, .i32⟩
  | .local _ .smem, ⟨1, _⟩ => ⟨S156, .i32⟩
  | .local _ .smem, ⟨2, _⟩ => ⟨S156, .i32⟩
  | _, _ => ⟨S39936x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![156], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v13 : Index := Scalar.indexCast arg0
  ![v13.toNat]
def k0_off3 (i : grid0.Coords) : Fin 1 → Nat :=
  let arg0 : BitVec 32 := BitVec.ofNat 32 (i 0).val
  let c1_i32 : BitVec 32 := 1#32
  let v10 : BitVec 32 := Scalar.subi arg0 c1_i32
  let c0_i32_3 : BitVec 32 := 0#32
  let v11 : BitVec 32 := Scalar.maxsi v10 c0_i32_3
  let v15 : Index := Scalar.indexCast v11
  ![v15.toNat]
def k0_off4 (i : grid0.Coords) : Fin 1 → Nat :=
  let arg0 : BitVec 32 := BitVec.ofNat 32 (i 0).val
  let v22 : Index := Scalar.indexCast arg0
  ![v22.toNat]
def k0_off5 (i : grid0.Coords) : Fin 1 → Nat :=
  let arg0 : BitVec 32 := BitVec.ofNat 32 (i 0).val
  let c1_i32 : BitVec 32 := 1#32
  let v10 : BitVec 32 := Scalar.subi arg0 c1_i32
  let c0_i32_3 : BitVec 32 := 0#32
  let v11 : BitVec 32 := Scalar.maxsi v10 c0_i32_3
  let v24 : Index := Scalar.indexCast v11
  ![v24.toNat]
def k0_off6 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond4 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S156.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S156) ![v0.toNat] S1.size (k0_off1_inb i)) numel1_S1
  let v2 : BitVec 32 := Scalar.muli arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S156.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S156) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceExIdeal.lean ====
abbrev S39936x1152 : Shape := ⟨2, ![39936, 1152]⟩
abbrev S156 : Shape := ⟨1, ![156]⟩
abbrev S64x1024x512 : Shape := ⟨3, ![64, 1024, 512]⟩
abbrev S64x512x1024 : Shape := ⟨3, ![64, 512, 1024]⟩
abbrev S39936x1024 : Shape := ⟨2, ![39936, 1024]⟩
abbrev S39936x2 : Shape := ⟨2, ![39936, 2]⟩
abbrev S39936x1 : Shape := ⟨2, ![39936, 1]⟩
abbrev S156x256 : Shape := ⟨2, ![156, 256]⟩
abbrev S39936 : Shape := ⟨1, ![39936]⟩
abbrev S39936x1024x512 : Shape := ⟨3, ![39936, 1024, 512]⟩
abbrev S39936x512x1024 : Shape := ⟨3, ![39936, 512, 1024]⟩
abbrev S39936x512 : Shape := ⟨2, ![39936, 512]⟩
abbrev S_ : Shape := ⟨0, ![]⟩
abbrev S319488x128 : Shape := ⟨2, ![319488, 128]⟩

abbrev nBuf : Space → Nat
  | .hbm => 70
  | .vmem => 0
  | .smem => 0
  | _ => 0

abbrev bufTy : (tb : Table) → Fin (tcTables nBuf tb) → BufTy
  | .hbm, ⟨0, _⟩ => ⟨S39936x1152, .f32⟩
  | .hbm, ⟨1, _⟩ => ⟨S156, .i32⟩
  | .hbm, ⟨2, _⟩ => ⟨S156, .i32⟩
  | .hbm, ⟨3, _⟩ => ⟨S156, .i32⟩
  | .hbm, ⟨4, _⟩ => ⟨S64x1024x512, .f32⟩
  | .hbm, ⟨5, _⟩ => ⟨S64x1024x512, .f32⟩
  | .hbm, ⟨6, _⟩ => ⟨S64x512x1024, .f32⟩
  | .hbm, ⟨7, _⟩ => ⟨S39936x1024, .f32⟩
  | .hbm, ⟨8, _⟩ => ⟨S39936x2, .f32⟩
  | .hbm, ⟨9, _⟩ => ⟨S39936x1, .f32⟩
  | .hbm, ⟨10, _⟩ => ⟨S156x256, .i32⟩
  | .hbm, ⟨11, _⟩ => ⟨S39936, .i32⟩
  | .hbm, ⟨12, _⟩ => ⟨S39936x1, .i32⟩
  | .hbm, ⟨13, _⟩ => ⟨S39936x1024x512, .f32⟩
  | .hbm, ⟨14, _⟩ => ⟨S39936x1, .i32⟩
  | .hbm, ⟨15, _⟩ => ⟨S39936x1024x512, .f32⟩
  | .hbm, ⟨16, _⟩ => ⟨S39936x1, .i32⟩
  | .hbm, ⟨17, _⟩ => ⟨S39936x512x1024, .f32⟩
  | .hbm, ⟨18, _⟩ => ⟨S39936x512, .f32⟩
  | .hbm, ⟨19, _⟩ => ⟨S39936x512, .f32⟩
  | .hbm, ⟨20, _⟩ => ⟨S39936x512, .f32⟩
  | .hbm, ⟨21, _⟩ => ⟨S_, .f32⟩
  | .hbm, ⟨22, _⟩ => ⟨S39936x512, .f32⟩
  | .hbm, ⟨23, _⟩ => ⟨S39936x512, .f32⟩
  | .hbm, ⟨24, _⟩ => ⟨S_, .f32⟩
  | .hbm, ⟨25, _⟩ => ⟨S39936x512, .f32⟩
  | .hbm, ⟨26, _⟩ => ⟨S39936x512, .f32⟩
  | .hbm, ⟨27, _⟩ => ⟨S39936x512, .f32⟩
  | .hbm, ⟨28, _⟩ => ⟨S39936x512, .f32⟩
  | .hbm, ⟨29, _⟩ => ⟨S39936x512, .f32⟩
  | .hbm, ⟨30, _⟩ => ⟨S39936x1024, .f32⟩
  | .hbm, ⟨31, _⟩ => ⟨S39936x1024, .f32⟩
  | .hbm, ⟨32, _⟩ => ⟨S39936x1024, .f32⟩
  | .hbm, ⟨33, _⟩ => ⟨S39936x1, .f32⟩
  | .hbm, ⟨34, _⟩ => ⟨S156x256, .i32⟩
  | .hbm, ⟨35, _⟩ => ⟨S39936, .i32⟩
  | .hbm, ⟨36, _⟩ => ⟨S39936x1, .i32⟩
  | .hbm, ⟨37, _⟩ => ⟨S39936x1024x512, .f32⟩
  | .hbm, ⟨38, _⟩ => ⟨S39936x1, .i32⟩
  | .hbm, ⟨39, _⟩ => ⟨S39936x1024x512, .f32⟩
  | .hbm, ⟨40, _⟩ => ⟨S39936x1, .i32⟩
  | .hbm, ⟨41, _⟩ => ⟨S39936x512x1024, .f32⟩
  | .hbm, ⟨42, _⟩ => ⟨S39936x512, .f32⟩
  | .hbm, ⟨43, _⟩ => ⟨S39936x512, .f32⟩
  | .hbm, ⟨44, _⟩ => ⟨S39936x512, .f32⟩
  | .hbm, ⟨45, _⟩ => ⟨S_, .f32⟩
  | .hbm, ⟨46, _⟩ => ⟨S39936x512, .f32⟩
  | .hbm, ⟨47, _⟩ => ⟨S39936x512, .f32⟩
  | .hbm, ⟨48, _⟩ => ⟨S_, .f32⟩
  | .hbm, ⟨49, _⟩ => ⟨S39936x512, .f32⟩
  | .hbm, ⟨50, _⟩ => ⟨S39936x512, .f32⟩
  | .hbm, ⟨51, _⟩ => ⟨S39936x512, .f32⟩
  | .hbm, ⟨52, _⟩ => ⟨S39936x512, .f32⟩
  | .hbm, ⟨53, _⟩ => ⟨S39936x512, .f32⟩
  | .hbm, ⟨54, _⟩ => ⟨S39936x1024, .f32⟩
  | .hbm, ⟨55, _⟩ => ⟨S39936x1024, .f32⟩
  | .hbm, ⟨56, _⟩ => ⟨S39936x1024, .f32⟩
  | .hbm, ⟨57, _⟩ => ⟨S39936x1024, .f32⟩
  | .hbm, ⟨58, _⟩ => ⟨S156x256, .i32⟩
  | .hbm, ⟨59, _⟩ => ⟨S39936, .i32⟩
  | .hbm, ⟨60, _⟩ => ⟨S39936x1, .i32⟩
  | .hbm, ⟨61, _⟩ => ⟨S_, .i32⟩
  | .hbm, ⟨62, _⟩ => ⟨S39936x1, .i32⟩
  | .hbm, ⟨63, _⟩ => ⟨S39936x1, .i1⟩
  | .hbm, ⟨64, _⟩ => ⟨S_, .f32⟩
  | .hbm, ⟨65, _⟩ => ⟨S_, .f32⟩
  | .hbm, ⟨66, _⟩ => ⟨S39936x1024, .i1⟩
  | .hbm, ⟨67, _⟩ => ⟨S39936x1024, .f32⟩
  | .hbm, ⟨68, _⟩ => ⟨S39936x1024, .f32⟩
  | .hbm, ⟨69, _⟩ => ⟨S319488x128, .f32⟩
  | _, _ => ⟨S39936x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_v5 : Ref sig .tc := ⟨.hbm, 13, rfl⟩
abbrev main_call1_v0 : Ref sig .tc := ⟨.hbm, 14, rfl⟩
abbrev main_v6 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_call3_v0 : Ref sig .tc := ⟨.hbm, 19, rfl⟩
abbrev main_call3_v1 : Ref sig .tc := ⟨.hbm, 20, rfl⟩
abbrev main_call3_cst : Ref sig .tc := ⟨.hbm, 21, rfl⟩
abbrev main_call3_v2 : Ref sig .tc := ⟨.hbm, 22, rfl⟩
abbrev main_call3_v3 : Ref sig .tc := ⟨.hbm, 23, rfl⟩
abbrev main_call3_cst_0 : Ref sig .tc := ⟨.hbm, 24, rfl⟩
abbrev main_call3_v4 : Ref sig .tc := ⟨.hbm, 25, rfl⟩
abbrev main_call3_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call4_v0 : Ref sig .tc := ⟨.hbm, 36, rfl⟩
abbrev main_v18 : Ref sig .tc := ⟨.hbm, 37, rfl⟩
abbrev main_call5_v0 : Ref sig .tc := ⟨.hbm, 38, rfl⟩
abbrev main_v19 : Ref sig .tc := ⟨.hbm, 39, rfl⟩
abbrev main_call6_v0 : Ref sig .tc := ⟨.hbm, 40, rfl⟩
abbrev main_v20 : Ref sig .tc := ⟨.hbm, 41, rfl⟩
abbrev main_v21 : Ref sig .tc := ⟨.hbm, 42, rfl⟩
abbrev main_call7_v0 : Ref sig .tc := ⟨.hbm, 43, rfl⟩
abbrev main_call7_v1 : Ref sig .tc := ⟨.hbm, 44, rfl⟩
abbrev main_call7_cst : Ref sig .tc := ⟨.hbm, 45, rfl⟩
abbrev main_call7_v2 : Ref sig .tc := ⟨.hbm, 46, rfl⟩
abbrev main_call7_v3 : Ref sig .tc := ⟨.hbm, 47, rfl⟩
abbrev main_call7_cst_0 : Ref sig .tc := ⟨.hbm, 48, rfl⟩
abbrev main_call7_v4 : Ref sig .tc := ⟨.hbm, 49, rfl⟩
abbrev main_call7_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c : Ref sig .tc := ⟨.hbm, 61, rfl⟩
abbrev main_v32 : Ref sig .tc := ⟨.hbm, 62, rfl⟩
abbrev main_v33 : Ref sig .tc := ⟨.hbm, 63, rfl⟩
abbrev main_cst : Ref sig .tc := ⟨.hbm, 64, rfl⟩
abbrev main_call8_v0 : Ref sig .tc := ⟨.hbm, 65, rfl⟩
abbrev main_call8_v1 : Ref sig .tc := ⟨.hbm, 66, rfl⟩
abbrev main_call8_v2 : Ref sig .tc := ⟨.hbm, 67, rfl⟩
abbrev main_v34 : Ref sig .tc := ⟨.hbm, 68, rfl⟩
abbrev main_v35 : Ref sig .tc := ⟨.hbm, 69, rfl⟩

abbrev nD : Nat := 1
abbrev τ : Topo := Topo.v7x

variable {F : FTy → Type} [FloatOps F]
-- ==== KernelMx.lean ====
abbrev S32x32x1024 : Shape := ⟨3, ![32, 32, 1024]⟩
abbrev S1024x4104 : Shape := ⟨2, ![1024, 4104]⟩
abbrev S8 : Shape := ⟨1, ![8]⟩
abbrev S4x1024 : Shape := ⟨2, ![4, 1024]⟩
abbrev S512 : Shape := ⟨1, ![512]⟩
abbrev S1024x1024 : Shape := ⟨2, ![1024, 1024]⟩
abbrev S3x1024 : Shape := ⟨2, ![3, 1024]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S1x1024x4104 : Shape := ⟨3, ![1, 1024, 4104]⟩
abbrev S1x8 : Shape := ⟨2, ![1, 8]⟩
abbrev S1x4x1024 : Shape := ⟨3, ![1, 4, 1024]⟩
abbrev S1x512 : Shape := ⟨2, ![1, 512]⟩
abbrev S1x1024x1024 : Shape := ⟨3, ![1, 1024, 1024]⟩
abbrev S1x3x1024 : Shape := ⟨3, ![1, 3, 1024]⟩
abbrev S1024x8 : Shape := ⟨2, ![1024, 8]⟩
abbrev S1024x2048 : Shape := ⟨2, ![1024, 2048]⟩
abbrev S1024x4096 : Shape := ⟨2, ![1024, 4096]⟩
abbrev S_ : Shape := ⟨0, ![]⟩
abbrev S1024x128 : Shape := ⟨2, ![1024, 128]⟩
abbrev S8x1024 : Shape := ⟨2, ![8, 1024]⟩
abbrev S128 : Shape := ⟨1, ![128]⟩
abbrev S1x128 : Shape := ⟨2, ![1, 128]⟩
abbrev S8x1 : Shape := ⟨2, ![8, 1]⟩
abbrev S1024 : Shape := ⟨1, ![1024]⟩
abbrev S1x1024 : Shape := ⟨2, ![1, 1024]⟩
abbrev S32x4x1 : Shape := ⟨3, ![32, 4, 1]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S4 : Shape := ⟨1, ![4]⟩
abbrev S1x32 : Shape := ⟨2, ![1, 32]⟩
abbrev S32x32 : Shape := ⟨2, ![32, 32]⟩
abbrev S4x1x1 : Shape := ⟨3, ![4, 1, 1]⟩
abbrev S1x32x32 : Shape := ⟨3, ![1, 32, 32]⟩
abbrev S4x32x32 : Shape := ⟨3, ![4, 32, 32]⟩
abbrev S4x1 : Shape := ⟨2, ![4, 1]⟩
abbrev S4x32 : Shape := ⟨2, ![4, 32]⟩
abbrev S4x32x1 : Shape := ⟨3, ![4, 32, 1]⟩
abbrev S4x32x128 : Shape := ⟨3, ![4, 32, 128]⟩
abbrev S4x1x128 : Shape := ⟨3, ![4, 1, 128]⟩
abbrev S256x1024 : Shape := ⟨2, ![256, 1024]⟩
abbrev S8x3x1024 : Shape := ⟨3, ![8, 3, 1024]⟩
abbrev S8x4x128x128 : Shape := ⟨4, ![8, 4, 128, 128]⟩
abbrev S8x4x128 : Shape := ⟨3, ![8, 4, 128]⟩
abbrev S1x256x4096 : Shape := ⟨3, ![1, 256, 4096]⟩
abbrev S1x256x128 : Shape := ⟨3, ![1, 256, 128]⟩
abbrev S40x1024 : Shape := ⟨2, ![40, 1024]⟩
abbrev S1024x512 : Shape := ⟨2, ![1024, 512]⟩
abbrev S256x512 : Shape := ⟨2, ![256, 512]⟩
abbrev S1x256x512 : Shape := ⟨3, ![1, 256, 512]⟩
abbrev S256x128 : Shape := ⟨2, ![256, 128]⟩
abbrev S1x32x1024 : Shape := ⟨3, ![1, 32, 1024]⟩
abbrev S32x1024 : Shape := ⟨2, ![32, 1024]⟩
abbrev S1x32x128 : Shape := ⟨3, ![1, 32, 128]⟩
abbrev S8x32 : Shape := ⟨2, ![8, 32]⟩
abbrev S1x1x128x128 : Shape := ⟨4, ![1, 1, 128, 128]⟩
abbrev S128x128 : Shape := ⟨2, ![128, 128]⟩
abbrev S1x1x128 : Shape := ⟨3, ![1, 1, 128]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩

abbrev nBuf : Space → Nat
  | .hbm => 145
  | .vmem => 45
  | .smem => 0
  | _ => 0

abbrev hbmTy0_0 (i : Nat) : BufTy := match i % 128 with
  | 0 => ⟨S32x32x1024, .f32⟩
  | 1 => ⟨S1024x4104, .f32⟩
  | 2 => ⟨S8, .f32⟩
  | 3 => ⟨S4x1024, .f32⟩
  | 4 => ⟨S512, .f32⟩
  | 5 => ⟨S512, .f32⟩
  | 6 => ⟨S1024x1024, .f32⟩
  | 7 => ⟨S3x1024, .f32⟩
  | 8 => ⟨S3x1024, .f32⟩
  | 9 => ⟨S32x3x1024, .f32⟩
  | 10 => ⟨S32x4x128x128, .f32⟩
  | 11 => ⟨S32x4x128, .f32⟩
  | 12 => ⟨S32x4, .f32⟩
  | 13 => ⟨S32x4x128x128, .f32⟩
  | 14 => ⟨S1x1024x4104, .f32⟩
  | 15 => ⟨S1x8, .f32⟩
  | 16 => ⟨S1x4x1024, .f32⟩
  | 17 => ⟨S1x512, .f32⟩
  | 18 => ⟨S1x512, .f32⟩
  | 19 => ⟨S1x1024x1024, .f32⟩
  | 20 => ⟨S1x3x1024, .f32⟩
  | 21 => ⟨S1x3x1024, .f32⟩
  | 22 => ⟨S1024x4104, .f32⟩
  | 23 => ⟨S1024x8, .f32⟩
  | 24 => ⟨S8, .f32⟩
  | 25 => ⟨S1024x2048, .f32⟩
  | 26 => ⟨S1024x2048, .f32⟩
  | 27 => ⟨S1024x4096, .f32⟩
  | 28 => ⟨S1024x4096, .bf16⟩
  | 29 => ⟨S_, .i32⟩
  | 30 => ⟨S_, .f32⟩
  | 31 => ⟨S1024x128, .f32⟩
  | 32 => ⟨S1024x128, .bf16⟩
  | 33 => ⟨S8x1024, .f32⟩
  | 34 => ⟨S8x1024, .bf16⟩
  | 35 => ⟨S_, .i32⟩
  | 36 => ⟨S_, .f32⟩
  | 37 => ⟨S128, .f32⟩
  | 38 => ⟨S1x128, .f32⟩
  | 39 => ⟨S8x1, .f32⟩
  | 40 => ⟨S4x1024, .f32⟩
  | 41 => ⟨S512, .f32⟩
  | 42 => ⟨S512, .f32⟩
  | 43 => ⟨S1024, .f32⟩
  | 44 => ⟨S1x1024, .f32⟩
  | 45 => ⟨S1024x1024, .f32⟩
  | 46 => ⟨S1024x1024, .bf16⟩
  | 47 => ⟨S3x1024, .f32⟩
  | 48 => ⟨S3x1024, .f32⟩
  | 49 => ⟨S32x4x1, .f32⟩
  | 50 => ⟨S32x4x128, .f32⟩
  | 51 => ⟨S32, .i32⟩
  | 52 => ⟨S_, .i32⟩
  | 53 => ⟨S32, .i32⟩
  | 54 => ⟨S32, .i32⟩
  | 55 => ⟨S1024x1024, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S32, .f32⟩
  | 65 => ⟨S32x1, .f32⟩
  | 66 => ⟨S1x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S32x128, .f32⟩
  | 73 => ⟨S32x64, .f32⟩
  | 74 => ⟨S32x128, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S4, .f32⟩
  | 86 => ⟨S32, .f32⟩
  | 87 => ⟨S32x1, .f32⟩
  | 88 => ⟨S1x32, .f32⟩
  | 89 => ⟨S32x32, .f32⟩
  | 90 => ⟨S32x32, .f32⟩
  | 91 => ⟨S32x32, .f32⟩
  | 92 => ⟨S_, .f32⟩
  | 93 => ⟨S32x32, .f32⟩
  | 94 => ⟨S32x32, .i1⟩
  | 95 => ⟨S4x1x1, .f32⟩
  | 96 => ⟨S_, .f32⟩
  | 97 => ⟨S32x32, .f32⟩
  | 98 => ⟨S32x32, .f32⟩
  | 99 => ⟨S1x32x32, .f32⟩
  | 100 => ⟨S4x32x32, .f32⟩
  | 101 => ⟨S4x32x32, .f32⟩
  | 102 => ⟨S4x32x32, .f32⟩
  | 103 => ⟨S4x32x32, .f32⟩
  | 104 => ⟨S_, .f32⟩
  | 105 => ⟨S_, .f32⟩
  | 106 => ⟨S4x32x32, .i1⟩
  | 107 => ⟨S4x32x32, .f32⟩
  | 108 => ⟨S4x32x32, .f32⟩
  | 109 => ⟨S4x1, .f32⟩
  | 110 => ⟨S_, .f32⟩
  | 111 => ⟨S32, .f32⟩
  | 112 => ⟨S32, .f32⟩
  | 113 => ⟨S1x32, .f32⟩
  | 114 => ⟨S4x32, .f32⟩
  | 115 => ⟨S4x32, .f32⟩
  | 116 => ⟨S4x32, .f32⟩
  | 117 => ⟨S4x32, .f32⟩
  | 118 => ⟨S4x1, .f32⟩
  | 119 => ⟨S_, .f32⟩
  | 120 => ⟨S32, .f32⟩
  | 121 => ⟨S32, .f32⟩
  | 122 => ⟨S1x32, .f32⟩
  | 123 => ⟨S4x32, .f32⟩
  | 124 => ⟨S4x32, .f32⟩
  | 125 => ⟨S4x32, .f32⟩
  | 126 => ⟨S4x32, .f32⟩
  | 127 => ⟨S_, .f32⟩
  | _ => ⟨S32x32x1024, .f32⟩

abbrev hbmTy0_1 (i : Nat) : BufTy := match i % 128 with
  | 0 => ⟨S4, .f32⟩
  | 1 => ⟨S4, .f32⟩
  | 2 => ⟨S4, .f32⟩
  | 3 => ⟨S4x32x1, .f32⟩
  | 4 => ⟨S4x32x128, .f32⟩
  | 5 => ⟨S4x32x1, .f32⟩
  | 6 => ⟨S4x32x128, .f32⟩
  | 7 => ⟨S4x1x1, .f32⟩
  | 8 => ⟨S4x1x128, .f32⟩
  | 9 => ⟨S1x1024, .f32⟩
  | 10 => ⟨S1x1024, .f32⟩
  | 11 => ⟨S1024x1024, .f32⟩
  | 12 => ⟨S32x3x1024, .f32⟩
  | 13 => ⟨S32x4x128x128, .f32⟩
  | 14 => ⟨S32x4x128, .f32⟩
  | 15 => ⟨S32x4x128, .f32⟩
  | 16 => ⟨S32x4x128x128, .f32⟩
  | _ => ⟨S32x32x1024, .f32⟩

abbrev hbmTy (i : Nat) : BufTy := match i / 128 with
  | 0 => hbmTy0_0 i
  | 1 => hbmTy0_1 i
  | _ => ⟨S32x32x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1024x128, .bf16⟩
  | .local _ .vmem, ⟨4, _⟩ => ⟨S8x1024, .bf16⟩
  | .local _ .vmem, ⟨5, _⟩ => ⟨S1x128, .f32⟩
  | .local _ .vmem, ⟨6, _⟩ => ⟨S8x1, .f32⟩
  | .local _ .vmem, ⟨7, _⟩ => ⟨S4x1024, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S32x128, .f32⟩
  | .local _ .vmem, ⟨13, _⟩ => ⟨S32x128, .f32⟩
  | .local _ .vmem, ⟨14, _⟩ => ⟨S4x32x32, .f32⟩
  | .local _ .vmem, ⟨15, _⟩ => ⟨S4x32x128, .f32⟩
  | .local _ .vmem, ⟨16, _⟩ => ⟨S4x32x128, .f32⟩
  | .local _ .vmem, ⟨17, _⟩ => ⟨S4x1x128, .f32⟩
  | .local _ .vmem, ⟨18, _⟩ => ⟨S8x3x1024, .f32⟩
  | .local _ .vmem, ⟨19, _⟩ => ⟨S8x3x1024, .f32⟩
  | .local _ .vmem, ⟨20, _⟩ => ⟨S8x4x128x128, .f32⟩
  | .local _ .vmem, ⟨21, _⟩ => ⟨S8x4x128x128, .f32⟩
  | .local _ .vmem, ⟨22, _⟩ => ⟨S8x4x128, .f32⟩
  | .local _ .vmem, ⟨23, _⟩ => ⟨S8x4x128, .f32⟩
  | .local _ .vmem, ⟨24, _⟩ => ⟨S8x4x128, .f32⟩
  | .local _ .vmem, ⟨25, _⟩ => ⟨S8x4x128, .f32⟩
  | .local _ .vmem, ⟨26, _⟩ => ⟨S8x4x128x128, .f32⟩
  | .local _ .vmem, ⟨27, _⟩ => ⟨S8x4x128x128, .f32⟩
  | .local _ .vmem, ⟨28, _⟩ => ⟨S256x1024, .f32⟩
  | .local _ .vmem, ⟨29, _⟩ => ⟨S256x1024, .f32⟩
  | .local _ .vmem, ⟨30, _⟩ => ⟨S8x3x1024, .f32⟩
  | .local _ .vmem, ⟨31, _⟩ => ⟨S8x3x1024, .f32⟩
  | .local _ .vmem, ⟨32, _⟩ => ⟨S8x4x128x128, .f32⟩
  | .local _ .vmem, ⟨33, _⟩ => ⟨S8x4x128x128, .f32⟩
  | .local _ .vmem, ⟨34, _⟩ => ⟨S8x4x128, .f32⟩
  | .local _ .vmem, ⟨35, _⟩ => ⟨S8x4x128, .f32⟩
  | .local _ .vmem, ⟨36, _⟩ => ⟨S8x4x128, .f32⟩
  | .local _ .vmem, ⟨37, _⟩ => ⟨S8x4x128, .f32⟩
  | .local _ .vmem, ⟨38, _⟩ => ⟨S8x4x128x128, .f32⟩
  | .local _ .vmem, ⟨39, _⟩ => ⟨S8x4x128x128, .f32⟩
  | .local _ .vmem, ⟨40, _⟩ => ⟨S1x256x4096, .f32⟩
  | .local _ .vmem, ⟨41, _⟩ => ⟨S1x256x128, .f32⟩
  | .local _ .vmem, ⟨42, _⟩ => ⟨S256x1024, .bf16⟩
  | .local _ .vmem, ⟨43, _⟩ => ⟨S40x1024, .f32⟩
  | .local _ .vmem, ⟨44, _⟩ => ⟨S256x1024, .bf16⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_1 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_3 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_6 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_7 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_8 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v78 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_10 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_11 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106_0 : Ref sig .tc := ⟨.hbm, 139, rfl⟩
abbrev main_v106_1 : Ref sig .tc := ⟨.hbm, 140, rfl⟩
abbrev main_v106_2 : Ref sig .tc := ⟨.hbm, 141, rfl⟩
abbrev main_v106_3 : Ref sig .tc := ⟨.hbm, 142, rfl⟩
abbrev main_v106_4 : Ref sig .tc := ⟨.hbm, 143, rfl⟩
abbrev main_v106_5 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32 : BitVec 32 := 0#32
  let c4_i32 : BitVec 32 := 4#32
  let v76 : BitVec 32 := Scalar.addi c0_i32 c4_i32
  let c1_i32 : BitVec 32 := 1#32
  ⟨c0_i32, v76, c1_i32⟩
def k0_mult1 (k0_t1 : Fin k0_t1_loop.trips) : BitVec 32 :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let c0_i32_73 : BitVec 32 := 0#32
  let v110 : BitVec 32 := Scalar.addi v109 c0_i32_73
  let c32_i32 : BitVec 32 := 32#32
  let v111 : BitVec 32 := Scalar.muli v110 c32_i32
  v111
def k0_off1 (k0_t1 : Fin k0_t1_loop.trips) (c0_i32_73 : BitVec 32) : Fin 3 → Nat :=
  let c0_74 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v113 : Index := Scalar.indexCast v112
  let c0_75 : Index := 0#32
  ![0, v113.toNat, 0]
def k0_off2 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v116 : Index := Scalar.indexCast v110
  let c0_76 : Index := 0#32
  let c0_77 : Index := 0#32
  ![v116.toNat, 0, 0]
def k0_off3 (k0_t1 : Fin k0_t1_loop.trips) (c0_i32_73 : BitVec 32) : Fin 3 → Nat :=
  let c0_90 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v156 : Index := Scalar.indexCast v112
  let c0_91 : Index := 0#32
  ![0, v156.toNat, 0]
def k0_off4 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v161 : Index := Scalar.indexCast v112
  let c0_94 : Index := 0#32
  ![v161.toNat, 0]
def k0_mult2 (k0_t1 : Fin k0_t1_loop.trips) : BitVec 32 :=
  let c0_i32 : BitVec 32 := 0#32
  let c1_i32 : BitVec 32 := 1#32
  let arg35 : BitVec 32 := Scf.iv c0_i32 c1_i32 k0_t1
  let c2_i32_108 : BitVec 32 := 2#32
  let v190 : BitVec 32 := Scalar.muli arg35 c2_i32_108
  let c1_i32_109 : BitVec 32 := 1#32
  let v191 : BitVec 32 := Scalar.addi v190 c1_i32_109
  let c32_i32_110 : BitVec 32 := 32#32
  let v192 : BitVec 32 := Scalar.muli v191 c32_i32_110
  v192
def k0_off5 (k0_t1 : Fin k0_t1_loop.trips) (c0_i32_73 : BitVec 32) : Fin 3 → Nat :=
  let c0_151 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v275 : Index := Scalar.indexCast v112
  let c1024_152 : Index := 1024#32
  ![0, v275.toNat, 1024]
def k0_off6 (k0_t1 : Fin k0_t1_loop.trips) (c0_i32_73 : BitVec 32) : Fin 4 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v278 : Index := Scalar.indexCast v110
  let c0_153 : Index := 0#32
  let c0_154 : Index := 0#32
  let c0_155 : Index := 0#32
  ![v278.toNat, 0, 0, 0]
def k0_off7 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v281 : Index := Scalar.indexCast v110
  let c0_156 : Index := 0#32
  let c0_157 : Index := 0#32
  ![v281.toNat, 0, 0]
def k0_off8 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v284 : Index := Scalar.indexCast v110
  let c0_158 : Index := 0#32
  let c0_159 : Index := 0#32
  ![v284.toNat, 0, 0]
def k0_off9 (k0_t1 : Fin k0_t1_loop.trips) (c0_i32_73 : BitVec 32) : Fin 3 → Nat :=
  let c0_162 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v300 : Index := Scalar.indexCast v112
  let c1152 : Index := 1152#32
  ![0, v300.toNat, 1152]
def k0_off10 (k0_t1 : Fin k0_t1_loop.trips) (c0_i32_73 : BitVec 32) : Fin 4 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v303 : Index := Scalar.indexCast v110
  let c1 : Index := 1#32
  let c0_163 : Index := 0#32
  let c0_164 : Index := 0#32
  ![v303.toNat, 1, 0, 0]
def k0_off11 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v306 : Index := Scalar.indexCast v110
  let c1_165 : Index := 1#32
  let c0_166 : Index := 0#32
  ![v306.toNat, 1, 0]
def k0_off12 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v309 : Index := Scalar.indexCast v110
  let c1_167 : Index := 1#32
  let c0_168 : Index := 0#32
  ![v309.toNat, 1, 0]
def k0_off13 (k0_t1 : Fin k0_t1_loop.trips) (c0_i32_73 : BitVec 32) : Fin 3 → Nat :=
  let c0_256 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v683 : Index := Scalar.indexCast v112
  let c1536_257 : Index := 1536#32
  ![0, v683.toNat, 1536]
def k0_off14 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v714 : Index := Scalar.indexCast v112
  let c0_266 : Index := 0#32
  ![v714.toNat, 0]
def k0_off15 (k0_t1 : Fin k0_t1_loop.trips) (c0_i32_73 : BitVec 32) : Fin 3 → Nat :=
  let c0_267 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v718 : Index := Scalar.indexCast v112
  let c1664 : Index := 1664#32
  ![0, v718.toNat, 1664]
def k0_off16 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v749 : Index := Scalar.indexCast v112
  let c128 : Index := 128#32
  ![v749.toNat, 128]
def k0_off17 (k0_t1 : Fin k0_t1_loop.trips) (c0_i32_73 : BitVec 32) : Fin 3 → Nat :=
  let c0_298 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v823 : Index := Scalar.indexCast v112
  let c2048_299 : Index := 2048#32
  ![0, v823.toNat, 2048]
def k0_off18 (k0_t1 : Fin k0_t1_loop.trips) (c0_i32_73 : BitVec 32) : Fin 3 → Nat :=
  let c0_300 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v826 : Index := Scalar.indexCast v112
  let c2560_301 : Index := 2560#32
  ![0, v826.toNat, 2560]
def k0_off19 (k0_t1 : Fin k0_t1_loop.trips) (c0_i32_73 : BitVec 32) : Fin 3 → Nat :=
  let c0_302 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v829 : Index := Scalar.indexCast v112
  let c3072_303 : Index := 3072#32
  ![0, v829.toNat, 3072]
def k0_off20 (k0_t1 : Fin k0_t1_loop.trips) (c0_i32_73 : BitVec 32) : Fin 3 → Nat :=
  let c0_304 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v836 : Index := Scalar.indexCast v112
  let c2176 : Index := 2176#32
  ![0, v836.toNat, 2176]
def k0_off21 (k0_t1 : Fin k0_t1_loop.trips) (c0_i32_73 : BitVec 32) : Fin 3 → Nat :=
  let c0_305 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v839 : Index := Scalar.indexCast v112
  let c2688 : Index := 2688#32
  ![0, v839.toNat, 2688]
def k0_off22 (k0_t1 : Fin k0_t1_loop.trips) (c0_i32_73 : BitVec 32) : Fin 3 → Nat :=
  let c0_306 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v842 : Index := Scalar.indexCast v112
  let c3200 : Index := 3200#32
  ![0, v842.toNat, 3200]
def k0_off23 (k0_t1 : Fin k0_t1_loop.trips) (c0_i32_73 : BitVec 32) : Fin 3 → Nat :=
  let c0_418 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1035 : Index := Scalar.indexCast v112
  let c3584_419 : Index := 3584#32
  ![0, v1035.toNat, 3584]
def k0_off24 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1067 : Index := Scalar.indexCast v112
  let c512_428 : Index := 512#32
  ![v1067.toNat, 512]
def k0_off25 (k0_t1 : Fin k0_t1_loop.trips) (c0_i32_73 : BitVec 32) : Fin 3 → Nat :=
  let c0_429 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1071 : Index := Scalar.indexCast v112
  let c3712 : Index := 3712#32
  ![0, v1071.toNat, 3712]
def k0_off26 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1103 : Index := Scalar.indexCast v112
  let c640 : Index := 640#32
  ![v1103.toNat, 640]
def k0_off27 (k0_t1 : Fin k0_t1_loop.trips) (c0_i32_73 : BitVec 32) : Fin 3 → Nat :=
  let c0_461 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1183 : Index := Scalar.indexCast v112
  let c1280 : Index := 1280#32
  ![0, v1183.toNat, 1280]
def k0_off28 (k0_t1 : Fin k0_t1_loop.trips) (c0_i32_73 : BitVec 32) : Fin 4 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v1186 : Index := Scalar.indexCast v110
  let c2 : Index := 2#32
  let c0_462 : Index := 0#32
  let c0_463 : Index := 0#32
  ![v1186.toNat, 2, 0, 0]
def k0_off29 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v1189 : Index := Scalar.indexCast v110
  let c2_464 : Index := 2#32
  let c0_465 : Index := 0#32
  ![v1189.toNat, 2, 0]
def k0_off30 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v1192 : Index := Scalar.indexCast v110
  let c2_466 : Index := 2#32
  let c0_467 : Index := 0#32
  ![v1192.toNat, 2, 0]
def k0_off31 (k0_t1 : Fin k0_t1_loop.trips) (c0_i32_73 : BitVec 32) : Fin 3 → Nat :=
  let c0_470 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1208 : Index := Scalar.indexCast v112
  let c1408 : Index := 1408#32
  ![0, v1208.toNat, 1408]
def k0_off32 (k0_t1 : Fin k0_t1_loop.trips) (c0_i32_73 : BitVec 32) : Fin 4 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v1211 : Index := Scalar.indexCast v110
  let c3 : Index := 3#32
  let c0_471 : Index := 0#32
  let c0_472 : Index := 0#32
  ![v1211.toNat, 3, 0, 0]
def k0_off33 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v1214 : Index := Scalar.indexCast v110
  let c3_473 : Index := 3#32
  let c0_474 : Index := 0#32
  ![v1214.toNat, 3, 0]
def k0_off34 (k0_t1 : Fin k0_t1_loop.trips) (c0_i32_73 : BitVec 32) : Fin 3 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let v1217 : Index := Scalar.indexCast v110
  let c3_475 : Index := 3#32
  let c0_476 : Index := 0#32
  ![v1217.toNat, 3, 0]
def k0_off35 (k0_t1 : Fin k0_t1_loop.trips) (c0_i32_73 : BitVec 32) : Fin 3 → Nat :=
  let c0_564 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1591 : Index := Scalar.indexCast v112
  let c1792 : Index := 1792#32
  ![0, v1591.toNat, 1792]
def k0_off36 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1622 : Index := Scalar.indexCast v112
  let c256 : Index := 256#32
  ![v1622.toNat, 256]
def k0_off37 (k0_t1 : Fin k0_t1_loop.trips) (c0_i32_73 : BitVec 32) : Fin 3 → Nat :=
  let c0_573 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1626 : Index := Scalar.indexCast v112
  let c1920 : Index := 1920#32
  ![0, v1626.toNat, 1920]
def k0_off38 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1657 : Index := Scalar.indexCast v112
  let c384 : Index := 384#32
  ![v1657.toNat, 384]
def k0_off39 (k0_t1 : Fin k0_t1_loop.trips) (c0_i32_73 : BitVec 32) : Fin 3 → Nat :=
  let c0_604 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1731 : Index := Scalar.indexCast v112
  let c2304 : Index := 2304#32
  ![0, v1731.toNat, 2304]
def k0_off40 (k0_t1 : Fin k0_t1_loop.trips) (c0_i32_73 : BitVec 32) : Fin 3 → Nat :=
  let c0_605 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1734 : Index := Scalar.indexCast v112
  let c2816 : Index := 2816#32
  ![0, v1734.toNat, 2816]
def k0_off41 (k0_t1 : Fin k0_t1_loop.trips) (c0_i32_73 : BitVec 32) : Fin 3 → Nat :=
  let c0_606 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1737 : Index := Scalar.indexCast v112
  let c3328 : Index := 3328#32
  ![0, v1737.toNat, 3328]
def k0_off42 (k0_t1 : Fin k0_t1_loop.trips) (c0_i32_73 : BitVec 32) : Fin 3 → Nat :=
  let c0_608 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1744 : Index := Scalar.indexCast v112
  let c2432 : Index := 2432#32
  ![0, v1744.toNat, 2432]
def k0_off43 (k0_t1 : Fin k0_t1_loop.trips) (c0_i32_73 : BitVec 32) : Fin 3 → Nat :=
  let c0_609 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1747 : Index := Scalar.indexCast v112
  let c2944 : Index := 2944#32
  ![0, v1747.toNat, 2944]
def k0_off44 (k0_t1 : Fin k0_t1_loop.trips) (c0_i32_73 : BitVec 32) : Fin 3 → Nat :=
  let c0_610 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1750 : Index := Scalar.indexCast v112
  let c3456 : Index := 3456#32
  ![0, v1750.toNat, 3456]
def k0_off45 (k0_t1 : Fin k0_t1_loop.trips) (c0_i32_73 : BitVec 32) : Fin 3 → Nat :=
  let c0_722 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1943 : Index := Scalar.indexCast v112
  let c3840 : Index := 3840#32
  ![0, v1943.toNat, 3840]
def k0_off46 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1975 : Index := Scalar.indexCast v112
  let c768 : Index := 768#32
  ![v1975.toNat, 768]
def k0_off47 (k0_t1 : Fin k0_t1_loop.trips) (c0_i32_73 : BitVec 32) : Fin 3 → Nat :=
  let c0_731 : Index := 0#32
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v1979 : Index := Scalar.indexCast v112
  let c3968 : Index := 3968#32
  ![0, v1979.toNat, 3968]
def k0_off48 (k0_t1 : Fin k0_t1_loop.trips) (c0_i32_73 : BitVec 32) : Fin 2 → Nat :=
  let c0_i32 : BitVec 32 := 0#32
  let c1_i32 : BitVec 32 := 1#32
  let arg35 : BitVec 32 := Scf.iv c0_i32 c1_i32 k0_t1
  let c2_i32 : BitVec 32 := 2#32
  let v109 : BitVec 32 := Scalar.muli arg35 c2_i32
  let v110 : BitVec 32 := Scalar.addi v109 c0_i32_73
  let c32_i32 : BitVec 32 := 32#32
  let v111 : BitVec 32 := Scalar.muli v110 c32_i32
  let v112 : BitVec 32 := v111
  let v2011 : Index := Scalar.indexCast v112
  let c896 : Index := 896#32
  ![v2011.toNat, 896]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, true]

abbrev stage0_13 : Fin 1 → Memref sig .tc .vmem S4x32x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4x32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S4x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S8x3x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S8x4x128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S8x4x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S8x4x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S8x4x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S8x3x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S8x4x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S8x4x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S8x4x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S8x4x128x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]
-- ==== ReferenceMxIdeal.lean ====
abbrev S32x32x1024 : Shape := ⟨3, ![32, 32, 1024]⟩
abbrev S1024x4104 : Shape := ⟨2, ![1024, 4104]⟩
abbrev S8 : Shape := ⟨1, ![8]⟩
abbrev S4x1024 : Shape := ⟨2, ![4, 1024]⟩
abbrev S512 : Shape := ⟨1, ![512]⟩
abbrev S1024x1024 : Shape := ⟨2, ![1024, 1024]⟩
abbrev S3x1024 : Shape := ⟨2, ![3, 1024]⟩
abbrev S32x3x1024 : Shape := ⟨3, ![32, 3, 1024]⟩
abbrev S32x4x128x128 : Shape := ⟨4, ![32, 4, 128, 128]⟩
abbrev S32x4x128 : Shape := ⟨3, ![32, 4, 128]⟩
abbrev S32x4 : Shape := ⟨2, ![32, 4]⟩
abbrev S32x35x1024 : Shape := ⟨3, ![32, 35, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S1024x4104, .f32⟩
  | .hbm, ⟨2, _⟩ => ⟨S8, .f32⟩
  | .hbm, ⟨3, _⟩ => ⟨S4x1024, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S3x1024, .f32⟩
  | .hbm, ⟨8, _⟩ => ⟨S3x1024, .f32⟩
  | .hbm, ⟨9, _⟩ => ⟨S32x3x1024, .f32⟩
  | .hbm, ⟨10, _⟩ => ⟨S32x4x128x128, .f32⟩
  | .hbm, ⟨11, _⟩ => ⟨S32x4x128, .f32⟩
  | .hbm, ⟨12, _⟩ => ⟨S32x4, .f32⟩
  | .hbm, ⟨13, _⟩ => ⟨S32x4x128x128, .f32⟩
  | .hbm, ⟨14, _⟩ => ⟨S1024x1024, .f32⟩
  | .hbm, ⟨15, _⟩ => ⟨S32x32x1024, .f32⟩
  | .hbm, ⟨16, _⟩ => ⟨S32x35x1024, .f32⟩
  | .hbm, ⟨17, _⟩ => ⟨S_, .f32⟩
  | .hbm, ⟨18, _⟩ => ⟨S1024x1024, .f32⟩
  | .hbm, ⟨19, _⟩ => ⟨S32x3x1024, .f32⟩
  | .hbm, ⟨20, _⟩ => ⟨S_, .f32⟩
  | .hbm, ⟨21, _⟩ => ⟨S32x4x128x128, .f32⟩
  | .hbm, ⟨22, _⟩ => ⟨S_, .f32⟩
  | .hbm, ⟨23, _⟩ => ⟨S32x4x128, .f32⟩
  | .hbm, ⟨24, _⟩ => ⟨S_, .f32⟩
  | .hbm, ⟨25, _⟩ => ⟨S32x4x128, .f32⟩
  | .hbm, ⟨26, _⟩ => ⟨S_, .f32⟩
  | .hbm, ⟨27, _⟩ => ⟨S32x4x128x128, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Proof.Kv.lean ====
/- The memory keys and values: the tiled kernel's four result arrays are the plain products. -/
module

public import proofs.«01_k».proof.Defs
public import proofs.«01_k».proof.Proof.Gen.KernelKv.Frame
public import proofs.«01_k».proof.Proof.Gen.KernelKvIdeal.Value
public import proofs.«01_k».proof.Proof.Gen.ReferenceKvIdeal.Run
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Kv

open Cert.KernelKvIdeal Cert.KernelKvIdeal.Gen

variable (m : (ℓ : Loc nD τ sig) → Buf (Elt Ideal) ℓ)

/-- The reference's product of the memory with one weight matrix, its rows in one axis. -/
abbrev REF (X : FVec Ideal S8x256x1024 .f32) (W : FVec Ideal S1024x1024 .f32) : FVec Ideal S2048x1024 .f32 :=
  shapeCast _ (Host.dotGeneral Cert.ReferenceKvIdeal.dot_S8x256x1024_S1024x1024_S8x256x1024_2_0_01_1_n_n none X W)
    Cert.ReferenceKvIdeal.Gen.shapeCasts_S8x256x1024_S2048x1024

/-- The block index of each window at each grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem REF_at (X : FVec Ideal S8x256x1024 .f32) (W : FVec Ideal S1024x1024 .f32) (i : Fin 2048) (j : Fin 1024) :
    REF X W (ix2 i j) = ∑ k : Fin 1024, X (ix3 ⟨i.val / 256, by omega⟩ ⟨i.val % 256, by omega⟩ k) * W (ix2 k j) := by
  pointwise [REF]

theorem pay2_at (X : FVec Ideal S512x1024 .f32) (W : FVec Ideal S1024x1024 .bf16) (i : Fin 512) (j : Fin 1024) :
    k0_pay2 X W (ix2 i j) = ∑ k : Fin 1024, X (ix2 i k) * W (ix2 k j) := by
  pointwise [k0_pay2, k0_pay1]

theorem pay3_at (X : FVec Ideal S512x1024 .f32) (W : FVec Ideal S1024x1024 .bf16) (i : Fin 512) (j : Fin 1024) :
    k0_pay3 X W (ix2 i j) = ∑ k : Fin 1024, X (ix2 i k) * W (ix2 k j) := by
  pointwise [k0_pay3, k0_pay1]

theorem row_lt (t : Fin cfg0.N) (i : Fin 512) : (t.val * 512 + i.val) / 256 < 8 := by
  have h : t.val < 4 := lt_of_lt_of_eq t.isLt N_0
  omega

theorem row_lt' (t : Fin cfg0.N) (i : Fin 512) : t.val * 512 + i.val < 2048 := by
  have h : t.val < 4 := lt_of_lt_of_eq t.isLt N_0
  omega

theorem final3 (c : Dev nD) : (dats m 0 c).arrAt 3 (cfgs 0).N
    = (REF (m ((c : Thread nD τ).loc main_arg0)) (m ((c : Thread nD τ).loc main_arg1))) := by
  refine (dats m 0 c).arrAt_eq_of_covers 3 _ (by decide +kernel) fun t _ y => ?_
  blk_simp
  rw [after0_3]; frame_out
  idx_vars y
  refine (pay2_at _ _ _ _).trans ?_
  have e : (((View.whole main_v3_0).slice (win0_3.rect t)).emb (ix2 y0 y1)) = (ix2 ⟨t.val * 512 + y0.val, row_lt' t y0⟩ y1 : S2048x1024.Idx) := by
    blk_ext [idx t]
  refine Eq.trans ?_ (congrArg (REF (m ((c : Thread nD τ).loc main_arg0)) (m ((c : Thread nD τ).loc main_arg1))) e).symm
  refine Eq.trans ?_ (REF_at _ _ _ _).symm
  blk_point [iblk, V, idx t]

theorem final4 (c : Dev nD) : (dats m 0 c).arrAt 4 (cfgs 0).N
    = (REF (m ((c : Thread nD τ).loc main_arg0)) (m ((c : Thread nD τ).loc main_arg2))) := by
  refine (dats m 0 c).arrAt_eq_of_covers 4 _ (by decide +kernel) fun t _ y => ?_
  blk_simp
  rw [after0_4]; frame_out
  idx_vars y
  refine (pay3_at _ _ _ _).trans ?_
  have e : (((View.whole main_v3_1).slice (win0_4.rect t)).emb (ix2 y0 y1)) = (ix2 ⟨t.val * 512 + y0.val, row_lt' t y0⟩ y1 : S2048x1024.Idx) := by
    blk_ext [idx t]
  refine Eq.trans ?_ (congrArg (REF (m ((c : Thread nD τ).loc main_arg0)) (m ((c : Thread nD τ).loc main_arg2))) e).symm
  refine Eq.trans ?_ (REF_at _ _ _ _).symm
  blk_point [iblk, V, idx t]

theorem final5 (c : Dev nD) : (dats m 0 c).arrAt 5 (cfgs 0).N
    = (truncf .bf16 (REF (m ((c : Thread nD τ).loc main_arg0)) (m ((c : Thread nD τ).loc main_arg1))) Cert.ReferenceKvIdeal.Gen.bitsLt_bf16_f32 : FVec Ideal S2048x1024 .bf16) := by
  refine (dats m 0 c).arrAt_eq_of_covers 5 _ (by decide +kernel) fun t _ y => ?_
  blk_simp
  rw [after0_5]; frame_out
  idx_vars y
  refine (pay2_at _ _ _ _).trans ?_
  have e : (((View.whole main_v3_2).slice (win0_5.rect t)).emb (ix2 y0 y1)) = (ix2 ⟨t.val * 512 + y0.val, row_lt' t y0⟩ y1 : S2048x1024.Idx) := by
    blk_ext [idx t]
  refine Eq.trans ?_ (congrArg (truncf .bf16 (REF (m ((c : Thread nD τ).loc main_arg0)) (m ((c : Thread nD τ).loc main_arg1))) Cert.ReferenceKvIdeal.Gen.bitsLt_bf16_f32 : FVec Ideal S2048x1024 .bf16) e).symm
  refine Eq.trans ?_ (REF_at _ _ _ _).symm
  blk_point [iblk, V, idx t]

theorem final6 (c : Dev nD) : (dats m 0 c).arrAt 6 (cfgs 0).N
    = (truncf .bf16 (REF (m ((c : Thread nD τ).loc main_arg0)) (m ((c : Thread nD τ).loc main_arg2))) Cert.ReferenceKvIdeal.Gen.bitsLt_bf16_f32 : FVec Ideal S2048x1024 .bf16) := by
  refine (dats m 0 c).arrAt_eq_of_covers 6 _ (by decide +kernel) fun t _ y => ?_
  blk_simp
  rw [after0_6]; frame_out
  idx_vars y
  refine (pay3_at _ _ _ _).trans ?_
  have e : (((View.whole main_v3_3).slice (win0_6.rect t)).emb (ix2 y0 y1)) = (ix2 ⟨t.val * 512 + y0.val, row_lt' t y0⟩ y1 : S2048x1024.Idx) := by
    blk_ext [idx t]
  refine Eq.trans ?_ (congrArg (truncf .bf16 (REF (m ((c : Thread nD τ).loc main_arg0)) (m ((c : Thread nD τ).loc main_arg2))) Cert.ReferenceKvIdeal.Gen.bitsLt_bf16_f32 : FVec Ideal S2048x1024 .bf16) e).symm
  refine Eq.trans ?_ (REF_at _ _ _ _).symm
  blk_point [iblk, V, idx t]

end Cert.Proof.Kv

end
-- ==== Proof.XaRef.lean ====
/- Memory attention and the residual layer norm after it, read entry by entry off the reference. -/
module

public import proofs.«01_k».proof.Defs
public import proofs.«01_k».proof.Proof.Gen.ReferenceXaIdeal.Run
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Proof.Xa

/-- One row's softmax weight at lane `n`. -/
def weight (s : Fin 256 → EReal) (n : Fin 256) : EReal :=
  Ideal.div (Ideal.exp (s n - Finset.fold max (Ideal.ofBits FTy.f32 4286578688#32) (fun x => s x) Finset.univ))
    (∑ x, Ideal.exp (s x - Finset.fold max (Ideal.ofBits FTy.f32 4286578688#32) (fun x => s x) Finset.univ))

/-- One query row of one head against the memory: the scaled scores, their softmax, the mean of the values' lane. -/
def head (q : Fin 256 → EReal) (k : Fin 256 → Fin 256 → EReal) (v : Fin 256 → EReal) : EReal :=
  ∑ n, weight (fun n => (∑ d, q d * k n d) * Ideal.ofBits FTy.f32 1031798784#32) n * v n

/-- One row's layer norm at lane `j`, with the lane's gain and bias. -/
def norm (y : Fin 1024 → EReal) (g b : EReal) (j : Fin 1024) : EReal :=
  (y j - Ideal.div (∑ x, y x) (Ideal.ofBits FTy.f32 1149239296#32))
    * Ideal.rsqrt (Ideal.div (∑ x, (y x - Ideal.div (∑ x, y x) (Ideal.ofBits FTy.f32 1149239296#32))
        * (y x - Ideal.div (∑ x, y x) (Ideal.ofBits FTy.f32 1149239296#32))) (Ideal.ofBits FTy.f32 1149239296#32)
        + Ideal.ofBits FTy.f32 925353388#32) * g + b

/-- The residual stream at one lane: the scaled input plus the heads' outputs through one column of the output weights. -/
def mix (x : EReal) (o w : Fin 1024 → EReal) : EReal :=
  Ideal.ofBits FTy.f32 1071072509#32 * x + ∑ l, o l * w l

theorem max_fold (s : Fin 256 → EReal) (b : EReal) : max b (Finset.fold max b s Finset.univ) = Finset.fold max b s Finset.univ :=
  max_eq_right ((Finset.le_fold_max b).2 (Or.inl le_rfl))

open Cert.ReferenceXaIdeal Cert.ReferenceXaIdeal.Gen

abbrev RQ (X : FVec Ideal S8x4096x1024 .f32) (W : FVec Ideal S1024x1024 .f32) : FVec Ideal S8x4096x4x256 .f32 :=
  shapeCast _ (Host.dotGeneral dot_S8x4096x1024_S1024x1024_S8x4096x1024_2_0_01_1_n_n none X W) shapeCasts_S8x4096x1024_S8x4096x4x256

abbrev RS (Q : FVec Ideal S8x4096x4x256 .f32) (K : FVec Ideal S8x256x4x256 .f32) : FVec Ideal S8x4x4096x256 .f32 :=
  mulf (Host.dotGeneral dot_S8x4096x4x256_S8x256x4x256_S8x4x4096x256_3_3_1_1_02_02 none Q K)
    (broadcastInDim S8x4x4096x256 ![] bcast_S_S8x4x4096x256 (constant S_ .f32 0x3D800000#32))

abbrev RX (S : FVec Ideal S8x4x4096x256 .f32) : FVec Ideal S8x4x4096 .f32 :=
  Host.reduce FloatOps.maximumf S (constant S_ .f32 0xFF800000#32) reducesTo_S8x4x4096x256_S8x4x4096_d3 h_S_

abbrev RE (S : FVec Ideal S8x4x4096x256 .f32) (M : FVec Ideal S8x4x4096 .f32) : FVec Ideal S8x4x4096x256 .f32 :=
  Host.exp (subf S (broadcastInDim S8x4x4096x256 ![0, 1, 2, 3] bcast_S8x4x4096x1_S8x4x4096x256_0_1_2_3
    (broadcastInDim S8x4x4096x1 ![0, 1, 2] bcast_S8x4x4096_S8x4x4096x1_0_1_2
      (maximumf (broadcastInDim S8x4x4096 ![] bcast_S_S8x4x4096 (constant S_ .f32 0xFF800000#32)) M))))

abbrev RN (E : FVec Ideal S8x4x4096x256 .f32) : FVec Ideal S8x4x4096x256 .f32 :=
  Host.divf E (broadcastInDim S8x4x4096x256 ![0, 1, 2, 3] bcast_S8x4x4096x1_S8x4x4096x256_0_1_2_3
    (broadcastInDim S8x4x4096x1 ![0, 1, 2] bcast_S8x4x4096_S8x4x4096x1_0_1_2
      (Host.reduceAdd E (constant S_ .f32 0x00000000#32) reducesTo_S8x4x4096x256_S8x4x4096_d3 h_S_)))

abbrev RO (V : FVec Ideal S8x256x4x256 .f32) (P : FVec Ideal S8x4x4096x256 .f32) : FVec Ideal S8x4096x1024 .f32 :=
  shapeCast _ (transpose S8x4096x4x256 [0, 3, 1, 2]
    (Host.dotGeneral dot_S8x256x4x256_S8x4x4096x256_S8x4x256x4096_1_3_3_2_02_01 none V P)
    transposes_S8x4x256x4096_S8x4096x4x256_0_3_1_2) shapeCasts_S8x4096x4x256_S8x4096x1024

abbrev RY (X O : FVec Ideal S8x4096x1024 .f32) (W : FVec Ideal S1024x1024 .f32) : FVec Ideal S8x4096x1024 .f32 :=
  addf (mulf (broadcastInDim S8x4096x1024 ![] bcast_S_S8x4096x1024 (constant S_ .f32 0x3FD744FD#32)) X)
    (Host.dotGeneral dot_S8x4096x1024_S1024x1024_S8x4096x1024_2_0_01_1_n_n none O W)

abbrev RM (Y : FVec Ideal S8x4096x1024 .f32) : FVec Ideal S8x4096x1 .f32 :=
  Host.divf (broadcastInDim S8x4096x1 ![0, 1] bcast_S8x4096_S8x4096x1_0_1
    (Host.reduceAdd Y (constant S_ .f32 0x00000000#32) reducesTo_S8x4096x1024_S8x4096_d2 h_S_))
    (broadcastInDim S8x4096x1 ![] bcast_S_S8x4096x1 (constant S_ .f32 0x44800000#32))

abbrev RD (Y : FVec Ideal S8x4096x1024 .f32) : FVec Ideal S8x4096x1024 .f32 :=
  subf Y (broadcastInDim S8x4096x1024 ![0, 1, 2] bcast_S8x4096x1_S8x4096x1024_0_1_2 (RM Y))

abbrev RG (G : FVec Ideal S3x1024 .f32) : FVec Ideal S8x4096x1024 .f32 :=
  broadcastInDim S8x4096x1024 ![0, 1, 2] bcast_S1x1x1024_S8x4096x1024_0_1_2 (broadcastInDim S1x1x1024 ![2] bcast_S1024_S1x1x1024_2
    (shapeCast _ (extractStridedSlice S1x1024 ![1, 0] G slices_S3x1024_S1x1024_1_0) shapeCasts_S1x1024_S1024))

abbrev RLN (Y : FVec Ideal S8x4096x1024 .f32) (G B : FVec Ideal S3x1024 .f32) : FVec Ideal S8x4096x1024 .f32 :=
  addf (mulf (mulf (RD Y) (broadcastInDim S8x4096x1024 ![0, 1, 2] bcast_S8x4096x1_S8x4096x1024_0_1_2
    (Host.rsqrt (addf (RM (mulf (RD Y) (RD Y))) (broadcastInDim S8x4096x1 ![] bcast_S_S8x4096x1 (constant S_ .f32 0x3727C5AC#32))))))
    (RG G)) (RG B)

abbrev RF (Z : FVec Ideal S8x4096x1024 .f32) : FVec Ideal S32768x1152 .f32 :=
  concatenate S32768x1152 1 [⟨S32768x1024, (shapeCast _ Z shapeCasts_S8x4096x1024_S32768x1024)⟩,
    ⟨S32768x128, (broadcastInDim S32768x128 ![] bcast_S_S32768x128 (constant S_ .f32 0x00000000#32))⟩]
    concatenates_S32768x1024_S32768x128_S32768x1152_d1

/-- The reference's first result as a chain of its stages. -/
abbrev REF (X : FVec Ideal S8x4096x1024 .f32) (K V : FVec Ideal S8x256x4x256 .f32) (WQ WO : FVec Ideal S1024x1024 .f32)
    (G B : FVec Ideal S3x1024 .f32) : FVec Ideal S32768x1152 .f32 :=
  RF (RLN (RY X (RO V (RN (RE (RS (RQ X WQ) K) (RX (RS (RQ X WQ) K))))) WO) G B)

theorem res_eq (m : (ℓ : Loc nD τ sig) → Buf (Elt Ideal) ℓ) (c : Dev nD) :
    Cert.ReferenceXaIdeal.Value.res_main_v53 (F := Ideal) m c
      = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) := by
  unfold Cert.ReferenceXaIdeal.Value.res_main_v53
  refine congrArg RF (?_ : _ = RLN _ _ _)
  refine congrArg (fun y => RLN y _ _) (?_ : _ = RY _ _ _)
  refine congrArg (fun o => RY _ o _) (?_ : _ = RO _ _)
  refine congrArg (fun p => RO _ p) (?_ : _ = RN _)
  refine congrArg RN (?_ : _ = RE _ _)
  rfl

theorem RQ_at (X : FVec Ideal S8x4096x1024 .f32) (W : FVec Ideal S1024x1024 .f32) (b : Fin 8) (t : Fin 4096) (h : Fin 4) (d : Fin 256) :
    RQ X W (ix4 b t h d) = ∑ k : Fin 1024, X (ix3 b t k) * W (ix2 k ⟨h.val * 256 + d.val, by omega⟩) := by
  pointwise [RQ]

theorem RS_at (Q : FVec Ideal S8x4096x4x256 .f32) (K : FVec Ideal S8x256x4x256 .f32) (b : Fin 8) (h : Fin 4) (t : Fin 4096) (n : Fin 256) :
    RS Q K (ix4 b h t n) = (∑ d : Fin 256, Q (ix4 b t h d) * K (ix4 b n h d)) * Ideal.ofBits FTy.f32 1031798784#32 := by
  pointwise [RS]

theorem RX_at (S : FVec Ideal S8x4x4096x256 .f32) (b : Fin 8) (h : Fin 4) (t : Fin 4096) :
    RX S (ix3 b h t) = Finset.fold max (Ideal.ofBits FTy.f32 4286578688#32) (fun x => S (ix4 b h t x)) Finset.univ := by
  pointwise [RX]

theorem RE_at (S : FVec Ideal S8x4x4096x256 .f32) (M : FVec Ideal S8x4x4096 .f32) (b : Fin 8) (h : Fin 4) (t : Fin 4096) (n : Fin 256) :
    RE S M (ix4 b h t n) = Ideal.exp (S (ix4 b h t n) - max (Ideal.ofBits FTy.f32 4286578688#32) (M (ix3 b h t))) := by
  pointwise [RE]

theorem RN_at (E : FVec Ideal S8x4x4096x256 .f32) (b : Fin 8) (h : Fin 4) (t : Fin 4096) (n : Fin 256) :
    RN E (ix4 b h t n) = Ideal.div (E (ix4 b h t n)) (∑ x, E (ix4 b h t x)) := by
  pointwise [RN]

theorem RP_at (S : FVec Ideal S8x4x4096x256 .f32) (b : Fin 8) (h : Fin 4) (t : Fin 4096) (n : Fin 256) :
    RN (RE S (RX S)) (ix4 b h t n) = weight (fun n => S (ix4 b h t n)) n := by
  have e : ∀ n, RE S (RX S) (ix4 b h t n) = Ideal.exp (S (ix4 b h t n)
      - Finset.fold max (Ideal.ofBits FTy.f32 4286578688#32) (fun x => S (ix4 b h t x)) Finset.univ) := fun n => by
    rw [RE_at, RX_at, max_fold]
  rw [RN_at]
  simp only [e]
  unfold weight
  with_reducible rfl

theorem RO_at (V : FVec Ideal S8x256x4x256 .f32) (P : FVec Ideal S8x4x4096x256 .f32) (b : Fin 8) (t : Fin 4096) (h : Fin 4) (d : Fin 256) :
    RO V P (ix3 b t ⟨h.val * 256 + d.val, by omega⟩) = ∑ n : Fin 256, P (ix4 b h t n) * V (ix4 b n h d) := by
  have e : RO V P (ix3 b t ⟨h.val * 256 + d.val, by omega⟩) = ∑ n : Fin 256, V (ix4 b n h d) * P (ix4 b h t n) := by
    pointwise [RO]
  rw [e]
  exact Finset.sum_congr rfl fun n _ => mul_comm _ _

theorem RY_at (X O : FVec Ideal S8x4096x1024 .f32) (W : FVec Ideal S1024x1024 .f32) (b : Fin 8) (t : Fin 4096) (j : Fin 1024) :
    RY X O W (ix3 b t j) = mix (X (ix3 b t j)) (fun l => O (ix3 b t l)) (fun l => W (ix2 l j)) := by
  pointwise [RY, mix]

theorem RLN_at (Y : FVec Ideal S8x4096x1024 .f32) (G B : FVec Ideal S3x1024 .f32) (b : Fin 8) (t : Fin 4096) (j : Fin 1024) :
    RLN Y G B (ix3 b t j) = norm (fun j => Y (ix3 b t j)) (G (ix2 1 j)) (B (ix2 1 j)) j := by
  pointwise [RLN, RD, RM, RG, norm]

theorem RF_at (Z : FVec Ideal S8x4096x1024 .f32) (i : Fin 32768) (j : Fin 1152) (h : j.val < 1024) :
    RF Z (ix2 i j) = Z (ix3 ⟨i.val / 4096, by omega⟩ ⟨i.val % 4096, by omega⟩ ⟨j.val, h⟩) := by
  pointwise [RF]
  rw [dif_pos h]

/-- One entry of the attended, normalised row from its operands' entries: `x` the input row, `wq` and `wo` the query and output
    weights, `k` and `v` the memory by slot and lane. -/
def spec (x : Fin 1024 → EReal) (wq wo : Fin 1024 → Fin 1024 → EReal) (k v : Fin 256 → Fin 1024 → EReal) (g b : EReal) (j : Fin 1024) : EReal :=
  norm (fun j' => mix (x j') (fun l => head (fun d => ∑ c, x c * wq c ⟨l.val / 256 * 256 + d.val, by omega⟩)
    (fun n d => k n ⟨l.val / 256 * 256 + d.val, by omega⟩) (fun n => v n l)) (fun l => wo l j')) g b j

theorem REF_at (X : FVec Ideal S8x4096x1024 .f32) (K V : FVec Ideal S8x256x4x256 .f32) (WQ WO : FVec Ideal S1024x1024 .f32)
    (G B : FVec Ideal S3x1024 .f32) (i : Fin 32768) (j : Fin 1152) (h : j.val < 1024) :
    REF X K V WQ WO G B (ix2 i j) = spec (fun c => X (ix3 ⟨i.val / 4096, by omega⟩ ⟨i.val % 4096, by omega⟩ c))
      (fun c d => WQ (ix2 c d)) (fun c d => WO (ix2 c d))
      (fun n l => K (ix4 ⟨i.val / 4096, by omega⟩ n ⟨l.val / 256, by omega⟩ ⟨l.val % 256, by omega⟩))
      (fun n l => V (ix4 ⟨i.val / 4096, by omega⟩ n ⟨l.val / 256, by omega⟩ ⟨l.val % 256, by omega⟩))
      (G (ix2 1 ⟨j.val, h⟩)) (B (ix2 1 ⟨j.val, h⟩)) ⟨j.val, h⟩ := by
  rw [REF, RF_at _ _ _ h, RLN_at]
  unfold spec
  refine congrArg (fun f => norm f _ _ _) (funext fun j' => ?_)
  rw [RY_at]
  refine congrArg (fun f => mix _ f _) (funext fun l => ?_)
  have hl : l = ⟨(⟨l.val / 256, by omega⟩ : Fin 4).val * 256 + (⟨l.val % 256, by omega⟩ : Fin 256).val, by
      show l.val / 256 * 256 + l.val % 256 < 1024; omega⟩ :=
    Fin.ext (show l.val = l.val / 256 * 256 + l.val % 256 by omega)
  refine (congrArg (fun l => RO V _ (ix3 _ _ l)) hl).trans ?_
  rw [RO_at]
  unfold head
  refine Finset.sum_congr rfl fun n _ => ?_
  rw [RP_at]
  refine congrArg (fun f => weight f n * _) (funext fun n' => ?_)
  rw [RS_at]
  refine congrArg (fun s => s * _) (Finset.sum_congr rfl fun d _ => ?_)
  rw [RQ_at]
  refine congrArg (fun s => _ * s) (congrArg K ?_)
  blk_ext []

end Cert.Proof.Xa

end
-- ==== Proof.Xa.lean ====
/- The cross-attention kernel: the attended, normalised rows it stores are the reference's, entry by entry. -/
module

public import proofs.«01_k».proof.Defs
public import proofs.«01_k».proof.Proof.Gen.KernelXa.Frame
public import proofs.«01_k».proof.Proof.Gen.KernelXaIdeal.Value
public import proofs.«01_k».proof.Proof.Gen.ReferenceXaIdeal.Run
public import proofs.«01_k».proof.Proof.XaRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Xa

open Cert.KernelXaIdeal Cert.KernelXaIdeal.Gen

variable (m : (ℓ : Loc nD τ sig) → Buf (Elt Ideal) ℓ)

theorem pay6_at (X : FVec Ideal S512x1024 .f32) (W : FVec Ideal S1024x1024 .bf16) (i : Fin 512) (j : Fin 1024) :
    k0_pay6 (F := Ideal) X W (ix2 i j) = ∑ k, X (ix2 i k) * W (ix2 k j) := by
  pointwise [k0_pay6, k0_pay5]

theorem head0_at (Q : FVec Ideal S512x256 .bf16) (K V : FVec Ideal S1x256x256 .bf16) (i : Fin 512) (j : Fin 256) :
    k0_pay13 (F := Ideal) (k0_pay10 (k0_pay7 Q K)) V (ix2 i j)
      = head (fun d => Q (ix2 i d)) (fun n d => K (ix3 0 n d)) (fun n => V (ix3 0 n j)) := by
  pointwise [k0_pay13, k0_pay10, k0_pay7, head, weight]

theorem head1_at (Q : FVec Ideal S512x256 .bf16) (K V : FVec Ideal S1x256x256 .bf16) (i : Fin 512) (j : Fin 256) :
    k0_pay14 (F := Ideal) (k0_pay11 (k0_pay8 Q K)) V (ix2 i j)
      = head (fun d => Q (ix2 i d)) (fun n d => K (ix3 0 n d)) (fun n => V (ix3 0 n j)) := by
  pointwise [k0_pay14, k0_pay11, k0_pay8, head, weight]

theorem head2_at (Q : FVec Ideal S512x256 .bf16) (K V : FVec Ideal S1x256x256 .bf16) (i : Fin 512) (j : Fin 256) :
    k0_pay15 (F := Ideal) (k0_pay12 Q K) V (ix2 i j)
      = head (fun d => Q (ix2 i d)) (fun n d => K (ix3 0 n d)) (fun n => V (ix3 0 n j)) := by
  pointwise [k0_pay15, k0_pay12, head, weight]

theorem head3_at (Q : FVec Ideal S512x256 .bf16) (K V : FVec Ideal S1x256x256 .bf16) (i : Fin 512) (j : Fin 256) :
    k0_pay17 (F := Ideal) (k0_pay16 (k0_pay9 Q K) V) (ix2 i j)
      = head (fun d => Q (ix2 i d)) (fun n d => K (ix3 0 n d)) (fun n => V (ix3 0 n j)) := by
  pointwise [k0_pay17, k0_pay16, k0_pay9, head, weight]

theorem pay18_at (X : FVec Ideal S512x1024 .f32) (O : FVec Ideal S512x1024 .bf16) (W : FVec Ideal S1024x1024 .bf16)
    (g b : FVec Ideal S1x1024 .f32) (i : Fin 512) (j : Fin 1024) :
    k0_pay18 (F := Ideal) (k0_pay5 X) O W g b (ix2 i j)
      = norm (fun j' => mix (X (ix2 i j')) (fun l => O (ix2 i l)) (fun l => W (ix2 l j'))) (g (ix2 0 j)) (b (ix2 0 j)) j := by
  pointwise [k0_pay18, k0_pay5, norm, mix]

theorem head_congr {q q' : Fin 256 → EReal} {k k' : Fin 256 → Fin 256 → EReal} {v v' : Fin 256 → EReal}
    (hq : ∀ d, q d = q' d) (hk : ∀ n d, k n d = k' n d) (hv : ∀ n, v n = v' n) : head q k v = head q' k' v' := by
  rw [funext hq, funext fun n => funext (hk n), funext hv]

theorem not_left (i : Fin 512) (j : Fin 1152) (hj : j.val < 1024) :
    (ix2 i j : S512x1152.Idx) ∉ (Rect.unit (s := S512x1152) ![0, 1024] ![512, 128] inb_S512x1152_S512x128_0_1024).set := by
  rw [Rect.mem_set_unit]
  intro h1
  have h2 := (h1 1).1
  simp at h2
  omega

theorem left_emb (i : Fin 512) (j : Fin 1152) (hj : j.val < 1024) :
    (ix2 i j : S512x1152.Idx) = (Rect.unit (s := S512x1152) ![0, 0] ![512, 1024] inb_S512x1152_S512x1024_0_0).emb (ix2 i ⟨j.val, hj⟩ : S512x1024.Idx) := by
  blk_ext []

theorem cols2 {o : ℕ} (i x0 : Fin 512) (c : Fin 1024) (d : Fin 256) (h0 : i.val = x0.val) (h1 : c.val = o + d.val) :
    ∀ a : Fin 2, ((ix2 i c : S512x1024.Idx) a : ℕ) = (![0, o] : Fin 2 → ℕ) a + ((ix2 x0 d : S512x256.Idx) a : ℕ) :=
  Fin.forall_fin_two.mpr ⟨h0.trans (Nat.zero_add _).symm, h1⟩

theorem cols3 {o : ℕ} (n : Fin 256) (c : Fin 1024) (d : Fin 256) (h1 : c.val = o + d.val) :
    ∀ a : Fin 3, ((ix3 0 n c : S1x256x1024.Idx) a : ℕ) = (![0, 0, o] : Fin 3 → ℕ) a + ((ix3 0 n d : S1x256x256.Idx) a : ℕ) := by
  intro a
  match a with
  | 0 => rfl
  | 1 => exact (Nat.zero_add _).symm
  | 2 => exact h1

theorem point (c : Dev nD) (t : Fin cfg0.N) (i : Fin 512) (j : Fin 1152) (hj : j.val < 1024) :
    (outsAt0 m c t.val t.isLt).1 (ix2 i j)
      = spec (fun c' => (iblk m c 0 t : FVec Ideal S512x1024 .f32) (ix2 i c')) (fun a b => (iblk m c 3 t : FVec Ideal S1024x1024 .bf16) (ix2 a b))
          (fun a b => (iblk m c 4 t : FVec Ideal S1024x1024 .bf16) (ix2 a b)) (fun n l => (iblk m c 1 t : FVec Ideal S1x256x1024 .bf16) (ix3 0 n l))
          (fun n l => (iblk m c 2 t : FVec Ideal S1x256x1024 .bf16) (ix3 0 n l)) ((iblk m c 5 t : FVec Ideal S1x1024 .f32) (ix2 0 ⟨j.val, hj⟩))
          ((iblk m c 6 t : FVec Ideal S1x1024 .f32) (ix2 0 ⟨j.val, hj⟩)) ⟨j.val, hj⟩ := by
  by_cases h : t.val % 64 = 0
  · rw [outsAt0_A m c t h]
    dsimp only
    frame_out
    clear h
    rw [View.canon_cons_of_not_mem _ _ (h := ?_)]
    rotate_left
    · exact not_left i j hj
    rw [left_emb i j hj, View.canon_cons_emb]
    refine (pay18_at _ _ _ _ _ _ _).trans ?_
    unfold spec
    refine congrArg (fun f => norm f _ _ _) (funext fun j' => ?_)
    refine congrArg (fun f => mix _ f _) (funext fun l => ?_)
    rw [View.readCov_eq_canon_ld (h := ?_)]
    rotate_left
    · exact View.cover_of_tiled_head _ _ _ rfl
    refine (congrFun (View.ld_unit_lit _ _ (by decide)) _).trans ?_
    canon_tiles x h
    · idx_vars x
      refine (head3_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 768 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 768 + d.val by omega))
      · exact View.ld_unit_apply_of _ _ _ _ _ (ix3 0 n l : S1x256x1024.Idx) (cols3 _ _ _ (by omega))
    · idx_vars x
      refine (head2_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 512 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 512 + d.val by omega))
      · exact View.ld_unit_apply_of _ _ _ _ _ (ix3 0 n l : S1x256x1024.Idx) (cols3 _ _ _ (by omega))
    · idx_vars x
      refine (head1_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 256 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 256 + d.val by omega))
      · exact View.ld_unit_apply_of _ _ _ _ _ (ix3 0 n l : S1x256x1024.Idx) (cols3 _ _ _ (by omega))
    · idx_vars x
      refine (head0_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 0 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 0 + d.val by omega))
      · exact View.ld_unit_apply_of _ _ _ _ _ (ix3 0 n l : S1x256x1024.Idx) (cols3 _ _ _ (by omega))
  · rw [outsAt0_B m c t h]
    dsimp only
    frame_out
    clear h
    rw [View.canon_cons_of_not_mem _ _ (h := ?_)]
    rotate_left
    · exact not_left i j hj
    rw [left_emb i j hj, View.canon_cons_emb]
    refine (pay18_at _ _ _ _ _ _ _).trans ?_
    unfold spec
    refine congrArg (fun f => norm f _ _ _) (funext fun j' => ?_)
    refine congrArg (fun f => mix _ f _) (funext fun l => ?_)
    rw [View.readCov_eq_canon_ld (h := ?_)]
    rotate_left
    · exact View.cover_of_tiled_head _ _ _ rfl
    refine (congrFun (View.ld_unit_lit _ _ (by decide)) _).trans ?_
    canon_tiles x h
    · idx_vars x
      refine (head3_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 768 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 768 + d.val by omega))
      · exact View.ld_unit_apply_of _ _ _ _ _ (ix3 0 n l : S1x256x1024.Idx) (cols3 _ _ _ (by omega))
    · idx_vars x
      refine (head2_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 512 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 512 + d.val by omega))
      · exact View.ld_unit_apply_of _ _ _ _ _ (ix3 0 n l : S1x256x1024.Idx) (cols3 _ _ _ (by omega))
    · idx_vars x
      refine (head1_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 256 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 256 + d.val by omega))
      · exact View.ld_unit_apply_of _ _ _ _ _ (ix3 0 n l : S1x256x1024.Idx) (cols3 _ _ _ (by omega))
    · idx_vars x
      refine (head0_at _ _ _ _ _).trans (head_congr (fun d => ?_) (fun n d => ?_) (fun n => ?_))
      · rw [View.readCov_eq_canon_ld (h := ?_)]
        rotate_left
        · exact View.cover_of_tiled_head _ _ _ rfl
        refine (View.ld_unit_apply_of _ _ _ _ _ (ix2 i ⟨l.val / 256 * 256 + d.val, by omega⟩ : S512x1024.Idx)
          (cols2 _ _ _ _ h0 (show l.val / 256 * 256 + d.val = 0 + d.val by omega))).trans ?_
        refine (congrFun (View.canon_cons_unit_lit _ _ _ (by decide)) _).trans ?_
        exact pay6_at _ _ _ _
      · exact View.ld_unit_apply_of _ _ _ _ _ (ix3 0 n ⟨l.val / 256 * 256 + d.val, by omega⟩ : S1x256x1024.Idx)
          (cols3 _ _ _ (show l.val / 256 * 256 + d.val = 0 + d.val by omega))
      · exact View.ld_unit_apply_of _ _ _ _ _ (ix3 0 n l : S1x256x1024.Idx) (cols3 _ _ _ (by omega))

theorem idx : ∀ t : Fin cfg0.N, win0_0.index t = ![t.val, 0] ∧ win0_1.index t = ![t.val / 8, 0, 0] ∧ win0_2.index t = ![t.val / 8, 0, 0]
    ∧ win0_3.index t = ![0, 0] ∧ win0_4.index t = ![0, 0] ∧ win0_5.index t = ![0, 0] ∧ win0_6.index t = ![0, 0]
    ∧ win0_10.index t = ![t.val, 0] :=
  (by decide +kernel : ∀ t : Fin grid0.N, _)

theorem spec_congr {x x' : Fin 1024 → EReal} {wq wq' wo wo' : Fin 1024 → Fin 1024 → EReal} {k k' v v' : Fin 256 → Fin 1024 → EReal}
    {g g' b b' : EReal} (j : Fin 1024) (hx : ∀ c, x c = x' c) (hq : ∀ c d, wq c d = wq' c d) (ho : ∀ c d, wo c d = wo' c d)
    (hk : ∀ n c, k n c = k' n c) (hv : ∀ n c, v n c = v' n c) (hg : g = g') (hb : b = b') :
    spec x wq wo k v g b j = spec x' wq' wo' k' v' g' b' j := by
  rw [funext hx, funext fun c => funext (hq c), funext fun c => funext (ho c), funext fun c => funext (hk c), funext fun c => funext (hv c), hg, hb]

theorem row_lt (t : Fin cfg0.N) (i : Fin 512) : t.val * 512 + i.val < 32768 := by
  have h : t.val < 64 := lt_of_lt_of_eq t.isLt N_0
  omega

/-- Every lane below the model width of the kernel's first result is the reference's. -/
theorem final10 (c : Dev nD) (i : S32768x1152.Idx) : (i 1).val < 1024 → (dats m 0 c).arrAt 10 (cfgs 0).N i
    = REF (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) i := by
  refine (dats m 0 c).arrAt_forall_of_covers 10 (fun i v => (i 1).val < 1024 → v = REF (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6)) i) (by decide +kernel) (fun t hf y => ?_) i
  blk_simp
  intro hj
  rw [after0_10]
  idx_vars y
  have e : (((View.whole main_v18_0).slice (win0_10.rect t)).emb (ix2 y0 y1)) = (ix2 ⟨t.val * 512 + y0.val, row_lt t y0⟩ y1 : S32768x1152.Idx) := by
    blk_ext [idx t]
  have hj' : y1.val < 1024 := by
    exact Nat.lt_of_le_of_lt (Nat.le_add_left _ _) hj
  refine (point m c t y0 y1 hj').trans ?_
  refine Eq.trans ?_ (congrArg (REF (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) (m ((c : Thread nD τ).loc main_arg6))) e).symm
  refine Eq.trans ?_ (REF_at _ _ _ _ _ _ _ _ _ hj').symm
  refine spec_congr _ (fun a => ?_) (fun a b => ?_) (fun a b => ?_) (fun n a => ?_) (fun n a => ?_) ?_ ?_
  · blk_point [iblk, V, idx t]
  · blk_point [iblk, V, idx t]
  · blk_point [iblk, V, idx t]
  · blk_point [iblk, V, idx t]
  · blk_point [iblk, V, idx t]
  · blk_point [iblk, V, idx t]
  · blk_point [iblk, V, idx t]

end Cert.Proof.Xa

end
-- ==== Proof.ExRun.lean ====
/- The expert kernel's body, run once on whole staging memrefs. -/
module

public import proofs.«01_k».proof.Proof.Gen.KernelExIdeal.Launch
public import proofs.«01_k».proof.Proof.Gen.KernelExIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit
public import Idealize.ShloMosaic.Lib.WholeRead

@[expose] public section

set_option maxRecDepth 16384

noncomputable section

namespace Cert.Proof.Ex

open Cert.KernelExIdeal Cert.KernelExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three prefetched tables, as the body is handed them. -/
abbrev tab0 : Memref sig .tc .smem S156 .i32 := Memref.whole main_arg1
abbrev tab1 : Memref sig .tc .smem S156 .i32 := Memref.whole main_arg2
abbrev tab2 : Memref sig .tc .smem S156 .i32 := Memref.whole main_arg3
abbrev Words (c : Dev nD) (M : Memref sig .tc .smem S156 .i32) : Type := Buf (Elt F) (M.view.loc (c : Thread nD τ))
abbrev held (c : Dev nD) (M : Memref sig .tc .smem S156 .i32) (f : Words (F := F) c M) : sProp 𝕄 :=
  M.view.loc (c : Thread nD τ) ↦{fullShare.right} f

/-- The word of a table at an offset of the body's. -/
abbrev wordAt (c : Dev nD) (M : Memref sig .tc .smem S156 .i32) (f : Words (F := F) c M) (o : Fin 1 → Nat)
    (h : ∀ a, o a + S1.size a ≤ S156.size a) : BitVec 32 :=
  M.view.readAt (Elt F) (Rect.unit (s := S156) o S1.size h).toLoadRect f (Shape.Idx.first (numel1_S1.symm ▸ Nat.one_pos))

/-- The condition under which the body rounds a block's weights anew: the first point, or another expert than before. -/
abbrev fresh (i : grid0.Coords) (v w : BitVec 32) : Prop :=
  Scalar.cmpi .ne (Scalar.extui (Scalar.ori (Scalar.cmpi .eq (BitVec.ofNat 32 (i 0).val) 0#32) (Scalar.cmpi .ne v w)) : BitVec 32) 0#32 = 1#1

/-- A whole memref stored over with `p` under a condition, outside of which it holds `p` already, holds `p`. -/
theorem read_kept {sp : Space} {S : Shape} {e : EltTy} {M : Memref sig .tc sp S e} (hM : M.IsWhole) (q : Prop) [Decidable q]
    (X p : S.Idx → Elt F e) {off : Fin S.rank → ℕ} (inb : ∀ a, off a + S.size a ≤ S.size a) (h : ¬ q → X = p) :
    M.view.read (Elt F) (if hc : q then M.view.writes (Elt F) (hM.unread X) [⟨Rect.unit off S.size inb, p⟩] else hM.unread X) = p := by
  by_cases hq : q
  · rw [dif_pos hq]; exact View.read_writes_full _ _ inb p []
  · rw [dif_neg hq, hM.read_unread, h hq]

theorem load_kept {sp : Space} {S : Shape} {e : EltTy} {M : Memref sig .tc sp S e} (hM : M.IsWhole) (q : Prop) [Decidable q]
    (X p : S.Idx → Elt F e) {off off' : Fin S.rank → ℕ} (inb : ∀ a, off a + S.size a ≤ S.size a)
    (inb' : ∀ a, off' a + S.size a ≤ S.size a) (h : ¬ q → X = p) :
    M.view.readAt (Elt F) (Rect.unit off' S.size inb').toLoadRect
      (if hc : q then M.view.writes (Elt F) (hM.unread X) [⟨Rect.unit off S.size inb, p⟩] else hM.unread X) = p := by
  rw [View.readAt_full]; exact read_kept hM q X p inb h

theorem load_whole {sp : Space} {S : Shape} {e : EltTy} {M : Memref sig .tc sp S e} (hM : M.IsWhole) (X : S.Idx → Elt F e)
    {off : Fin S.rank → ℕ} (inb : ∀ a, off a + S.size a ≤ S.size a) :
    M.view.readAt (Elt F) (Rect.unit off S.size inb).toLoadRect (hM.unread X) = X := by
  rw [View.readAt_full, hM.read_unread]

/-- A block's rows: the two experts' outputs on them, weighted and added. -/
def rowsOf (x0 : Vec F S256x1152 .f32) (w0 w1 : FVec F S1024x512 .bf16) (w2 : FVec F S512x1024 .bf16)
    (w3 w4 : FVec F S1024x512 .bf16) (w5 : FVec F S512x1024 .bf16) : FVec F S256x1024 .f32 :=
  k0_pay17 (View.ld x0 (Rect.unit (s := S256x1152) ![0, 1024] S256x128.size inb_S256x1152_S256x128_0_1024))
    (k0_pay12 (View.ld x0 (Rect.unit (s := S256x1152) ![0, 0] S256x1024.size inb_S256x1152_S256x1024_0_0)) w0)
    (k0_pay13 (View.ld x0 (Rect.unit (s := S256x1152) ![0, 0] S256x1024.size inb_S256x1152_S256x1024_0_0)) w3)
    (k0_pay14 (View.ld x0 (Rect.unit (s := S256x1152) ![0, 0] S256x1024.size inb_S256x1152_S256x1024_0_0)) w1)
    (k0_pay15 (View.ld x0 (Rect.unit (s := S256x1152) ![0, 0] S256x1024.size inb_S256x1152_S256x1024_0_0)) w4)
    (k0_pay16 (View.ld x0 (Rect.unit (s := S256x1152) ![0, 0] S256x1024.size inb_S256x1152_S256x1024_0_0)) w0)
    (Scalar.ofBits .f32 0x3F800000#32) w2 w5

/-- The block as it is stored: each row of 1024 as eight rows of 128. -/
def spread (Y : S256x1024.Idx → F .f32) : S2048x128.Idx → F .f32 := fun y =>
  Y (ix2 ⟨(y 0).val / 8, by have : (y 0).val < 2048 := (y 0).isLt; omega⟩
    ⟨(y 0).val % 8 * 128 + (y 1).val, by have : (y 1).val < 128 := (y 1).isLt; omega⟩)

theorem spread_piece (Y : FVec F S256x1024 .f32) (k : Nat) (hk : k < 8) (inb) (hs) (sl : S256x1024.Slices ![0, k * 128] S256x128)
    (x : S256x128.Idx) :
    extractStridedSlice S256x128 ![0, k * 128] Y sl x
      = spread Y ((⟨⟨![k, 0], S256x128.size, ![8, 1], inb⟩, hs⟩ : Rect S2048x128).emb x) := by
  have h0 : (x 0).val < 256 := (x 0).isLt
  have h1 : (x 1).val < 128 := (x 1).isLt
  refine congrArg Y (funext fun a => Fin.ext ?_)
  match a with
  | ⟨0, _⟩ => show 0 + (x 0).val = (k + 8 * (x 0).val) / 8; omega
  | ⟨1, _⟩ => show k * 128 + (x 1).val = (k + 8 * (x 0).val) % 8 * 128 + (0 + 1 * (x 1).val); omega

theorem mem_spread (k : Nat) (inb) (hs) (y : S2048x128.Idx) (h : (y 0).val % 8 = k) :
    y ∈ (⟨⟨![k, 0], S256x128.size, ![8, 1], inb⟩, hs⟩ : Rect S2048x128).set := by
  have h0 : (y 0).val < 2048 := (y 0).isLt
  have h1 : (y 1).val < 128 := (y 1).isLt
  rw [LoadRect.mem_set]
  intro a
  match a with
  | ⟨0, _⟩ => exact ⟨(y 0).val / 8, show (y 0).val / 8 < 256 by omega, show (y 0).val = k + 8 * ((y 0).val / 8) by omega⟩
  | ⟨1, _⟩ => exact ⟨(y 1).val, h1, show (y 1).val = 0 + 1 * (y 1).val by omega⟩

set_option maxHeartbeats 2000000 in
theorem run_live (c : Dev nD) (i : grid0.Coords)
    (arg4 : Memref sig .tc .vmem S256x1152 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1x1024x512 .f32) (harg8 : arg8.IsWhole)
    (arg9 : Memref sig .tc .vmem S1x1024x512 .f32) (harg9 : arg9.IsWhole)
    (arg10 : Memref sig .tc .vmem S1x512x1024 .f32) (harg10 : arg10.IsWhole)
    (arg11 : Memref sig .tc .vmem S2048x128 .f32) (harg11 : arg11.IsWhole)
    (arg12 : Memref sig .tc .vmem S1024x512 .bf16) (harg12 : arg12.IsWhole)
    (arg13 : Memref sig .tc .vmem S1024x512 .bf16) (harg13 : arg13.IsWhole)
    (arg14 : Memref sig .tc .vmem S512x1024 .bf16) (harg14 : arg14.IsWhole)
    (arg15 : Memref sig .tc .vmem S1024x512 .bf16) (harg15 : arg15.IsWhole)
    (arg16 : Memref sig .tc .vmem S1024x512 .bf16) (harg16 : arg16.IsWhole)
    (arg17 : Memref sig .tc .vmem S512x1024 .bf16) (harg17 : arg17.IsWhole)
    (x0 : Vec F S256x1152 .f32) (x1 : Vec F S1x1024x512 .f32) (x2 : Vec F S1x1024x512 .f32) (x3 : Vec F S1x512x1024 .f32) (x4 : Vec F S1x1024x512 .f32) (x5 : Vec F S1x1024x512 .f32) (x6 : Vec F S1x512x1024 .f32)
    (s0 : Vec F S1024x512 .bf16) (s1 : Vec F S1024x512 .bf16) (s2 : Vec F S512x1024 .bf16) (s3 : Vec F S1024x512 .bf16) (s4 : Vec F S1024x512 .bf16) (s5 : Vec F S512x1024 .bf16)
    (xt0 : Words (F := F) c tab0) (xt1 : Words (F := F) c tab1) (xt2 : Words (F := F) c tab2)
    (hv : k0_cond1 (wordAt c tab2 xt2 (k0_off1 i) (k0_off1_inb i)) = 1#1)
    (hz : ¬ k0_cond4 (wordAt c tab2 xt2 (k0_off6 i) (k0_off6_inb i)) = 1#1)
    (hA : ¬ fresh i (wordAt c tab0 xt0 (k0_off2 i) (k0_off2_inb i)) (wordAt c tab0 xt0 (k0_off3 i) (k0_off3_inb i)) →
      s0 = k0_pay5 x1 ∧ s1 = k0_pay6 x2 ∧ s2 = k0_pay7 x3)
    (hB : ¬ fresh i (wordAt c tab1 xt1 (k0_off4 i) (k0_off4_inb i)) (wordAt c tab1 xt1 (k0_off5 i) (k0_off5_inb i)) →
      s3 = k0_pay8 x4 ∧ s4 = k0_pay9 x5 ∧ s5 = k0_pay10 x6)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4 ∗ owns (c : Thread nD τ) arg17 fullShare s5 ∗ held c tab0 xt0 ∗ held c tab1 xt1 ∗ held c tab2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (spread (rowsOf x0 (k0_pay5 x1) (k0_pay6 x2) (k0_pay7 x3) (k0_pay8 x4) (k0_pay9 x5) (k0_pay10 x6))) ∗ owns (c : Thread nD τ) arg12 fullShare (k0_pay5 x1) ∗ owns (c : Thread nD τ) arg13 fullShare (k0_pay6 x2) ∗ owns (c : Thread nD τ) arg14 fullShare (k0_pay7 x3) ∗ owns (c : Thread nD τ) arg15 fullShare (k0_pay8 x4) ∗ owns (c : Thread nD τ) arg16 fullShare (k0_pay9 x5) ∗ owns (c : Thread nD τ) arg17 fullShare (k0_pay10 x6) ∗ held c tab0 xt0 ∗ held c tab1 xt1 ∗ held c tab2 xt2) -∗ K ⟨⟩))
      ⊢ wp frame (wpE (defs₀ (F := F)) Variants.none c none) E
          (cc0_experts i tab0 (Memref.isWhole_whole _) tab1 (Memref.isWhole_whole _) tab2 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, HS0⟩, ⟨%g1, %hg1, HS1⟩, ⟨%g2, %hg2, HS2⟩, ⟨%g3, %hg3, HS3⟩, ⟨%g4, %hg4, HS4⟩, ⟨%g5, %hg5, HS5⟩, HT0, HT1, HT2, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  obtain rfl := harg12.eq_unread hg0; obtain rfl := harg13.eq_unread hg1; obtain rfl := harg14.eq_unread hg2
  obtain rfl := harg15.eq_unread hg3; obtain rfl := harg16.eq_unread hg4; obtain rfl := harg17.eq_unread hg5
  sl_exec (disch := first | sl_exact hv | sl_exact hz)
  sl_step
  have e61 : run_live.sl.v61 c i arg7 harg7 arg14 harg14 x3 s2 xt0 = k0_pay7 x3 :=
    (load_kept harg14 _ s2 _ _ _ fun h => ((hA h).2.2.trans (congrArg k0_pay7 (load_whole harg7 x3 _).symm))).trans (congrArg k0_pay7 (load_whole harg7 x3 _))
  have e63 : run_live.sl.v63 c i arg10 harg10 arg17 harg17 x6 s5 xt1 = k0_pay10 x6 :=
    (load_kept harg17 _ s5 _ _ _ fun h => ((hB h).2.2.trans (congrArg k0_pay10 (load_whole harg10 x6 _).symm))).trans (congrArg k0_pay10 (load_whole harg10 x6 _))
  have e33 : run_live.sl.v33 c i arg5 harg5 arg12 harg12 x1 s0 xt0 = k0_pay5 x1 :=
    (load_kept harg12 _ s0 _ _ _ fun h => ((hA h).1.trans (congrArg k0_pay5 (load_whole harg5 x1 _).symm))).trans (congrArg k0_pay5 (load_whole harg5 x1 _))
  have e37 : run_live.sl.v37 c i arg6 harg6 arg13 harg13 x2 s1 xt0 = k0_pay6 x2 :=
    (load_kept harg13 _ s1 _ _ _ fun h => ((hA h).2.1.trans (congrArg k0_pay6 (load_whole harg6 x2 _).symm))).trans (congrArg k0_pay6 (load_whole harg6 x2 _))
  have e35 : run_live.sl.v35 c i arg8 harg8 arg15 harg15 x4 s3 xt1 = k0_pay8 x4 :=
    (load_kept harg15 _ s3 _ _ _ fun h => ((hB h).1.trans (congrArg k0_pay8 (load_whole harg8 x4 _).symm))).trans (congrArg k0_pay8 (load_whole harg8 x4 _))
  have e39 : run_live.sl.v39 c i arg9 harg9 arg16 harg16 x5 s4 xt1 = k0_pay9 x5 :=
    (load_kept harg16 _ s4 _ _ _ fun h => ((hB h).2.1.trans (congrArg k0_pay9 (load_whole harg9 x5 _).symm))).trans (congrArg k0_pay9 (load_whole harg9 x5 _))
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    unfold run_live.sl.r_12 run_live.sl.r_11
    unfold run_live.sl.r_5 run_live.sl.r_6 run_live.sl.r_7 run_live.sl.r_8 run_live.sl.r_9 run_live.sl.r_10
    rw [e61, e63, e33, e35, e37, e39]
    simp only [View.readAt_eq_ld, harg4.read_unread]
    funext y
    refine View.read_writes_apply_of_pieces _ f7 (spread _) _ ?_ y ?_
    · refine List.forall_mem_cons.mpr ⟨fun x => spread_piece (rowsOf x0 (k0_pay5 x1) (k0_pay6 x2) (k0_pay7 x3) (k0_pay8 x4) (k0_pay9 x5) (k0_pay10 x6)) 7 (by decide) _ _ slices_S256x1024_o0_896_S256x128 x, ?_⟩
      refine List.forall_mem_cons.mpr ⟨fun x => spread_piece (rowsOf x0 (k0_pay5 x1) (k0_pay6 x2) (k0_pay7 x3) (k0_pay8 x4) (k0_pay9 x5) (k0_pay10 x6)) 6 (by decide) _ _ slices_S256x1024_o0_768_S256x128 x, ?_⟩
      refine List.forall_mem_cons.mpr ⟨fun x => spread_piece (rowsOf x0 (k0_pay5 x1) (k0_pay6 x2) (k0_pay7 x3) (k0_pay8 x4) (k0_pay9 x5) (k0_pay10 x6)) 5 (by decide) _ _ slices_S256x1024_o0_640_S256x128 x, ?_⟩
      refine List.forall_mem_cons.mpr ⟨fun x => spread_piece (rowsOf x0 (k0_pay5 x1) (k0_pay6 x2) (k0_pay7 x3) (k0_pay8 x4) (k0_pay9 x5) (k0_pay10 x6)) 4 (by decide) _ _ slices_S256x1024_o0_512_S256x128 x, ?_⟩
      refine List.forall_mem_cons.mpr ⟨fun x => spread_piece (rowsOf x0 (k0_pay5 x1) (k0_pay6 x2) (k0_pay7 x3) (k0_pay8 x4) (k0_pay9 x5) (k0_pay10 x6)) 3 (by decide) _ _ slices_S256x1024_o0_384_S256x128 x, ?_⟩
      refine List.forall_mem_cons.mpr ⟨fun x => spread_piece (rowsOf x0 (k0_pay5 x1) (k0_pay6 x2) (k0_pay7 x3) (k0_pay8 x4) (k0_pay9 x5) (k0_pay10 x6)) 2 (by decide) _ _ slices_S256x1024_o0_256_S256x128 x, ?_⟩
      refine List.forall_mem_cons.mpr ⟨fun x => spread_piece (rowsOf x0 (k0_pay5 x1) (k0_pay6 x2) (k0_pay7 x3) (k0_pay8 x4) (k0_pay9 x5) (k0_pay10 x6)) 1 (by decide) _ _ slices_S256x1024_o0_128_S256x128 x, ?_⟩
      exact List.forall_mem_singleton.mpr fun x => spread_piece (rowsOf x0 (k0_pay5 x1) (k0_pay6 x2) (k0_pay7 x3) (k0_pay8 x4) (k0_pay9 x5) (k0_pay10 x6)) 0 (by decide) _ _ slices_S256x1024_o0_0_S256x128 x
    · have hy : (y 0).val % 8 < 8 := Nat.mod_lt _ (by decide)
      obtain h | h | h | h | h | h | h | h : (y 0).val % 8 = 7 ∨ (y 0).val % 8 = 6 ∨ (y 0).val % 8 = 5 ∨ (y 0).val % 8 = 4
          ∨ (y 0).val % 8 = 3 ∨ (y 0).val % 8 = 2 ∨ (y 0).val % 8 = 1 ∨ (y 0).val % 8 = 0 := by omega
      · exact ⟨_, .head _, mem_spread _ _ _ y h⟩
      · exact ⟨_, .tail _ (.head _), mem_spread _ _ _ y h⟩
      · exact ⟨_, .tail _ (.tail _ (.head _)), mem_spread _ _ _ y h⟩
      · exact ⟨_, .tail _ (.tail _ (.tail _ (.head _))), mem_spread _ _ _ y h⟩
      · exact ⟨_, .tail _ (.tail _ (.tail _ (.tail _ (.head _)))), mem_spread _ _ _ y h⟩
      · exact ⟨_, .tail _ (.tail _ (.tail _ (.tail _ (.tail _ (.head _))))), mem_spread _ _ _ y h⟩
      · exact ⟨_, .tail _ (.tail _ (.tail _ (.tail _ (.tail _ (.tail _ (.head _)))))), mem_spread _ _ _ y h⟩
      · exact ⟨_, .tail _ (.tail _ (.tail _ (.tail _ (.tail _ (.tail _ (.tail _ (.head _))))))), mem_spread _ _ _ y h⟩
  isplitl [HS0]
  · iexists _; isplitr
    swap; · iexact HS0
    ipureintro
    exact (read_kept harg12 _ s0 _ _ fun h => ((hA h).1.trans (congrArg k0_pay5 (load_whole harg5 x1 _).symm))).trans (congrArg k0_pay5 (load_whole harg5 x1 _))
  isplitl [HS1]
  · iexists _; isplitr
    swap; · iexact HS1
    ipureintro
    exact (read_kept harg13 _ s1 _ _ fun h => ((hA h).2.1.trans (congrArg k0_pay6 (load_whole harg6 x2 _).symm))).trans (congrArg k0_pay6 (load_whole harg6 x2 _))
  isplitl [HS2]
  · iexists _; isplitr
    swap; · iexact HS2
    ipureintro
    exact (read_kept harg14 _ s2 _ _ fun h => ((hA h).2.2.trans (congrArg k0_pay7 (load_whole harg7 x3 _).symm))).trans (congrArg k0_pay7 (load_whole harg7 x3 _))
  isplitl [HS3]
  · iexists _; isplitr
    swap; · iexact HS3
    ipureintro
    exact (read_kept harg15 _ s3 _ _ fun h => ((hB h).1.trans (congrArg k0_pay8 (load_whole harg8 x4 _).symm))).trans (congrArg k0_pay8 (load_whole harg8 x4 _))
  isplitl [HS4]
  · iexists _; isplitr
    swap; · iexact HS4
    ipureintro
    exact (read_kept harg16 _ s4 _ _ fun h => ((hB h).2.1.trans (congrArg k0_pay9 (load_whole harg9 x5 _).symm))).trans (congrArg k0_pay9 (load_whole harg9 x5 _))
  isplitl [HS5]
  · iexists _; isplitr
    swap; · iexact HS5
    ipureintro
    exact (read_kept harg17 _ s5 _ _ fun h => ((hB h).2.2.trans (congrArg k0_pay10 (load_whole harg10 x6 _).symm))).trans (congrArg k0_pay10 (load_whole harg10 x6 _))
  isplitl [HT0]; · iexact HT0
  isplitl [HT1]; · iexact HT1
  iexact HT2

set_option maxHeartbeats 2000000 in
theorem run_still (c : Dev nD) (i : grid0.Coords)
    (arg4 : Memref sig .tc .vmem S256x1152 .f32) (harg4 : arg4.IsWhole)
    (arg5 : Memref sig .tc .vmem S1x1024x512 .f32) (harg5 : arg5.IsWhole)
    (arg6 : Memref sig .tc .vmem S1x1024x512 .f32) (harg6 : arg6.IsWhole)
    (arg7 : Memref sig .tc .vmem S1x512x1024 .f32) (harg7 : arg7.IsWhole)
    (arg8 : Memref sig .tc .vmem S1x1024x512 .f32) (harg8 : arg8.IsWhole)
    (arg9 : Memref sig .tc .vmem S1x1024x512 .f32) (harg9 : arg9.IsWhole)
    (arg10 : Memref sig .tc .vmem S1x512x1024 .f32) (harg10 : arg10.IsWhole)
    (arg11 : Memref sig .tc .vmem S2048x128 .f32) (harg11 : arg11.IsWhole)
    (arg12 : Memref sig .tc .vmem S1024x512 .bf16) (harg12 : arg12.IsWhole)
    (arg13 : Memref sig .tc .vmem S1024x512 .bf16) (harg13 : arg13.IsWhole)
    (arg14 : Memref sig .tc .vmem S512x1024 .bf16) (harg14 : arg14.IsWhole)
    (arg15 : Memref sig .tc .vmem S1024x512 .bf16) (harg15 : arg15.IsWhole)
    (arg16 : Memref sig .tc .vmem S1024x512 .bf16) (harg16 : arg16.IsWhole)
    (arg17 : Memref sig .tc .vmem S512x1024 .bf16) (harg17 : arg17.IsWhole)
    (x0 : Vec F S256x1152 .f32) (x1 : Vec F S1x1024x512 .f32) (x2 : Vec F S1x1024x512 .f32) (x3 : Vec F S1x512x1024 .f32) (x4 : Vec F S1x1024x512 .f32) (x5 : Vec F S1x1024x512 .f32) (x6 : Vec F S1x512x1024 .f32)
    (s0 : Vec F S1024x512 .bf16) (s1 : Vec F S1024x512 .bf16) (s2 : Vec F S512x1024 .bf16) (s3 : Vec F S1024x512 .bf16) (s4 : Vec F S1024x512 .bf16) (s5 : Vec F S512x1024 .bf16)
    (xt0 : Words (F := F) c tab0) (xt1 : Words (F := F) c tab1) (xt2 : Words (F := F) c tab2)
    (hv : ¬ k0_cond1 (wordAt c tab2 xt2 (k0_off1 i) (k0_off1_inb i)) = 1#1)
    (hz : k0_cond4 (wordAt c tab2 xt2 (k0_off6 i) (k0_off6_inb i)) = 1#1)
    (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ (∃ d, owns (c : Thread nD τ) arg11 fullShare d) ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4 ∗ owns (c : Thread nD τ) arg17 fullShare s5 ∗ held c tab0 xt0 ∗ held c tab1 xt1 ∗ held c tab2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare (k0_pay4 (F := F)) ∗ owns (c : Thread nD τ) arg12 fullShare s0 ∗ owns (c : Thread nD τ) arg13 fullShare s1 ∗ owns (c : Thread nD τ) arg14 fullShare s2 ∗ owns (c : Thread nD τ) arg15 fullShare s3 ∗ owns (c : Thread nD τ) arg16 fullShare s4 ∗ owns (c : Thread nD τ) arg17 fullShare s5 ∗ held c tab0 xt0 ∗ held c tab1 xt1 ∗ held c tab2 xt2) -∗ K ⟨⟩))
      ⊢ wp frame (wpE (defs₀ (F := F)) Variants.none c none) E
          (cc0_experts i tab0 (Memref.isWhole_whole _) tab1 (Memref.isWhole_whole _) tab2 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_experts_eq_skeleton]; unfold cc0_experts_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, HS0⟩, ⟨%g1, %hg1, HS1⟩, ⟨%g2, %hg2, HS2⟩, ⟨%g3, %hg3, HS3⟩, ⟨%g4, %hg4, HS4⟩, ⟨%g5, %hg5, HS5⟩, HT0, HT1, HT2, Hk⟩
  obtain rfl := harg4.eq_unread hf0; obtain rfl := harg5.eq_unread hf1; obtain rfl := harg6.eq_unread hf2; obtain rfl := harg7.eq_unread hf3
  obtain rfl := harg8.eq_unread hf4; obtain rfl := harg9.eq_unread hf5; obtain rfl := harg10.eq_unread hf6
  obtain rfl := harg12.eq_unread hg0; obtain rfl := harg13.eq_unread hg1; obtain rfl := harg14.eq_unread hg2
  obtain rfl := harg15.eq_unread hg3; obtain rfl := harg16.eq_unread hg4; obtain rfl := harg17.eq_unread hg5
  sl_exec (disch := first | sl_exact hv | sl_exact hz)
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; · ipureintro; exact harg9.read_unread _
    iexact H5
  isplitl [H6]
  · iexists _; isplitr; · ipureintro; exact harg10.read_unread _
    iexact H6
  isplitl [H7]
  · iexists _; isplitr
    swap; · iexact H7
    ipureintro
    exact View.read_writes_full _ _ _ _ []
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  isplitl [HS3]
  · iexists _; isplitr; · ipureintro; exact harg15.read_unread _
    iexact HS3
  isplitl [HS4]
  · iexists _; isplitr; · ipureintro; exact harg16.read_unread _
    iexact HS4
  isplitl [HS5]
  · iexists _; isplitr; · ipureintro; exact harg17.read_unread _
    iexact HS5
  isplitl [HT0]; · iexact HT0
  isplitl [HT1]; · iexact HT1
  iexact HT2

end Cert.Proof.Ex

end
-- ==== Proof.ExKit.lean ====
/- The expert kernel's frame: what each grid point leaves, and what the scratch weights hold between points. -/
module

public import proofs.«01_k».proof.Proof.ExRun

@[expose] public section

set_option maxRecDepth 16384

noncomputable section

namespace Cert.Proof.Ex

open Cert.KernelExIdeal Cert.KernelExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer as the launch finds it. -/
abbrev at0 (c : Dev nD) (b : Ref sig .tc) : Buf (Elt F) ((c : Thread nD τ).loc b) := m ((c : Thread nD τ).loc b)

set_option maxHeartbeats 800000 in
/-- The program is its one pipelined call, entered on the launch memory. -/
theorem enters (𝒱₀ : Variants) : Pipeline.HMainP (Ix := Unit) (Name := ℕ) (U := UR sig nD τ) (Lvl := ℕ) pcfgs 0 defs₀ 𝒱₀ m (main (F := F)) (at0 m) :=
  Pipeline.hmainP_region pcfgs 0 defs₀ 𝒱₀ m main fun c => (main_chain c).trans rfl

/-- The prefetched tables' contents. -/
def tables : pre0.Contents (Elt F) := fun j => at0 m (0 : Dev nD) (pre0.ref j)

theorem tables_at (c : Dev nD) (j : Fin 3) : at0 m c (pre0.ref j) = tables m j := by
  obtain rfl : c = 0 := Subsingleton.elim _ _
  rfl

/-- Every block the tables ask for lies inside its array. -/
abbrev Fits : Prop := ok0 (F := F) (tables m)
abbrev fitted (hO : Fits m) : (pcfg0 (F := F)).Adm := ⟨tables m, hO⟩
abbrev pipe (hO : Fits m) : Pipeline.Cfg sig Λ₀ := cfg0 (fitted m hO)

theorem tables_held (c : Dev nD) : (Pipeline.ΦT pre0 (tables m) c : sProp 𝕄)
    = iprop(held c tab0 (tables m 0) ∗ held c tab1 (tables m 1) ∗ held c tab2 (tables m 2)) := by
  unfold Pipeline.ΦT Pipeline.prefHeld
  rw [show (Finset.univ : Finset (Fin 3)) = insert 0 (insert 1 {2}) from by decide, bigSep_insert (by decide),
    bigSep_insert (by decide), bigSep_singleton]
  rfl

/-! ## The tables' words -/

/-- Word `n` of each table: the first expert, the second expert, and whether the block counts. -/
def ea (n : Fin 156) : BitVec 32 := tables m 0 (ix1 n)
def eb (n : Fin 156) : BitVec 32 := tables m 1 (ix1 n)
def vd (n : Fin 156) : BitVec 32 := tables m 2 (ix1 n)

/-- The point before (the first point itself at the first). -/
abbrev back (n : Fin 156) : Fin 156 := ⟨n.val - 1, by have := n.isLt; omega⟩

theorem here1 : ∀ t : Fin grid0.N, k0_off1 (grid0.coords t) 0 = t.val := (by decide +kernel : ∀ t : Fin grid0.N, _)
theorem here2 : ∀ t : Fin grid0.N, k0_off2 (grid0.coords t) 0 = t.val := (by decide +kernel : ∀ t : Fin grid0.N, _)
theorem here4 : ∀ t : Fin grid0.N, k0_off4 (grid0.coords t) 0 = t.val := (by decide +kernel : ∀ t : Fin grid0.N, _)
theorem here6 : ∀ t : Fin grid0.N, k0_off6 (grid0.coords t) 0 = t.val := (by decide +kernel : ∀ t : Fin grid0.N, _)
theorem back3 : ∀ t : Fin grid0.N, k0_off3 (grid0.coords t) 0 = t.val - 1 := (by decide +kernel : ∀ t : Fin grid0.N, _)
theorem back5 : ∀ t : Fin grid0.N, k0_off5 (grid0.coords t) 0 = t.val - 1 := (by decide +kernel : ∀ t : Fin grid0.N, _)
theorem first_word : ∀ t : Fin grid0.N, (BitVec.ofNat 32 ((grid0.coords t) 0).val = 0#32 ↔ t.val = 0) := (by decide +kernel : ∀ t : Fin grid0.N, _)

theorem word0 (o : Fin 1 → Nat) (h) (n : Fin 156) (ho : o 0 = n.val) : wordAt (F := F) 0 tab0 (tables m 0) o h = ea m n := by
  refine congrArg (tables m 0) (funext fun (a : Fin 1) => Fin.ext ?_)
  obtain rfl : a = 0 := Subsingleton.elim _ _
  show o 0 + 1 * 0 = n.val
  omega
theorem entry0 (o : Fin 1 → Nat) (h) (n : Fin 156) (ho : o 0 = n.val) : (tables m).at 0 (Rect.unit (s := S156) o S1.size h) numel1_S1 = ea m n :=
  word0 m o h n ho

theorem word1 (o : Fin 1 → Nat) (h) (n : Fin 156) (ho : o 0 = n.val) : wordAt (F := F) 0 tab1 (tables m 1) o h = eb m n := by
  refine congrArg (tables m 1) (funext fun (a : Fin 1) => Fin.ext ?_)
  obtain rfl : a = 0 := Subsingleton.elim _ _
  show o 0 + 1 * 0 = n.val
  omega
theorem entry1 (o : Fin 1 → Nat) (h) (n : Fin 156) (ho : o 0 = n.val) : (tables m).at 1 (Rect.unit (s := S156) o S1.size h) numel1_S1 = eb m n :=
  word1 m o h n ho

theorem word2 (o : Fin 1 → Nat) (h) (n : Fin 156) (ho : o 0 = n.val) : wordAt (F := F) 0 tab2 (tables m 2) o h = vd m n := by
  refine congrArg (tables m 2) (funext fun (a : Fin 1) => Fin.ext ?_)
  obtain rfl : a = 0 := Subsingleton.elim _ _
  show o 0 + 1 * 0 = n.val
  omega
theorem entry2 (o : Fin 1 → Nat) (h) (n : Fin 156) (ho : o 0 = n.val) : (tables m).at 2 (Rect.unit (s := S156) o S1.size h) numel1_S1 = vd m n :=
  word2 m o h n ho

/-- What a point leaves of the counting word: 1 or 0, and never 1 after a 0. -/
structure Tame : Prop where
  bit : ∀ n : Fin 156, vd m n = 1#32 ∨ vd m n = 0#32
  run : ∀ n : Fin 156, vd m n = 1#32 → vd m (back n) = 1#32

/-! ## The blocks -/

/-- Window `w`'s block at point `t`, as the launch finds its array. -/
def blkOf (hO : Fits m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (at0 m c (Pipeline.arrRef spec0 w))

theorem map1 (t : Fin grid0.N) : cc0_transform_1 k0_off1_inb numel1_S1 (tables m) (grid0.coords t) = ![(ea m t).toNat, 0, 0] := by
  have h := entry0 m (k0_off1 (grid0.coords t)) (k0_off1_inb _) t (here1 t)
  exact congrArg (fun v : BitVec 32 => ![v.toNat, 0, 0]) h
/-- Window 1's block depends on the point through the expert alone. -/
theorem blk1_same (hO : Fits m) (c : Dev nD) (t s : Fin grid0.N) (h : ea m t = ea m s) :
    (blkOf m hO c 1 t : Vec F S1x1024x512 .f32) = blkOf m hO c 1 s := by
  have hm : cc0_transform_1 k0_off1_inb numel1_S1 (tables m) (grid0.coords t) = cc0_transform_1 k0_off1_inb numel1_S1 (tables m) (grid0.coords s) := by
    rw [map1, map1, h]
  funext x
  refine congrArg (at0 m c (Pipeline.arrRef spec0 1)) (funext fun a => Fin.ext ?_)
  show cc0_transform_1 k0_off1_inb numel1_S1 (tables m) (grid0.coords t) a * S1x1024x512.size a + 1 * (x a).val
    = cc0_transform_1 k0_off1_inb numel1_S1 (tables m) (grid0.coords s) a * S1x1024x512.size a + 1 * (x a).val
  rw [hm]

theorem map2 (t : Fin grid0.N) : cc0_transform_2 k0_off1_inb numel1_S1 (tables m) (grid0.coords t) = ![(ea m t).toNat, 0, 0] := by
  have h := entry0 m (k0_off1 (grid0.coords t)) (k0_off1_inb _) t (here1 t)
  exact congrArg (fun v : BitVec 32 => ![v.toNat, 0, 0]) h
/-- Window 2's block depends on the point through the expert alone. -/
theorem blk2_same (hO : Fits m) (c : Dev nD) (t s : Fin grid0.N) (h : ea m t = ea m s) :
    (blkOf m hO c 2 t : Vec F S1x1024x512 .f32) = blkOf m hO c 2 s := by
  have hm : cc0_transform_2 k0_off1_inb numel1_S1 (tables m) (grid0.coords t) = cc0_transform_2 k0_off1_inb numel1_S1 (tables m) (grid0.coords s) := by
    rw [map2, map2, h]
  funext x
  refine congrArg (at0 m c (Pipeline.arrRef spec0 2)) (funext fun a => Fin.ext ?_)
  show cc0_transform_2 k0_off1_inb numel1_S1 (tables m) (grid0.coords t) a * S1x1024x512.size a + 1 * (x a).val
    = cc0_transform_2 k0_off1_inb numel1_S1 (tables m) (grid0.coords s) a * S1x1024x512.size a + 1 * (x a).val
  rw [hm]

theorem map3 (t : Fin grid0.N) : cc0_transform_3 k0_off1_inb numel1_S1 (tables m) (grid0.coords t) = ![(ea m t).toNat, 0, 0] := by
  have h := entry0 m (k0_off1 (grid0.coords t)) (k0_off1_inb _) t (here1 t)
  exact congrArg (fun v : BitVec 32 => ![v.toNat, 0, 0]) h
/-- Window 3's block depends on the point through the expert alone. -/
theorem blk3_same (hO : Fits m) (c : Dev nD) (t s : Fin grid0.N) (h : ea m t = ea m s) :
    (blkOf m hO c 3 t : Vec F S1x512x1024 .f32) = blkOf m hO c 3 s := by
  have hm : cc0_transform_3 k0_off1_inb numel1_S1 (tables m) (grid0.coords t) = cc0_transform_3 k0_off1_inb numel1_S1 (tables m) (grid0.coords s) := by
    rw [map3, map3, h]
  funext x
  refine congrArg (at0 m c (Pipeline.arrRef spec0 3)) (funext fun a => Fin.ext ?_)
  show cc0_transform_3 k0_off1_inb numel1_S1 (tables m) (grid0.coords t) a * S1x512x1024.size a + 1 * (x a).val
    = cc0_transform_3 k0_off1_inb numel1_S1 (tables m) (grid0.coords s) a * S1x512x1024.size a + 1 * (x a).val
  rw [hm]

theorem map4 (t : Fin grid0.N) : cc0_transform_4 k0_off1_inb numel1_S1 (tables m) (grid0.coords t) = ![(eb m t).toNat, 0, 0] := by
  have h := entry1 m (k0_off1 (grid0.coords t)) (k0_off1_inb _) t (here1 t)
  exact congrArg (fun v : BitVec 32 => ![v.toNat, 0, 0]) h
/-- Window 4's block depends on the point through the expert alone. -/
theorem blk4_same (hO : Fits m) (c : Dev nD) (t s : Fin grid0.N) (h : eb m t = eb m s) :
    (blkOf m hO c 4 t : Vec F S1x1024x512 .f32) = blkOf m hO c 4 s := by
  have hm : cc0_transform_4 k0_off1_inb numel1_S1 (tables m) (grid0.coords t) = cc0_transform_4 k0_off1_inb numel1_S1 (tables m) (grid0.coords s) := by
    rw [map4, map4, h]
  funext x
  refine congrArg (at0 m c (Pipeline.arrRef spec0 4)) (funext fun a => Fin.ext ?_)
  show cc0_transform_4 k0_off1_inb numel1_S1 (tables m) (grid0.coords t) a * S1x1024x512.size a + 1 * (x a).val
    = cc0_transform_4 k0_off1_inb numel1_S1 (tables m) (grid0.coords s) a * S1x1024x512.size a + 1 * (x a).val
  rw [hm]

theorem map5 (t : Fin grid0.N) : cc0_transform_5 k0_off1_inb numel1_S1 (tables m) (grid0.coords t) = ![(eb m t).toNat, 0, 0] := by
  have h := entry1 m (k0_off1 (grid0.coords t)) (k0_off1_inb _) t (here1 t)
  exact congrArg (fun v : BitVec 32 => ![v.toNat, 0, 0]) h
/-- Window 5's block depends on the point through the expert alone. -/
theorem blk5_same (hO : Fits m) (c : Dev nD) (t s : Fin grid0.N) (h : eb m t = eb m s) :
    (blkOf m hO c 5 t : Vec F S1x1024x512 .f32) = blkOf m hO c 5 s := by
  have hm : cc0_transform_5 k0_off1_inb numel1_S1 (tables m) (grid0.coords t) = cc0_transform_5 k0_off1_inb numel1_S1 (tables m) (grid0.coords s) := by
    rw [map5, map5, h]
  funext x
  refine congrArg (at0 m c (Pipeline.arrRef spec0 5)) (funext fun a => Fin.ext ?_)
  show cc0_transform_5 k0_off1_inb numel1_S1 (tables m) (grid0.coords t) a * S1x1024x512.size a + 1 * (x a).val
    = cc0_transform_5 k0_off1_inb numel1_S1 (tables m) (grid0.coords s) a * S1x1024x512.size a + 1 * (x a).val
  rw [hm]

theorem map6 (t : Fin grid0.N) : cc0_transform_6 k0_off1_inb numel1_S1 (tables m) (grid0.coords t) = ![(eb m t).toNat, 0, 0] := by
  have h := entry1 m (k0_off1 (grid0.coords t)) (k0_off1_inb _) t (here1 t)
  exact congrArg (fun v : BitVec 32 => ![v.toNat, 0, 0]) h
/-- Window 6's block depends on the point through the expert alone. -/
theorem blk6_same (hO : Fits m) (c : Dev nD) (t s : Fin grid0.N) (h : eb m t = eb m s) :
    (blkOf m hO c 6 t : Vec F S1x512x1024 .f32) = blkOf m hO c 6 s := by
  have hm : cc0_transform_6 k0_off1_inb numel1_S1 (tables m) (grid0.coords t) = cc0_transform_6 k0_off1_inb numel1_S1 (tables m) (grid0.coords s) := by
    rw [map6, map6, h]
  funext x
  refine congrArg (at0 m c (Pipeline.arrRef spec0 6)) (funext fun a => Fin.ext ?_)
  show cc0_transform_6 k0_off1_inb numel1_S1 (tables m) (grid0.coords t) a * S1x512x1024.size a + 1 * (x a).val
    = cc0_transform_6 k0_off1_inb numel1_S1 (tables m) (grid0.coords s) a * S1x512x1024.size a + 1 * (x a).val
  rw [hm]

end Cert.Proof.Ex

end
-- ==== Proof.ExFrame.lean ====
/- The expert kernel's frame: what each grid point leaves, and what the scratch weights hold between points. -/
module

public import proofs.«01_k».proof.Proof.ExKit

@[expose] public section

set_option maxRecDepth 16384

noncomputable section

namespace Cert.Proof.Ex

open Cert.KernelExIdeal Cert.KernelExIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem either_bit : ∀ a b : Bool, (a || b) = true →
    BitVec.ofBool (BitVec.setWidth 32 (BitVec.ofBool a ||| BitVec.ofBool b) != 0#32) = 1#1 := by decide
/-- A block of weights kept as it is: not the first point, and the expert of the point before. -/
theorem kept_of_not_fresh (t : Fin grid0.N) (v w : BitVec 32) (h : ¬ fresh (grid0.coords t) v w) : t.val ≠ 0 ∧ v = w := by
  constructor
  · exact fun h0 => h (either_bit (BitVec.ofNat 32 ((grid0.coords t) 0).val == 0#32) (v != w) (by simp only [(first_word t).mpr h0]; rfl))
  · by_contra hvw
    exact h (either_bit (BitVec.ofNat 32 ((grid0.coords t) 0).val == 0#32) (v != w) (by simp [hvw]))

theorem vd_of_atD (o : Fin 1 → Nat) (n : Fin 156) (ho : o 0 = n.val) : (tables m).atD 2 o = vd m n := by
  have hlt : ∀ a : Fin 1, o a + 1 ≤ S156.size a := fun a => by
    obtain rfl : a = 0 := Subsingleton.elim _ _
    rw [ho]; exact n.isLt
  refine (dif_pos hlt).trans (congrArg (tables m 2) (funext fun (a : Fin 1) => Fin.ext ?_))
  obtain rfl : a = 0 := Subsingleton.elim _ _
  exact ho

/-- What point `t` leaves in the output's block. -/
def outOf (hO : Fits m) (c : Dev nD) (t : Fin grid0.N) : Vec F S2048x128 .f32 :=
  if vd m t = 1#32 then
    spread (rowsOf (blkOf m hO c 0 t) (k0_pay5 (blkOf m hO c 1 t)) (k0_pay6 (blkOf m hO c 2 t)) (k0_pay7 (blkOf m hO c 3 t))
      (k0_pay8 (blkOf m hO c 4 t)) (k0_pay9 (blkOf m hO c 5 t)) (k0_pay10 (blkOf m hO c 6 t)))
  else k0_pay4 (F := F)

/-- What the scratch weights hold when point `t` is entered: the rounded weights of the point before, if that one counted. -/
def Carried (hO : Fits m) (c : Dev nD) (t : Fin (grid0.N + 1)) (s0 s1 : Vec F S1024x512 .bf16) (s2 : Vec F S512x1024 .bf16)
    (s3 s4 : Vec F S1024x512 .bf16) (s5 : Vec F S512x1024 .bf16) : Prop :=
  ∀ p : Fin grid0.N, p.val + 1 = t.val → vd m p = 1#32 →
    (s0 = k0_pay5 (blkOf m hO c 1 p) ∧ s1 = k0_pay6 (blkOf m hO c 2 p) ∧ s2 = k0_pay7 (blkOf m hO c 3 p))
    ∧ (s3 = k0_pay8 (blkOf m hO c 4 p) ∧ s4 = k0_pay9 (blkOf m hO c 5 p) ∧ s5 = k0_pay10 (blkOf m hO c 6 p))

abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2
abbrev sc3 : Memref sig .tc .vmem S1024x512 .bf16 := Memref.whole cc0_scratch3
abbrev sc4 : Memref sig .tc .vmem S1024x512 .bf16 := Memref.whole cc0_scratch4
abbrev sc5 : Memref sig .tc .vmem S512x1024 .bf16 := Memref.whole cc0_scratch5

theorem scratch_held (c : Dev nD) : (Pipeline.ΦA spec0 c : sProp 𝕄)
    = iprop(iprop((∃ d, owns (c : Thread nD τ) sc0 fullShare d) ∗ (∃ d, owns (c : Thread nD τ) sc1 fullShare d) ∗ (∃ d, owns (c : Thread nD τ) sc2 fullShare d)
      ∗ (∃ d, owns (c : Thread nD τ) sc3 fullShare d) ∗ (∃ d, owns (c : Thread nD τ) sc4 fullShare d) ∗ (∃ d, owns (c : Thread nD τ) sc5 fullShare d))
      ∗ (∃ r, prngReg c r)) := by
  unfold Pipeline.ΦA
  rw [scopedRest0_eq]
  simp only [sc0, sc1, sc2, sc3, sc4, sc5, owns_whole]
  try rfl

/-- Between points: the scratch weights at what they carry, the generator's register, and the tables. -/
def between (hO : Fits m) (c : Dev nD) (t : Fin (grid0.N + 1)) : sProp 𝕄 :=
  iprop((∃ s0 s1 s2 s3 s4 s5, ⌜Carried m hO c t s0 s1 s2 s3 s4 s5⌝
      ∗ owns (c : Thread nD τ) sc0 fullShare s0 ∗ owns (c : Thread nD τ) sc1 fullShare s1 ∗ owns (c : Thread nD τ) sc2 fullShare s2
      ∗ owns (c : Thread nD τ) sc3 fullShare s3 ∗ owns (c : Thread nD τ) sc4 fullShare s4 ∗ owns (c : Thread nD τ) sc5 fullShare s5)
    ∗ (∃ r, prngReg c r) ∗ Pipeline.ΦT pre0 (tables m) c)

theorem between_first (hO : Fits m) (c : Dev nD) :
    iprop(Pipeline.ΦA spec0 c ∗ Pipeline.ΦT pre0 (tables m) c) ⊢ between m hO c 0 := by
  rw [scratch_held]
  unfold between
  iintro ⟨⟨⟨⟨%d0, H0⟩, ⟨%d1, H1⟩, ⟨%d2, H2⟩, ⟨%d3, H3⟩, ⟨%d4, H4⟩, ⟨%d5, H5⟩⟩, Hg⟩, HT⟩
  isplitl [H0 H1 H2 H3 H4 H5]
  · iexists d0, d1, d2, d3, d4, d5
    isplitr
    · ipureintro
      exact fun p hp => absurd hp (Nat.succ_ne_zero _)
    isplitl [H0]; · iexact H0
    isplitl [H1]; · iexact H1
    isplitl [H2]; · iexact H2
    isplitl [H3]; · iexact H3
    isplitl [H4]; · iexact H4
    iexact H5
  isplitl [Hg]; · iexact Hg
  iexact HT

theorem between_last (hO : Fits m) (c : Dev nD) (t : Fin (grid0.N + 1)) : between m hO c t ⊢ Pipeline.ΦA spec0 c := by
  rw [scratch_held]
  unfold between
  iintro ⟨⟨%d0, %d1, %d2, %d3, %d4, %d5, %hd, H0, H1, H2, H3, H4, H5⟩, Hg, -⟩
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-- The run's data: each input's block left in place, the output's block at `outOf`, and `between` at each point's ends. -/
def kept (hO : Fits m) (_ : Fin 1) (c : Dev nD) : Dat τ (Elt F) Unit ℕ (UR sig nD τ) ℕ (pipe m hO) c where
  A w := at0 m c (Pipeline.arrRef spec0 w)
  after w t := match w with
    | ⟨0, _⟩ => blkOf m hO c 0 t
    | ⟨1, _⟩ => blkOf m hO c 1 t
    | ⟨2, _⟩ => blkOf m hO c 2 t
    | ⟨3, _⟩ => blkOf m hO c 3 t
    | ⟨4, _⟩ => blkOf m hO c 4 t
    | ⟨5, _⟩ => blkOf m hO c 5 t
    | ⟨6, _⟩ => blkOf m hO c 6 t
    | ⟨7, _⟩ => outOf m hO c t
  Φ t := between m hO c t
  q w := Pipeline.shareOf spec0 w
  owed _ := 0

theorem kept_arr (hO : Fits m) (c : Dev nD) (w : Fin (pipe m hO).W) : (kept m hO 0 c).A w = at0 m c (Pipeline.arrRef spec0 w) := by
  dsimp only [kept]

theorem left0 (hO : Fits m) (c : Dev nD) (t : Fin (pipe m hO).N) : (kept m hO 0 c).after 0 t = blkOf m hO c 0 t := by dsimp only [kept]; try rfl
theorem found0 (hO : Fits m) (c : Dev nD) (t : Fin (pipe m hO).N) (d) : (kept m hO 0 c).before 0 t d = blkOf m hO c 0 t :=
  ((kept m hO 0 c).before_in_eq_fetched 0 rfl (fun _ => rfl) (fun _ _ _ => rfl)
    (fun t => by rw [left0]; unfold Dat.blockOf blkOf; rw [kept_arr]; try rfl) t d).trans
    (by unfold Dat.fetched Dat.blockOf blkOf; rw [kept_arr]; try rfl)
theorem left1 (hO : Fits m) (c : Dev nD) (t : Fin (pipe m hO).N) : (kept m hO 0 c).after 1 t = blkOf m hO c 1 t := by dsimp only [kept]; try rfl
theorem found1 (hO : Fits m) (c : Dev nD) (t : Fin (pipe m hO).N) (d) : (kept m hO 0 c).before 1 t d = blkOf m hO c 1 t :=
  ((kept m hO 0 c).before_in_eq_fetched 1 rfl (fun _ => rfl) (fun _ _ _ => rfl)
    (fun t => by rw [left1]; unfold Dat.blockOf blkOf; rw [kept_arr]; try rfl) t d).trans
    (by unfold Dat.fetched Dat.blockOf blkOf; rw [kept_arr]; try rfl)
theorem left2 (hO : Fits m) (c : Dev nD) (t : Fin (pipe m hO).N) : (kept m hO 0 c).after 2 t = blkOf m hO c 2 t := by dsimp only [kept]; try rfl
theorem found2 (hO : Fits m) (c : Dev nD) (t : Fin (pipe m hO).N) (d) : (kept m hO 0 c).before 2 t d = blkOf m hO c 2 t :=
  ((kept m hO 0 c).before_in_eq_fetched 2 rfl (fun _ => rfl) (fun _ _ _ => rfl)
    (fun t => by rw [left2]; unfold Dat.blockOf blkOf; rw [kept_arr]; try rfl) t d).trans
    (by unfold Dat.fetched Dat.blockOf blkOf; rw [kept_arr]; try rfl)
theorem left3 (hO : Fits m) (c : Dev nD) (t : Fin (pipe m hO).N) : (kept m hO 0 c).after 3 t = blkOf m hO c 3 t := by dsimp only [kept]; try rfl
theorem found3 (hO : Fits m) (c : Dev nD) (t : Fin (pipe m hO).N) (d) : (kept m hO 0 c).before 3 t d = blkOf m hO c 3 t :=
  ((kept m hO 0 c).before_in_eq_fetched 3 rfl (fun _ => rfl) (fun _ _ _ => rfl)
    (fun t => by rw [left3]; unfold Dat.blockOf blkOf; rw [kept_arr]; try rfl) t d).trans
    (by unfold Dat.fetched Dat.blockOf blkOf; rw [kept_arr]; try rfl)
theorem left4 (hO : Fits m) (c : Dev nD) (t : Fin (pipe m hO).N) : (kept m hO 0 c).after 4 t = blkOf m hO c 4 t := by dsimp only [kept]; try rfl
theorem found4 (hO : Fits m) (c : Dev nD) (t : Fin (pipe m hO).N) (d) : (kept m hO 0 c).before 4 t d = blkOf m hO c 4 t :=
  ((kept m hO 0 c).before_in_eq_fetched 4 rfl (fun _ => rfl) (fun _ _ _ => rfl)
    (fun t => by rw [left4]; unfold Dat.blockOf blkOf; rw [kept_arr]; try rfl) t d).trans
    (by unfold Dat.fetched Dat.blockOf blkOf; rw [kept_arr]; try rfl)
theorem left5 (hO : Fits m) (c : Dev nD) (t : Fin (pipe m hO).N) : (kept m hO 0 c).after 5 t = blkOf m hO c 5 t := by dsimp only [kept]; try rfl
theorem found5 (hO : Fits m) (c : Dev nD) (t : Fin (pipe m hO).N) (d) : (kept m hO 0 c).before 5 t d = blkOf m hO c 5 t :=
  ((kept m hO 0 c).before_in_eq_fetched 5 rfl (fun _ => rfl) (fun _ _ _ => rfl)
    (fun t => by rw [left5]; unfold Dat.blockOf blkOf; rw [kept_arr]; try rfl) t d).trans
    (by unfold Dat.fetched Dat.blockOf blkOf; rw [kept_arr]; try rfl)
theorem left6 (hO : Fits m) (c : Dev nD) (t : Fin (pipe m hO).N) : (kept m hO 0 c).after 6 t = blkOf m hO c 6 t := by dsimp only [kept]; try rfl
theorem found6 (hO : Fits m) (c : Dev nD) (t : Fin (pipe m hO).N) (d) : (kept m hO 0 c).before 6 t d = blkOf m hO c 6 t :=
  ((kept m hO 0 c).before_in_eq_fetched 6 rfl (fun _ => rfl) (fun _ _ _ => rfl)
    (fun t => by rw [left6]; unfold Dat.blockOf blkOf; rw [kept_arr]; try rfl) t d).trans
    (by unfold Dat.fetched Dat.blockOf blkOf; rw [kept_arr]; try rfl)
theorem left7 (hO : Fits m) (c : Dev nD) (t : Fin (pipe m hO).N) : (kept m hO 0 c).after 7 t = outOf m hO c t := by dsimp only [kept]; try rfl

abbrev stg0 (hO : Fits m) (t : Fin (pipe m hO).N) : Memref sig .tc .vmem S256x1152 .f32 := spec0_0.stage ((pipe m hO).slots t 0)
theorem stg0_whole (hO : Fits m) (t : Fin (pipe m hO).N) : (stg0 m hO t).IsWhole := hstage0_0 (((pipe m hO).slots t 0).cast nbuf0_0)
abbrev stg1 (hO : Fits m) (t : Fin (pipe m hO).N) : Memref sig .tc .vmem S1x1024x512 .f32 := spec0_1.stage ((pipe m hO).slots t 1)
theorem stg1_whole (hO : Fits m) (t : Fin (pipe m hO).N) : (stg1 m hO t).IsWhole := hstage0_1 (((pipe m hO).slots t 1).cast nbuf0_1)
abbrev stg2 (hO : Fits m) (t : Fin (pipe m hO).N) : Memref sig .tc .vmem S1x1024x512 .f32 := spec0_2.stage ((pipe m hO).slots t 2)
theorem stg2_whole (hO : Fits m) (t : Fin (pipe m hO).N) : (stg2 m hO t).IsWhole := hstage0_2 (((pipe m hO).slots t 2).cast nbuf0_2)
abbrev stg3 (hO : Fits m) (t : Fin (pipe m hO).N) : Memref sig .tc .vmem S1x512x1024 .f32 := spec0_3.stage ((pipe m hO).slots t 3)
theorem stg3_whole (hO : Fits m) (t : Fin (pipe m hO).N) : (stg3 m hO t).IsWhole := hstage0_3 (((pipe m hO).slots t 3).cast nbuf0_3)
abbrev stg4 (hO : Fits m) (t : Fin (pipe m hO).N) : Memref sig .tc .vmem S1x1024x512 .f32 := spec0_4.stage ((pipe m hO).slots t 4)
theorem stg4_whole (hO : Fits m) (t : Fin (pipe m hO).N) : (stg4 m hO t).IsWhole := hstage0_4 (((pipe m hO).slots t 4).cast nbuf0_4)
abbrev stg5 (hO : Fits m) (t : Fin (pipe m hO).N) : Memref sig .tc .vmem S1x1024x512 .f32 := spec0_5.stage ((pipe m hO).slots t 5)
theorem stg5_whole (hO : Fits m) (t : Fin (pipe m hO).N) : (stg5 m hO t).IsWhole := hstage0_5 (((pipe m hO).slots t 5).cast nbuf0_5)
abbrev stg6 (hO : Fits m) (t : Fin (pipe m hO).N) : Memref sig .tc .vmem S1x512x1024 .f32 := spec0_6.stage ((pipe m hO).slots t 6)
theorem stg6_whole (hO : Fits m) (t : Fin (pipe m hO).N) : (stg6 m hO t).IsWhole := hstage0_6 (((pipe m hO).slots t 6).cast nbuf0_6)
abbrev stg7 (hO : Fits m) (t : Fin (pipe m hO).N) : Memref sig .tc .vmem S2048x128 .f32 := spec0_7.stage ((pipe m hO).slots t 7)
theorem stg7_whole (hO : Fits m) (t : Fin (pipe m hO).N) : (stg7 m hO t).IsWhole := hstage0_7 (((pipe m hO).slots t 7).cast nbuf0_7)

/-- The body as the pipeline calls it at point `t`. -/
abbrev bodyOf (hO : Fits m) (t : Fin (pipe m hO).N) : Prog (TpuEff nD τ sig (Elt F) Λ₀ .tc) PUnit :=
  cc0_experts (grid0.coords t) tab0 (Memref.isWhole_whole _) tab1 (Memref.isWhole_whole _) tab2 (Memref.isWhole_whole _) (stg0 m hO t) (stg0_whole m hO t) (stg1 m hO t) (stg1_whole m hO t) (stg2 m hO t) (stg2_whole m hO t) (stg3 m hO t) (stg3_whole m hO t) (stg4 m hO t) (stg4_whole m hO t) (stg5 m hO t) (stg5_whole m hO t) (stg6 m hO t) (stg6_whole m hO t) (stg7 m hO t) (stg7_whole m hO t) sc0 (Memref.isWhole_whole _) sc1 (Memref.isWhole_whole _) sc2 (Memref.isWhole_whole _) sc3 (Memref.isWhole_whole _) sc4 (Memref.isWhole_whole _) sc5 (Memref.isWhole_whole _)

theorem bodyOf_row (hO : Fits m) (t : Fin (pipe m hO).N) :
    defs₀ (F := F) .tc (pipe m hO).body ((pipe m hO).bodyArgs t ((pipe m hO).slots t)) = bodyOf m hO t := by
  unfold defs₀; rw [Defs.onTc_tc]

def entered (hO : Fits m) (c : Dev nD) (t : Fin (pipe m hO).N) : sProp 𝕄 :=
  iprop((kept m hO 0 c).Φ t.castSucc ∗ (kept m hO 0 c).owesAt () t.castSucc
    ∗ (∃ d, owns (c : Thread nD τ) (stg0 m hO t) fullShare ((kept m hO 0 c).before 0 t d))
    ∗ (∃ d, owns (c : Thread nD τ) (stg1 m hO t) fullShare ((kept m hO 0 c).before 1 t d))
    ∗ (∃ d, owns (c : Thread nD τ) (stg2 m hO t) fullShare ((kept m hO 0 c).before 2 t d))
    ∗ (∃ d, owns (c : Thread nD τ) (stg3 m hO t) fullShare ((kept m hO 0 c).before 3 t d))
    ∗ (∃ d, owns (c : Thread nD τ) (stg4 m hO t) fullShare ((kept m hO 0 c).before 4 t d))
    ∗ (∃ d, owns (c : Thread nD τ) (stg5 m hO t) fullShare ((kept m hO 0 c).before 5 t d))
    ∗ (∃ d, owns (c : Thread nD τ) (stg6 m hO t) fullShare ((kept m hO 0 c).before 6 t d))
    ∗ (∃ d, owns (c : Thread nD τ) (stg7 m hO t) fullShare ((kept m hO 0 c).before 7 t d)))

def leftBy (hO : Fits m) (c : Dev nD) (t : Fin (pipe m hO).N) : sProp 𝕄 :=
  iprop((kept m hO 0 c).Φ t.succ ∗ (kept m hO 0 c).owesAt () t.succ
    ∗ owns (c : Thread nD τ) (stg0 m hO t) fullShare ((kept m hO 0 c).after 0 t)
    ∗ owns (c : Thread nD τ) (stg1 m hO t) fullShare ((kept m hO 0 c).after 1 t)
    ∗ owns (c : Thread nD τ) (stg2 m hO t) fullShare ((kept m hO 0 c).after 2 t)
    ∗ owns (c : Thread nD τ) (stg3 m hO t) fullShare ((kept m hO 0 c).after 3 t)
    ∗ owns (c : Thread nD τ) (stg4 m hO t) fullShare ((kept m hO 0 c).after 4 t)
    ∗ owns (c : Thread nD τ) (stg5 m hO t) fullShare ((kept m hO 0 c).after 5 t)
    ∗ owns (c : Thread nD τ) (stg6 m hO t) fullShare ((kept m hO 0 c).after 6 t)
    ∗ owns (c : Thread nD τ) (stg7 m hO t) fullShare ((kept m hO 0 c).after 7 t))

/-- A weight scratch kept over from the point before already holds this point's block. -/
theorem carried_a (hO : Fits m) (hT : Tame m) (c : Dev nD) (t : Fin grid0.N) {s0 s1 s2 s3 s4 s5}
    (hs : Carried m hO c t.castSucc s0 s1 s2 s3 s4 s5) (hv : vd m t = 1#32)
    (h : ¬ fresh (grid0.coords t) (ea m t) (ea m (back t))) :
    s0 = k0_pay5 (blkOf m hO c 1 t) ∧ s1 = k0_pay6 (blkOf m hO c 2 t) ∧ s2 = k0_pay7 (blkOf m hO c 3 t) := by
  obtain ⟨h0, he⟩ := kept_of_not_fresh t _ _ h
  have := (hs (back t) (show t.val - 1 + 1 = t.val by omega) (hT.run t hv)).1
  rwa [blk1_same m hO c t (back t) he, blk2_same m hO c t (back t) he, blk3_same m hO c t (back t) he]
theorem carried_b (hO : Fits m) (hT : Tame m) (c : Dev nD) (t : Fin grid0.N) {s0 s1 s2 s3 s4 s5}
    (hs : Carried m hO c t.castSucc s0 s1 s2 s3 s4 s5) (hv : vd m t = 1#32)
    (h : ¬ fresh (grid0.coords t) (eb m t) (eb m (back t))) :
    s3 = k0_pay8 (blkOf m hO c 4 t) ∧ s4 = k0_pay9 (blkOf m hO c 5 t) ∧ s5 = k0_pay10 (blkOf m hO c 6 t) := by
  obtain ⟨h0, he⟩ := kept_of_not_fresh t _ _ h
  have := (hs (back t) (show t.val - 1 + 1 = t.val by omega) (hT.run t hv)).2
  rwa [blk4_same m hO c t (back t) he, blk5_same m hO c t (back t) he, blk6_same m hO c t (back t) he]

set_option maxHeartbeats 4000000 in
/-- The body at any point. -/
theorem at_point (hO : Fits m) (hT : Tame m) (c : Dev nD) (t : Fin (pipe m hO).N) :
    entered m hO c t ⊢ wp frame (wpE (defs₀ (F := F)) Variants.none c none) Set.univ (bodyOf m hO t) (fun _ => leftBy m hO c t) := by
  obtain rfl : c = 0 := Subsingleton.elim _ _
  unfold entered leftBy bodyOf
  simp only [found0, found1, found2, found3, found4, found5, found6]
  rw [show (kept m hO 0 0).owesAt () t.succ = (kept m hO 0 0).owesAt () t.castSucc from rfl,
    left0, left1, left2, left3, left4, left5, left6, left7,
    show (kept m hO 0 0).Φ t.castSucc = between m hO 0 (Fin.castSucc (n := grid0.N) t) from rfl,
    show (kept m hO 0 0).Φ t.succ = between m hO 0 (Fin.succ (n := grid0.N) t) from rfl]
  unfold between
  rw [tables_held]
  have e1 := word2 m (k0_off1 (grid0.coords t)) (k0_off1_inb _) t (here1 t)
  have e6 := word2 m (k0_off6 (grid0.coords t)) (k0_off6_inb _) t (here6 t)
  have e2 := word0 m (k0_off2 (grid0.coords t)) (k0_off2_inb _) t (here2 t)
  have e3 := word0 m (k0_off3 (grid0.coords t)) (k0_off3_inb _) (back t) (back3 t)
  have e4 := word1 m (k0_off4 (grid0.coords t)) (k0_off4_inb _) t (here4 t)
  have e5 := word1 m (k0_off5 (grid0.coords t)) (k0_off5_inb _) (back t) (back5 t)
  rcases hT.bit t with hv | hv
  · have ho : outOf m hO 0 t = _ := if_pos hv
    rw [ho]
    have hc1 : k0_cond1 (wordAt (F := F) 0 tab2 (tables m 2) (k0_off1 (grid0.coords t)) (k0_off1_inb _)) = 1#1 := by rw [e1, hv]; decide
    have hc4 : ¬ k0_cond4 (wordAt (F := F) 0 tab2 (tables m 2) (k0_off6 (grid0.coords t)) (k0_off6_inb _)) = 1#1 := by rw [e6, hv]; decide
    iintro ⟨⟨⟨%s0, %s1, %s2, %s3, %s4, %s5, %hs, HS0, HS1, HS2, HS3, HS4, HS5⟩, Hg, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_live (0 : Dev nD) (grid0.coords t) _ _ _ _ _ _ _ _ _ _ _ _ _ _ _ _ _ _ _ _ _ _ _ _ _ _ _ _ (blkOf m hO 0 0 t) (blkOf m hO 0 1 t) (blkOf m hO 0 2 t) (blkOf m hO 0 3 t) (blkOf m hO 0 4 t) (blkOf m hO 0 5 t) (blkOf m hO 0 6 t) s0 s1 s2 s3 s4 s5 (tables m 0) (tables m 1) (tables m 2) hc1 hc4 (fun h => carried_a m hO hT 0 t hs hv (by rwa [e2, e3] at h)) (fun h => carried_b m hO hT 0 t hs hv (by rwa [e4, e5] at h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    isplitl [HT2]; · iexact HT2
    iintro ⟨H0, H1, H2, H3, H4, H5, H6, H7, HS0, HS1, HS2, HS3, HS4, HS5, HT0, HT1, HT2⟩
    isplitl [HS0 HS1 HS2 HS3 HS4 HS5 Hg HT0 HT1 HT2]
    · isplitl [HS0 HS1 HS2 HS3 HS4 HS5]
      · iexists _, _, _, _, _, _
        isplitr
        swap
        · isplitl [HS0]; · iexact HS0
          isplitl [HS1]; · iexact HS1
          isplitl [HS2]; · iexact HS2
          isplitl [HS3]; · iexact HS3
          isplitl [HS4]; · iexact HS4
          iexact HS5
        ipureintro
        intro p hp _
        obtain rfl : p = t := Fin.ext (Nat.succ.inj hp)
        exact ⟨⟨rfl, rfl, rfl⟩, rfl, rfl, rfl⟩
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hne : ¬ vd m t = 1#32 := by rw [hv]; decide
    have ho : outOf m hO 0 t = _ := if_neg hne
    rw [ho]
    have hc1 : ¬ k0_cond1 (wordAt (F := F) 0 tab2 (tables m 2) (k0_off1 (grid0.coords t)) (k0_off1_inb _)) = 1#1 := by rw [e1, hv]; decide
    have hc4 : k0_cond4 (wordAt (F := F) 0 tab2 (tables m 2) (k0_off6 (grid0.coords t)) (k0_off6_inb _)) = 1#1 := by rw [e6, hv]; decide
    iintro ⟨⟨⟨%s0, %s1, %s2, %s3, %s4, %s5, %hs, HS0, HS1, HS2, HS3, HS4, HS5⟩, Hg, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_still (0 : Dev nD) (grid0.coords t) _ _ _ _ _ _ _ _ _ _ _ _ _ _ _ _ _ _ _ _ _ _ _ _ _ _ _ _ (blkOf m hO 0 0 t) (blkOf m hO 0 1 t) (blkOf m hO 0 2 t) (blkOf m hO 0 3 t) (blkOf m hO 0 4 t) (blkOf m hO 0 5 t) (blkOf m hO 0 6 t) s0 s1 s2 s3 s4 s5 (tables m 0) (tables m 1) (tables m 2) hc1 hc4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HT0]; · iexact HT0
    isplitl [HT1]; · iexact HT1
    isplitl [HT2]; · iexact HT2
    iintro ⟨H0, H1, H2, H3, H4, H5, H6, H7, HS0, HS1, HS2, HS3, HS4, HS5, HT0, HT1, HT2⟩
    isplitl [HS0 HS1 HS2 HS3 HS4 HS5 Hg HT0 HT1 HT2]
    · isplitl [HS0 HS1 HS2 HS3 HS4 HS5]
      · iexists _, _, _, _, _, _
        isplitr
        swap
        · isplitl [HS0]; · iexact HS0
          isplitl [HS1]; · iexact HS1
          isplitl [HS2]; · iexact HS2
          isplitl [HS3]; · iexact HS3
          isplitl [HS4]; · iexact HS4
          iexact HS5
        ipureintro
        intro p hp hp1
        obtain rfl : p = t := Fin.ext (Nat.succ.inj hp)
        exact absurd hp1 hne
      isplitl [Hg]; · iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem never_idle (hO : Fits m) (hT : Tame m) (t : Fin (pipe m hO).N) : (pipe m hO).idle 7 ((pipe m hO).grid.coords t) = false := by
  show (!(k0_cond1 ((tables m).atD 2 (k0_off1 (grid0.coords t))) == 1#1) && !(k0_cond4 ((tables m).atD 2 (k0_off6 (grid0.coords t))) == 1#1)) = false
  have d1 : (tables m).atD 2 (k0_off1 (grid0.coords t)) = vd m t := vd_of_atD m _ t (here1 t)
  have d6 : (tables m).atD 2 (k0_off6 (grid0.coords t)) = vd m t := vd_of_atD m _ t (here6 t)
  rw [d1, d6]
  rcases hT.bit t with hv | hv <;> rw [hv] <;> decide

set_option maxHeartbeats 2000000 in
theorem obligation (hO : Fits m) (hT : Tame m) (c : Dev nD) : BodyObligation (kept (F := F) m hO 0 c) (defs₀ (F := F)) Variants.none () Set.univ := fun t => by
  rw [bigSep_W0, bigSep_W0, bodyOf_row m hO]
  refine triple_restated (at_point m hO hT c t) rfl .rfl fun _ => ?_
  unfold leftBy
  refine sep_mono .rfl (sep_mono .rfl (sep_mono .rfl (sep_mono .rfl (sep_mono .rfl (sep_mono .rfl (sep_mono .rfl (sep_mono .rfl (sep_mono .rfl ?_))))))))
  split
  · rename_i hi
    exact Bool.noConfusion hi
  split
  · rename_i hi
    exact absurd (hi.symm.trans (never_idle m hO hT t)) (by decide)
  · exact .rfl

set_option backward.isDefEq.respectTransparency.types false in
/-- The program's run from any memory whose tables fit and are tame. -/
theorem runs (hO : Fits m) (hT : Tame m) : θ_run defs (onTc (τ := τ) (main (F := F))) (s₀ m ρ)
    (fun r => (Pipeline.FramePost (Pipeline.pin pcfgs fun _ => fitted m hO) (kept m hO) 0 (at0 m)) r ∧ r.2.sem = fun _ => 0) :=
  Pipeline.θ_run_frameP_track_shared (Q' := _) pcfgs (fun _ => fitted m hO) (kept m hO) (0 : Fin 1) launch₀0 defs₀ Variants.none m ρ main
    (hbody := fun c => (obligation m hO hT c).loose) (hq := fun _ _ _ => rfl)
    (howed := fun _ _ => rfl) (V := at0 m) (hmain := enters m Variants.none) (hA := kept_arr m hO) (hpf := tables_at m)
    (hin := fun c => between_first m hO c) (hout := fun c => between_last m hO c _)

/-- The run leaves the arguments alone and the counters at zero. -/
theorem quiet (hO : Fits m) (hT : Tame m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c =>
    ⟨((h.1 c).1 0).trans (((kept m hO 0 c).arrAt_in 0 rfl _).trans (kept_arr m hO c 0)),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 1).trans (((kept m hO 0 c).arrAt_in 1 rfl _).trans (kept_arr m hO c 1)),
      ((h.1 c).1 2).trans (((kept m hO 0 c).arrAt_in 2 rfl _).trans (kept_arr m hO c 2)),
      ((h.1 c).1 3).trans (((kept m hO 0 c).arrAt_in 3 rfl _).trans (kept_arr m hO c 3))⟩, h.2⟩) (runs m ρ hO hT)

/-- The run leaves the output's blocks in the result and the arguments alone. -/
theorem result (hO : Fits m) (hT : Tame m) : θ_run defs (onTc (τ := τ) (main (F := F))) ⟨m, fun _ => 0, ρ⟩ (fun r => ∀ c : Dev nD,
      r.2.mem ((c.tc : Thread nD τ).loc main_v0) = (kept m hO 0 c).arrAt 7 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h.1 c).1 7, ((h.1 c).1 0).trans (((kept m hO 0 c).arrAt_in 0 rfl _).trans (kept_arr m hO c 0)),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 1).trans (((kept m hO 0 c).arrAt_in 1 rfl _).trans (kept_arr m hO c 1)),
      ((h.1 c).1 2).trans (((kept m hO 0 c).arrAt_in 2 rfl _).trans (kept_arr m hO c 2)),
      ((h.1 c).1 3).trans (((kept m hO 0 c).arrAt_in 3 rfl _).trans (kept_arr m hO c 3))⟩) (runs m ρ hO hT)

end Cert.Proof.Ex

end
-- ==== Proof.ExPre.lean ====
/- What the precondition says of the tables' words: experts in range, the counting words ones and then zeros. -/
module

public import proofs.«01_k».proof.Proof.Gen.Pre_tables_ok
public import Idealize.ShloMosaic.Lib.Pipeline.ValueKit
public import Idealize.ShloMosaic.Lib.StableHlo.Predicate

@[expose] public section

set_option maxRecDepth 16384

noncomputable section

namespace Cert.Proof.ExPre

open Idealize.ShloMosaic
open Cert.Pre_tables_ok Cert.Pre_tables_ok.Gen

theorem both {a b : BitVec 1} : IntOp.andi a b = 1#1 ↔ a = 1#1 ∧ b = 1#1 := by
  revert a b; decide

/-- The point before (the first point itself at the first). -/
abbrev prev (n : Fin 156) : Fin 156 := ⟨n.val - 1, by have := n.isLt; omega⟩

theorem shifted_at (v : IVec S156 32) (n : Fin 156) :
    concatenate S156 0 [⟨S1, extractStridedSlice S1 ![0] v slices_S156_S1_0⟩, ⟨S155, extractStridedSlice S155 ![0] v slices_S156_S155_0⟩]
      concatenates_S1_S155_S156_d0 (ix1 n) = v (ix1 (prev n)) := by
  pointwise
  split
  · rename_i h
    refine congrArg v (congrArg ix1 (Fin.ext ?_))
    show n.val = n.val - 1
    omega
  · rfl

theorem in_range (v : BitVec 32) (h0 : IntOp.cmpi .sge v 0#32 = 1#1) (h1 : IntOp.cmpi .slt v 64#32 = 1#1) : v.toNat < 64 := by
  simp only [IntOp.cmpi, StableHlo.Predicate.ofBool_eq_one_iff, BitVec.sle_eq_decide, BitVec.slt_eq_decide, decide_eq_true_eq] at h0 h1
  have hv := v.isLt
  rw [BitVec.toInt_eq_toNat_cond] at h0 h1
  rw [BitVec.toInt_eq_toNat_cond] at h0 h1
  simp only [BitVec.toNat_ofNat] at h0 h1
  split at h0 <;> split at h1 <;> omega

theorem is_bit (v : BitVec 32) (h0 : IntOp.cmpi .sge v 0#32 = 1#1) (h1 : IntOp.cmpi .sle v 1#32 = 1#1) : v = 1#32 ∨ v = 0#32 := by
  simp only [IntOp.cmpi, StableHlo.Predicate.ofBool_eq_one_iff, BitVec.sle_eq_decide, decide_eq_true_eq] at h0 h1
  have hv := v.isLt
  have h : v.toNat = 1 ∨ v.toNat = 0 := by
    rw [show (0#32).toInt = 0 from rfl, BitVec.toInt_eq_toNat_cond] at h0
    rw [show (1#32).toInt = 1 from rfl, BitVec.toInt_eq_toNat_cond] at h1
    split at h0 <;> split at h1 <;> omega
  exact h.imp (fun e => BitVec.eq_of_toNat_eq e) (fun e => BitVec.eq_of_toNat_eq e)

variable {F : FTy → Type} [FloatOps F]

theorem lines {a0 : FVec F S39936x1152 .f32} {a1 a2 a3 : IVec S156 32} {a4 a5 : FVec F S64x1024x512 .f32} {a6 : FVec F S64x512x1024 .f32}
    (h : fn (F := F) a0 a1 a2 a3 a4 a5 a6 = fun _ => 1#1) (n : Fin 156) :
    (a1 (ix1 n)).toNat < 64 ∧ (a2 (ix1 n)).toNat < 64 ∧ (a3 (ix1 n) = 1#32 ∨ a3 (ix1 n) = 0#32)
      ∧ IntOp.cmpi .sle (a3 (ix1 n)) (a3 (ix1 (prev n))) = 1#1 := by
  have e := congrFun h (ix1 n)
  have e2 := shifted_at a3 n
  simp only [fn, fn_part1, andi, cmpi, constantI, both] at e
  rw [e2] at e
  obtain ⟨⟨⟨⟨⟨⟨p1, p2⟩, p3⟩, p4⟩, p5⟩, p6⟩, p7⟩ := e
  exact ⟨in_range _ p1 p2, in_range _ p3 p4, is_bit _ p5 p6, p7⟩

theorem words {a0 : FVec F S39936x1152 .f32} {a1 a2 a3 : IVec S156 32} {a4 a5 : FVec F S64x1024x512 .f32} {a6 : FVec F S64x512x1024 .f32}
    (h : fn (F := F) a0 a1 a2 a3 a4 a5 a6 = fun _ => 1#1) (n : Fin 156) :
    (a1 (ix1 n)).toNat < 64 ∧ (a2 (ix1 n)).toNat < 64 ∧ (a3 (ix1 n) = 1#32 ∨ a3 (ix1 n) = 0#32)
      ∧ (a3 (ix1 n) = 1#32 → a3 (ix1 (prev n)) = 1#32) := by
  obtain ⟨p, q, r, s⟩ := lines h n
  refine ⟨p, q, r, fun h1 => (lines h (prev n)).2.2.1.resolve_right fun h0 => ?_⟩
  rw [h1, h0] at s
  exact absurd s (by decide)

end Cert.Proof.ExPre

end
-- ==== Proof.ExFit.lean ====
/- The precondition's words as the frame wants them: every block the tables ask for is inside its array. -/
module

public import proofs.«01_k».proof.Proof.ExFrame
public import proofs.«01_k».proof.Proof.ExPre

@[expose] public section

set_option maxRecDepth 16384

noncomputable section

namespace Cert.Proof.Ex

open Cert.KernelExIdeal Cert.KernelExIdeal.Gen
open Idealize.ShloMosaic Idealize.ShloMosaic.TcCoe

variable {F : FTy → Type} [FloatOps F]
variable (m : (ℓ : Loc nD τ sig) → Buf (Elt F) ℓ)

theorem point_of (i : grid0.Coords) : ∃ t : Fin grid0.N, grid0.coords t = i := by
  have h : ∀ n : Fin 156, ((grid0.coords (n.cast N_0.symm)) 0).val = n.val := by decide +kernel
  refine ⟨(show Fin 156 from i 0).cast N_0.symm, funext fun (a : Fin 1) => ?_⟩
  obtain rfl : a = 0 := Subsingleton.elim _ _
  exact Fin.ext (h (i 0))

theorem point_word1 : ∀ t : Fin grid0.N, (Scalar.muli (BitVec.ofNat 32 ((grid0.coords t) 0).val) 1#32).toNat = t.val :=
  (by decide +kernel : ∀ t : Fin grid0.N, _)
theorem point_word0 : ∀ t : Fin grid0.N, (Scalar.muli (BitVec.ofNat 32 ((grid0.coords t) 0).val) 0#32).toNat = 0 :=
  (by decide +kernel : ∀ t : Fin grid0.N, _)

/-- The rows' block: the point's own where it counts, the first where it does not. -/
theorem map0 (t : Fin grid0.N) : cc0_transform_0 k0_off1_inb numel1_S1 (tables m) (grid0.coords t)
    = ![(Scalar.muli (BitVec.ofNat 32 ((grid0.coords t) 0).val) (vd m t)).toNat, 0] := by
  have h := entry2 m (k0_off1 (grid0.coords t)) (k0_off1_inb _) t (here1 t)
  exact congrArg (fun v : BitVec 32 => ![(Scalar.muli (BitVec.ofNat 32 ((grid0.coords t) 0).val) v).toNat, 0]) h

theorem tame_of (h : ∀ n : Fin 156, (vd m n = 1#32 ∨ vd m n = 0#32) ∧ (vd m n = 1#32 → vd m (back n) = 1#32)) : Tame m :=
  ⟨fun n => (h n).1, fun n => (h n).2⟩

theorem fits_of (h : ∀ n : Fin 156, (ea m n).toNat < 64 ∧ (eb m n).toNat < 64 ∧ (vd m n = 1#32 ∨ vd m n = 0#32)) : Fits m := by
  refine ⟨fun i => ?_, fun i => ?_, fun i => ?_, fun i => ?_, fun i => ?_, fun i => ?_, fun i => ?_⟩ <;>
    obtain ⟨t, rfl⟩ := point_of i <;> have ht := (show Fin 156 from t).isLt <;> refine ⟨fun a => ?_, Or.inl rfl⟩ <;>
    obtain ⟨ha, hb, hv⟩ := h t
  · rw [map0]
    match a with
    | ⟨0, _⟩ =>
      show ((Scalar.muli (BitVec.ofNat 32 ((grid0.coords t) 0).val) (vd m t)).toNat + 1) * 256 ≤ 39936
      rcases hv with hv | hv <;> rw [hv]
      · have ht' : t.val < 156 := ht
        rw [point_word1]; omega
      · rw [point_word0]; decide
    | ⟨1, _⟩ => show (0 + 1) * 1152 ≤ 1152; decide
  · rw [map1]
    match a with
    | ⟨0, _⟩ => show ((ea m t).toNat + 1) * 1 ≤ 64; omega
    | ⟨1, _⟩ => show (0 + 1) * 1024 ≤ 1024; decide
    | ⟨2, _⟩ => show (0 + 1) * 512 ≤ 512; decide
  · rw [map2]
    match a with
    | ⟨0, _⟩ => show ((ea m t).toNat + 1) * 1 ≤ 64; omega
    | ⟨1, _⟩ => show (0 + 1) * 1024 ≤ 1024; decide
    | ⟨2, _⟩ => show (0 + 1) * 512 ≤ 512; decide
  · rw [map3]
    match a with
    | ⟨0, _⟩ => show ((ea m t).toNat + 1) * 1 ≤ 64; omega
    | ⟨1, _⟩ => show (0 + 1) * 512 ≤ 512; decide
    | ⟨2, _⟩ => show (0 + 1) * 1024 ≤ 1024; decide
  · rw [map4]
    match a with
    | ⟨0, _⟩ => show ((eb m t).toNat + 1) * 1 ≤ 64; omega
    | ⟨1, _⟩ => show (0 + 1) * 1024 ≤ 1024; decide
    | ⟨2, _⟩ => show (0 + 1) * 512 ≤ 512; decide
  · rw [map5]
    match a with
    | ⟨0, _⟩ => show ((eb m t).toNat + 1) * 1 ≤ 64; omega
    | ⟨1, _⟩ => show (0 + 1) * 1024 ≤ 1024; decide
    | ⟨2, _⟩ => show (0 + 1) * 512 ≤ 512; decide
  · rw [map6]
    match a with
    | ⟨0, _⟩ => show ((eb m t).toNat + 1) * 1 ≤ 64; omega
    | ⟨1, _⟩ => show (0 + 1) * 512 ≤ 512; decide
    | ⟨2, _⟩ => show (0 + 1) * 1024 ≤ 1024; decide

/-- The precondition on the launch memory, as the frame's hypotheses. -/
theorem of_pre (h : ∀ c : Dev nD, Cert.Pre_tables_ok.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = (fun _ => 1#1)) :
    Fits m ∧ Tame m :=
  ⟨fits_of m fun n => have w := ExPre.words (h 0) n; ⟨w.1, w.2.1, w.2.2.1⟩,
    tame_of m fun n => have w := ExPre.words (h 0) n; ⟨w.2.2.1, w.2.2.2⟩⟩

end Cert.Proof.Ex

end
-- ==== Proof.ExRef.lean ====
/- The experts' outputs on a row, read entry by entry off the reference. -/
module

public import proofs.«01_k».proof.Defs
public import proofs.«01_k».proof.Proof.Gen.ReferenceExIdeal.Run
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.Proof.Ex

/-- A gated unit: the gate through its sigmoid, times the other branch. -/
def gated (g u : EReal) : EReal :=
  g * Ideal.div (Ideal.ofBits FTy.f32 1065353216#32) (Ideal.ofBits FTy.f32 1065353216#32 + Ideal.exp (-g)) * u

/-- One row through one expert, at one lane of the output. -/
def expert (x : Fin 1024 → EReal) (wg wu : Fin 1024 → Fin 512 → EReal) (wd : Fin 512 → EReal) : EReal :=
  ∑ h, gated (∑ k, x k * wg k h) (∑ k, x k * wu k h) * wd h

open Cert.ReferenceExIdeal Cert.ReferenceExIdeal.Gen

theorem small_word (v : BitVec 32) (e : Fin 64) (h : v.toNat = e.val) : min v.toInt.toNat 63 = e.val := by
  have := e.isLt
  rw [BitVec.toInt_eq_toNat_of_lt (by omega), h]
  omega

theorem take_up_at (W : FVec Ideal S64x1024x512 .f32) (idx : IVec S39936x1 32) (q : Fin 39936) (a : Fin 1024) (b : Fin 512) (e : Fin 64)
    (h : (idx (ix2 q 0)).toNat = e.val) :
    Host.gather gather_S64x1024x512_S39936x1_S39936x1024x512_12_0_n_n_0_1_11024512 W idx (ix3 q a b) = W (ix3 e a b) := by
  unfold Host.gather
  refine congrArg W (funext fun (x : Fin 3) => Fin.ext ?_)
  match x with
  | ⟨0, _⟩ =>
    refine Eq.trans ?_ (small_word _ e h)
    refine congrArg (fun i => min (idx i).toInt.toNat 63) (funext fun (y : Fin 2) => Fin.ext ?_)
    match y with
    | ⟨0, _⟩ => rfl
    | ⟨1, _⟩ => rfl
  | ⟨1, _⟩ => exact Nat.zero_add _
  | ⟨2, _⟩ => exact Nat.zero_add _

theorem take_down_at (W : FVec Ideal S64x512x1024 .f32) (idx : IVec S39936x1 32) (q : Fin 39936) (a : Fin 512) (b : Fin 1024) (e : Fin 64)
    (h : (idx (ix2 q 0)).toNat = e.val) :
    Host.gather gather_S64x512x1024_S39936x1_S39936x512x1024_12_0_n_n_0_1_15121024 W idx (ix3 q a b) = W (ix3 e a b) := by
  unfold Host.gather
  refine congrArg W (funext fun (x : Fin 3) => Fin.ext ?_)
  match x with
  | ⟨0, _⟩ =>
    refine Eq.trans ?_ (small_word _ e h)
    refine congrArg (fun i => min (idx i).toInt.toNat 63) (funext fun (y : Fin 2) => Fin.ext ?_)
    match y with
    | ⟨0, _⟩ => rfl
    | ⟨1, _⟩ => rfl
  | ⟨1, _⟩ => exact Nat.zero_add _
  | ⟨2, _⟩ => exact Nat.zero_add _

/-- The rows' inputs. -/
abbrev RXS (X : FVec Ideal S39936x1152 .f32) : FVec Ideal S39936x1024 .f32 :=
  extractStridedSlice S39936x1024 ![0, 0] X slices_S39936x1152_S39936x1024_0_0

/-- The rows' two weights. -/
abbrev RWS (X : FVec Ideal S39936x1152 .f32) : FVec Ideal S39936x2 .f32 :=
  extractStridedSlice S39936x2 ![0, 1024] X slices_S39936x1152_S39936x2_0_1024

/-- A table's word at every row. -/
abbrev RROW (e : IVec S156 32) : IVec S39936 32 :=
  shapeCast _ (broadcastInDim S156x256 ![0] bcast_S156_S156x256_0 e) shapeCasts_S156x256_S39936

/-- A row's expert's first weights. -/
abbrev RTU (W : FVec Ideal S64x1024x512 .f32) (e : IVec S39936 32) : FVec Ideal S39936x1024x512 .f32 :=
  Host.gather gather_S64x1024x512_S39936x1_S39936x1024x512_12_0_n_n_0_1_11024512 W (broadcastInDim S39936x1 ![0] bcast_S39936_S39936x1_0 e)

abbrev RTD (W : FVec Ideal S64x512x1024 .f32) (e : IVec S39936 32) : FVec Ideal S39936x512x1024 .f32 :=
  Host.gather gather_S64x512x1024_S39936x1_S39936x512x1024_12_0_n_n_0_1_15121024 W (broadcastInDim S39936x1 ![0] bcast_S39936_S39936x1_0 e)

abbrev RDU (X : FVec Ideal S39936x1024 .f32) (W : FVec Ideal S39936x1024x512 .f32) : FVec Ideal S39936x512 .f32 :=
  Host.dotGeneral dot_S39936x1024_S39936x1024x512_S39936x512_1_1_n_2_0_0 none X W

/-- The gated hidden units. -/
abbrev RH (g u : FVec Ideal S39936x512 .f32) : FVec Ideal S39936x512 .f32 :=
  mulf (mulf g (Host.divf (broadcastInDim S39936x512 ![] bcast_S_S39936x512 (constant S_ .f32 0x3F800000#32))
    (addf (broadcastInDim S39936x512 ![] bcast_S_S39936x512 (constant S_ .f32 0x3F800000#32)) (Host.exp (Host.negf g))))) u

abbrev RDD (H : FVec Ideal S39936x512 .f32) (W : FVec Ideal S39936x512x1024 .f32) : FVec Ideal S39936x1024 .f32 :=
  Host.dotGeneral dot_S39936x512_S39936x512x1024_S39936x1024_1_1_n_2_0_0 none H W

/-- Every row through its expert. -/
abbrev RFF (X : FVec Ideal S39936x1152 .f32) (e : IVec S156 32) (G U : FVec Ideal S64x1024x512 .f32) (D : FVec Ideal S64x512x1024 .f32) :
    FVec Ideal S39936x1024 .f32 :=
  RDD (RH (RDU (RXS X) (RTU G (RROW e))) (RDU (RXS X) (RTU U (RROW e)))) (RTD D (RROW e))

abbrev RW0 (w : FVec Ideal S39936x2 .f32) : FVec Ideal S39936x1024 .f32 :=
  broadcastInDim S39936x1024 ![0, 1] bcast_S39936x1_S39936x1024_0_1 (extractStridedSlice S39936x1 ![0, 0] w slices_S39936x2_S39936x1_0_0)
abbrev RW1 (w : FVec Ideal S39936x2 .f32) : FVec Ideal S39936x1024 .f32 :=
  broadcastInDim S39936x1024 ![0, 1] bcast_S39936x1_S39936x1024_0_1 (extractStridedSlice S39936x1 ![0, 1] w slices_S39936x2_S39936x1_0_1)

/-- The rows that count, the others zero, in the stored shape. -/
abbrev RO (v : IVec S156 32) (Y : FVec Ideal S39936x1024 .f32) : FVec Ideal S319488x128 .f32 :=
  shapeCast _ (select (broadcastInDim S39936x1024 ![0, 1] bcast_S39936x1_S39936x1024_0_1
    (cmpi .sgt (broadcastInDim S39936x1 ![0] bcast_S39936_S39936x1_0 (RROW v)) (broadcastInDim S39936x1 ![] bcast_S_S39936x1 (constantI S_ 32 0#32)))) Y
    (broadcastInDim S39936x1024 ![] bcast_S_S39936x1024 (id (constant S_ .f32 0x00000000#32)))) shapeCasts_S39936x1024_S319488x128

abbrev REF (X : FVec Ideal S39936x1152 .f32) (ea eb v : IVec S156 32) (G U : FVec Ideal S64x1024x512 .f32) (D : FVec Ideal S64x512x1024 .f32) :
    FVec Ideal S319488x128 .f32 :=
  RO v (addf (mulf (RW0 (RWS X)) (RFF X ea G U D)) (mulf (RW1 (RWS X)) (RFF X eb G U D)))

theorem res_eq (m : (ℓ : Loc nD τ sig) → Buf (Elt Ideal) ℓ) (c : Dev nD) :
    Cert.ReferenceExIdeal.Value.res_out0 (F := Ideal) m c
      = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6)) := by
  unfold Cert.ReferenceExIdeal.Value.res_out0 Cert.ReferenceExIdeal.Value.res_main_v35
  rfl

/-- The row a block keeps at a place. -/
abbrev row (n : Fin 156) (r : Fin 256) : Fin 39936 := ⟨n.val * 256 + r.val, by omega⟩

theorem RROW_at (e : IVec S156 32) (n : Fin 156) (r : Fin 256) : RROW e (ix1 (row n r)) = e (ix1 n) := by
  have h : RROW e (ix1 (row n r)) = e (ix1 ⟨(n.val * 256 + r.val) / 256, by omega⟩) := by pointwise [RROW]
  rw [h]
  exact congrArg (fun i => e (ix1 i)) (Fin.ext (by show (n.val * 256 + r.val) / 256 = n.val; omega))

theorem RXS_at (X : FVec Ideal S39936x1152 .f32) (q : Fin 39936) (k : Fin 1024) : RXS X (ix2 q k) = X (ix2 q ⟨k.val, by omega⟩) := by
  pointwise [RXS]
theorem RW0_at (X : FVec Ideal S39936x1152 .f32) (q : Fin 39936) (k : Fin 1024) : RW0 (RWS X) (ix2 q k) = X (ix2 q 1024) := by
  pointwise [RW0, RWS]
theorem RW1_at (X : FVec Ideal S39936x1152 .f32) (q : Fin 39936) (k : Fin 1024) : RW1 (RWS X) (ix2 q k) = X (ix2 q 1025) := by
  pointwise [RW1, RWS]

theorem RTU_at (W : FVec Ideal S64x1024x512 .f32) (e : IVec S39936 32) (q : Fin 39936) (w : Fin 64) (h : (e (ix1 q)).toNat = w.val) (a : Fin 1024) (b : Fin 512) :
    RTU W e (ix3 q a b) = W (ix3 w a b) :=
  take_up_at _ _ q a b w (by
    have h1 : broadcastInDim S39936x1 ![0] bcast_S39936_S39936x1_0 e (ix2 q 0) = e (ix1 q) := by pointwise []
    rw [h1]; exact h)
theorem RTD_at (W : FVec Ideal S64x512x1024 .f32) (e : IVec S39936 32) (q : Fin 39936) (w : Fin 64) (h : (e (ix1 q)).toNat = w.val) (a : Fin 512) (b : Fin 1024) :
    RTD W e (ix3 q a b) = W (ix3 w a b) :=
  take_down_at _ _ q a b w (by
    have h1 : broadcastInDim S39936x1 ![0] bcast_S39936_S39936x1_0 e (ix2 q 0) = e (ix1 q) := by pointwise []
    rw [h1]; exact h)

theorem RDU_at (X : FVec Ideal S39936x1024 .f32) (W : FVec Ideal S39936x1024x512 .f32) (q : Fin 39936) (h : Fin 512) :
    RDU X W (ix2 q h) = ∑ k : Fin 1024, X (ix2 q k) * W (ix3 q k h) := by
  pointwise [RDU]
theorem RDD_at (H : FVec Ideal S39936x512 .f32) (W : FVec Ideal S39936x512x1024 .f32) (q : Fin 39936) (j : Fin 1024) :
    RDD H W (ix2 q j) = ∑ h : Fin 512, H (ix2 q h) * W (ix3 q h j) := by
  pointwise [RDD]
theorem RH_at (g u : FVec Ideal S39936x512 .f32) (q : Fin 39936) (h : Fin 512) :
    RH g u (ix2 q h) = gated (g (ix2 q h)) (u (ix2 q h)) := by
  pointwise [RH, gated]

theorem RFF_at (X : FVec Ideal S39936x1152 .f32) (e : IVec S156 32) (G U : FVec Ideal S64x1024x512 .f32) (D : FVec Ideal S64x512x1024 .f32)
    (n : Fin 156) (w : Fin 64) (hw : (e (ix1 n)).toNat = w.val) (r : Fin 256) (j : Fin 1024) :
    RFF X e G U D (ix2 (row n r) j) = expert (fun k => X (ix2 (row n r) ⟨k.val, by omega⟩))
      (fun k h => G (ix3 w k h)) (fun k h => U (ix3 w k h)) (fun h => D (ix3 w h j)) := by
  have hq : (RROW e (ix1 (row n r))).toNat = w.val := by rw [RROW_at]; exact hw
  refine (RDD_at _ _ _ j).trans (Finset.sum_congr rfl fun h _ => ?_)
  rw [RTD_at _ _ _ w hq, RH_at, RDU_at, RDU_at]
  simp only [RTU_at _ _ _ w hq, RXS_at]

theorem RO_at (v : IVec S156 32) (Y : FVec Ideal S39936x1024 .f32) (n : Fin 156) (r : Fin 2048) (l : Fin 128)
    (hv : v (ix1 n) = 1#32 ∨ v (ix1 n) = 0#32) :
    RO v Y (ix2 ⟨n.val * 2048 + r.val, by omega⟩ l)
      = if v (ix1 n) = 1#32 then Y (ix2 (row n ⟨r.val / 8, by omega⟩) ⟨r.val % 8 * 128 + l.val, by omega⟩) else 0 := by
  have e : RO v Y (ix2 ⟨n.val * 2048 + r.val, by omega⟩ l)
      = Scalar.select (IntOp.cmpi CmpIPredicate.sgt (RROW v (ix1 ⟨(n.val * 2048 + r.val) / 8, by omega⟩)) 0#32)
          (Y (ix2 ⟨(n.val * 2048 + r.val) / 8, by omega⟩ ⟨(n.val * 2048 + r.val) % 8 * 128 + l.val, by omega⟩))
          (id (constant S_ FTy.f32 0#32 : FVec Ideal S_ .f32) ix0) := by
    pointwise [RO]
  have i0 : (⟨(n.val * 2048 + r.val) / 8, by omega⟩ : Fin 39936) = row n ⟨r.val / 8, by omega⟩ := Fin.ext (by
    show (n.val * 2048 + r.val) / 8 = n.val * 256 + r.val / 8; omega)
  have i1 : (⟨(n.val * 2048 + r.val) % 8 * 128 + l.val, by omega⟩ : Fin 1024) = ⟨r.val % 8 * 128 + l.val, by omega⟩ := Fin.ext (by
    show (n.val * 2048 + r.val) % 8 * 128 + l.val = r.val % 8 * 128 + l.val; omega)
  rw [e, i0, i1, RROW_at]
  rcases hv with h | h <;> rw [h]
  · rfl
  · exact Ideal.ofBits_zero_f32

end Cert.Proof.Ex

end
-- ==== Proof.ExVal.lean ====
/- The expert kernel: the rows it stores are the reference's, entry by entry. -/
module

public import proofs.«01_k».proof.Proof.ExFit
public import proofs.«01_k».proof.Proof.ExRef
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Proof.Ex

open Cert.KernelExIdeal Cert.KernelExIdeal.Gen

theorem pay12_at (X : FVec Ideal S256x1024 .f32) (W : FVec Ideal S1024x512 .bf16) (r : Fin 256) (h : Fin 512) :
    k0_pay12 (F := Ideal) X W (ix2 r h) = ∑ k, X (ix2 r k) * W (ix2 k h) := by
  pointwise [k0_pay12, k0_pay11]
theorem pay13_at (X : FVec Ideal S256x1024 .f32) (W : FVec Ideal S1024x512 .bf16) (r : Fin 256) (h : Fin 512) :
    k0_pay13 (F := Ideal) X W (ix2 r h) = ∑ k, X (ix2 r k) * W (ix2 k h) := by
  pointwise [k0_pay13, k0_pay11]
theorem pay14_at (X : FVec Ideal S256x1024 .f32) (W : FVec Ideal S1024x512 .bf16) (r : Fin 256) (h : Fin 512) :
    k0_pay14 (F := Ideal) X W (ix2 r h) = ∑ k, X (ix2 r k) * W (ix2 k h) := by
  pointwise [k0_pay14, k0_pay11]
theorem pay15_at (X : FVec Ideal S256x1024 .f32) (W : FVec Ideal S1024x512 .bf16) (r : Fin 256) (h : Fin 512) :
    k0_pay15 (F := Ideal) X W (ix2 r h) = ∑ k, X (ix2 r k) * W (ix2 k h) := by
  pointwise [k0_pay15, k0_pay11]
theorem pay16_at (X : FVec Ideal S256x1024 .f32) (W : FVec Ideal S1024x512 .bf16) (r : Fin 256) (h : Fin 512) :
    k0_pay16 (F := Ideal) X W (ix2 r h) = Ideal.exp (-(∑ k, X (ix2 r k) * W (ix2 k h))) := by
  have e : k0_pay16 (F := Ideal) X W (ix2 r h) = Ideal.exp (Ideal.ofBits FTy.f32 0#32 - k0_pay12 (F := Ideal) X W (ix2 r h)) := rfl
  rw [e, pay12_at, Ideal.ofBits_zero_f32, zero_sub]

theorem pay17_at (p : FVec Ideal S256x128 .f32) (g g' u u' x : FVec Ideal S256x512 .f32) (D D' : FVec Ideal S512x1024 .bf16)
    (r : Fin 256) (j : Fin 1024) :
    k0_pay17 (F := Ideal) p g g' u u' x (Scalar.ofBits .f32 0x3F800000#32) D D' (ix2 r j)
      = p (ix2 r 0) * (∑ h, (g (ix2 r h) * Ideal.div (Ideal.ofBits FTy.f32 1065353216#32) (Ideal.ofBits FTy.f32 1065353216#32 + x (ix2 r h))
          * u (ix2 r h)) * D (ix2 h j))
        + p (ix2 r 1) * ∑ h, (g' (ix2 r h) * Ideal.div (Ideal.ofBits FTy.f32 1065353216#32) (Ideal.ofBits FTy.f32 1065353216#32
          + Ideal.exp (Ideal.ofBits FTy.f32 0#32 - g' (ix2 r h))) * u' (ix2 r h)) * D' (ix2 h j) := by
  pointwise [k0_pay17]

theorem rows_at (x0 : FVec Ideal S256x1152 .f32) (w0 w1 : FVec Ideal S1024x512 .bf16) (w2 : FVec Ideal S512x1024 .bf16)
    (w3 w4 : FVec Ideal S1024x512 .bf16) (w5 : FVec Ideal S512x1024 .bf16) (r : Fin 256) (j : Fin 1024) :
    rowsOf (F := Ideal) x0 w0 w1 w2 w3 w4 w5 (ix2 r j)
      = x0 (ix2 r 1024) * expert (fun k => x0 (ix2 r ⟨k.val, by omega⟩)) (fun k h => w0 (ix2 k h)) (fun k h => w1 (ix2 k h)) (fun h => w2 (ix2 h j))
        + x0 (ix2 r 1025) * expert (fun k => x0 (ix2 r ⟨k.val, by omega⟩)) (fun k h => w3 (ix2 k h)) (fun k h => w4 (ix2 k h)) (fun h => w5 (ix2 h j)) := by
  have ex : ∀ k : Fin 1024, (View.ld (Val := Elt Ideal) (e' := .f32) (x0 : Vec Ideal S256x1152 .f32) (Rect.unit (s := S256x1152) ![0, 0] S256x1024.size inb_S256x1152_S256x1024_0_0) : FVec Ideal S256x1024 .f32) (ix2 r k)
      = x0 (ix2 r ⟨k.val, by omega⟩) := fun k =>
    View.ld_unit_apply_of _ _ _ _ _ (ix2 r ⟨k.val, by omega⟩ : S256x1152.Idx)
      (Fin.forall_fin_two.mpr ⟨(Nat.zero_add _).symm, (Nat.zero_add _).symm⟩)
  have e0 : (View.ld (Val := Elt Ideal) (e' := .f32) (x0 : Vec Ideal S256x1152 .f32) (Rect.unit (s := S256x1152) ![0, 1024] S256x128.size inb_S256x1152_S256x128_0_1024) : FVec Ideal S256x128 .f32) (ix2 r 0) = x0 (ix2 r 1024) :=
    View.ld_unit_apply_of _ _ _ _ _ (ix2 r 1024 : S256x1152.Idx) (Fin.forall_fin_two.mpr ⟨(Nat.zero_add _).symm, rfl⟩)
  have e1 : (View.ld (Val := Elt Ideal) (e' := .f32) (x0 : Vec Ideal S256x1152 .f32) (Rect.unit (s := S256x1152) ![0, 1024] S256x128.size inb_S256x1152_S256x128_0_1024) : FVec Ideal S256x128 .f32) (ix2 r 1) = x0 (ix2 r 1025) :=
    View.ld_unit_apply_of _ _ _ _ _ (ix2 r 1025 : S256x1152.Idx) (Fin.forall_fin_two.mpr ⟨(Nat.zero_add _).symm, rfl⟩)
  unfold rowsOf
  refine (pay17_at _ _ _ _ _ _ _ _ _ _).trans ?_
  simp only [pay12_at, pay13_at, pay14_at, pay15_at, pay16_at, ex, e0, e1, Ideal.ofBits_zero_f32, zero_sub]
  unfold expert gated
  with_reducible rfl

theorem pay5_at (W : FVec Ideal S1x1024x512 .f32) (k : Fin 1024) (h : Fin 512) : k0_pay5 (F := Ideal) W (ix2 k h) = W (ix3 0 k h) := by pointwise [k0_pay5]
theorem pay6_at (W : FVec Ideal S1x1024x512 .f32) (k : Fin 1024) (h : Fin 512) : k0_pay6 (F := Ideal) W (ix2 k h) = W (ix3 0 k h) := by pointwise [k0_pay6]
theorem pay7_at (W : FVec Ideal S1x512x1024 .f32) (h : Fin 512) (j : Fin 1024) : k0_pay7 (F := Ideal) W (ix2 h j) = W (ix3 0 h j) := by pointwise [k0_pay7]
theorem pay8_at (W : FVec Ideal S1x1024x512 .f32) (k : Fin 1024) (h : Fin 512) : k0_pay8 (F := Ideal) W (ix2 k h) = W (ix3 0 k h) := by pointwise [k0_pay8]
theorem pay9_at (W : FVec Ideal S1x1024x512 .f32) (k : Fin 1024) (h : Fin 512) : k0_pay9 (F := Ideal) W (ix2 k h) = W (ix3 0 k h) := by pointwise [k0_pay9]
theorem pay10_at (W : FVec Ideal S1x512x1024 .f32) (h : Fin 512) (j : Fin 1024) : k0_pay10 (F := Ideal) W (ix2 h j) = W (ix3 0 h j) := by pointwise [k0_pay10]

variable (m : (ℓ : Loc nD τ sig) → Buf (Elt Ideal) ℓ)

theorem in0 (hO : Fits m) (c : Dev nD) (t : Fin grid0.N) (hv : vd m t = 1#32) (r : Fin 256) (k : Fin 1152) (hr : t.val * 256 + r.val < 39936) :
    (blkOf m hO c 0 t : Vec Ideal S256x1152 .f32) (ix2 r k) = (m ((c.tc : Thread nD τ).loc main_arg0) : FVec Ideal S39936x1152 .f32) (ix2 ⟨t.val * 256 + r.val, hr⟩ k) := by
  have hm := map0 m t
  rw [hv, point_word1] at hm
  refine congrArg (at0 m c (Pipeline.arrRef spec0 0)) (funext fun (a : Fin 2) => Fin.ext ?_)
  match a with
  | ⟨0, _⟩ =>
    show cc0_transform_0 k0_off1_inb numel1_S1 (tables m) (grid0.coords t) 0 * 256 + 1 * r.val = t.val * 256 + r.val
    rw [hm]; show t.val * 256 + 1 * r.val = _; omega
  | ⟨1, _⟩ =>
    show cc0_transform_0 k0_off1_inb numel1_S1 (tables m) (grid0.coords t) 1 * 1152 + 1 * k.val = k.val
    rw [hm]; show 0 * 1152 + 1 * k.val = _; omega

theorem in1 (hO : Fits m) (c : Dev nD) (t : Fin grid0.N) (e : Fin 64) (he : (ea m t).toNat = e.val) (a : Fin 1024) (b : Fin 512) :
    (blkOf m hO c 1 t : Vec Ideal S1x1024x512 .f32) (ix3 0 a b) = (m ((c.tc : Thread nD τ).loc main_arg4) : FVec Ideal S64x1024x512 .f32) (ix3 e a b) := by
  have hm := map1 m t
  rw [he] at hm
  refine congrArg (at0 m c (Pipeline.arrRef spec0 1)) (funext fun (x : Fin 3) => Fin.ext ?_)
  match x with
  | ⟨0, _⟩ =>
    show cc0_transform_1 k0_off1_inb numel1_S1 (tables m) (grid0.coords t) 0 * 1 + 1 * 0 = e.val
    rw [hm]; show e.val * 1 + 1 * 0 = _; omega
  | ⟨1, _⟩ =>
    show cc0_transform_1 k0_off1_inb numel1_S1 (tables m) (grid0.coords t) 1 * 1024 + 1 * a.val = a.val
    rw [hm]; show 0 * 1024 + 1 * a.val = _; omega
  | ⟨2, _⟩ =>
    show cc0_transform_1 k0_off1_inb numel1_S1 (tables m) (grid0.coords t) 2 * 512 + 1 * b.val = b.val
    rw [hm]; show 0 * 512 + 1 * b.val = _; omega

theorem in2 (hO : Fits m) (c : Dev nD) (t : Fin grid0.N) (e : Fin 64) (he : (ea m t).toNat = e.val) (a : Fin 1024) (b : Fin 512) :
    (blkOf m hO c 2 t : Vec Ideal S1x1024x512 .f32) (ix3 0 a b) = (m ((c.tc : Thread nD τ).loc main_arg5) : FVec Ideal S64x1024x512 .f32) (ix3 e a b) := by
  have hm := map2 m t
  rw [he] at hm
  refine congrArg (at0 m c (Pipeline.arrRef spec0 2)) (funext fun (x : Fin 3) => Fin.ext ?_)
  match x with
  | ⟨0, _⟩ =>
    show cc0_transform_2 k0_off1_inb numel1_S1 (tables m) (grid0.coords t) 0 * 1 + 1 * 0 = e.val
    rw [hm]; show e.val * 1 + 1 * 0 = _; omega
  | ⟨1, _⟩ =>
    show cc0_transform_2 k0_off1_inb numel1_S1 (tables m) (grid0.coords t) 1 * 1024 + 1 * a.val = a.val
    rw [hm]; show 0 * 1024 + 1 * a.val = _; omega
  | ⟨2, _⟩ =>
    show cc0_transform_2 k0_off1_inb numel1_S1 (tables m) (grid0.coords t) 2 * 512 + 1 * b.val = b.val
    rw [hm]; show 0 * 512 + 1 * b.val = _; omega

theorem in3 (hO : Fits m) (c : Dev nD) (t : Fin grid0.N) (e : Fin 64) (he : (ea m t).toNat = e.val) (a : Fin 512) (b : Fin 1024) :
    (blkOf m hO c 3 t : Vec Ideal S1x512x1024 .f32) (ix3 0 a b) = (m ((c.tc : Thread nD τ).loc main_arg6) : FVec Ideal S64x512x1024 .f32) (ix3 e a b) := by
  have hm := map3 m t
  rw [he] at hm
  refine congrArg (at0 m c (Pipeline.arrRef spec0 3)) (funext fun (x : Fin 3) => Fin.ext ?_)
  match x with
  | ⟨0, _⟩ =>
    show cc0_transform_3 k0_off1_inb numel1_S1 (tables m) (grid0.coords t) 0 * 1 + 1 * 0 = e.val
    rw [hm]; show e.val * 1 + 1 * 0 = _; omega
  | ⟨1, _⟩ =>
    show cc0_transform_3 k0_off1_inb numel1_S1 (tables m) (grid0.coords t) 1 * 512 + 1 * a.val = a.val
    rw [hm]; show 0 * 512 + 1 * a.val = _; omega
  | ⟨2, _⟩ =>
    show cc0_transform_3 k0_off1_inb numel1_S1 (tables m) (grid0.coords t) 2 * 1024 + 1 * b.val = b.val
    rw [hm]; show 0 * 1024 + 1 * b.val = _; omega

theorem in4 (hO : Fits m) (c : Dev nD) (t : Fin grid0.N) (e : Fin 64) (he : (eb m t).toNat = e.val) (a : Fin 1024) (b : Fin 512) :
    (blkOf m hO c 4 t : Vec Ideal S1x1024x512 .f32) (ix3 0 a b) = (m ((c.tc : Thread nD τ).loc main_arg4) : FVec Ideal S64x1024x512 .f32) (ix3 e a b) := by
  have hm := map4 m t
  rw [he] at hm
  refine congrArg (at0 m c (Pipeline.arrRef spec0 4)) (funext fun (x : Fin 3) => Fin.ext ?_)
  match x with
  | ⟨0, _⟩ =>
    show cc0_transform_4 k0_off1_inb numel1_S1 (tables m) (grid0.coords t) 0 * 1 + 1 * 0 = e.val
    rw [hm]; show e.val * 1 + 1 * 0 = _; omega
  | ⟨1, _⟩ =>
    show cc0_transform_4 k0_off1_inb numel1_S1 (tables m) (grid0.coords t) 1 * 1024 + 1 * a.val = a.val
    rw [hm]; show 0 * 1024 + 1 * a.val = _; omega
  | ⟨2, _⟩ =>
    show cc0_transform_4 k0_off1_inb numel1_S1 (tables m) (grid0.coords t) 2 * 512 + 1 * b.val = b.val
    rw [hm]; show 0 * 512 + 1 * b.val = _; omega

theorem in5 (hO : Fits m) (c : Dev nD) (t : Fin grid0.N) (e : Fin 64) (he : (eb m t).toNat = e.val) (a : Fin 1024) (b : Fin 512) :
    (blkOf m hO c 5 t : Vec Ideal S1x1024x512 .f32) (ix3 0 a b) = (m ((c.tc : Thread nD τ).loc main_arg5) : FVec Ideal S64x1024x512 .f32) (ix3 e a b) := by
  have hm := map5 m t
  rw [he] at hm
  refine congrArg (at0 m c (Pipeline.arrRef spec0 5)) (funext fun (x : Fin 3) => Fin.ext ?_)
  match x with
  | ⟨0, _⟩ =>
    show cc0_transform_5 k0_off1_inb numel1_S1 (tables m) (grid0.coords t) 0 * 1 + 1 * 0 = e.val
    rw [hm]; show e.val * 1 + 1 * 0 = _; omega
  | ⟨1, _⟩ =>
    show cc0_transform_5 k0_off1_inb numel1_S1 (tables m) (grid0.coords t) 1 * 1024 + 1 * a.val = a.val
    rw [hm]; show 0 * 1024 + 1 * a.val = _; omega
  | ⟨2, _⟩ =>
    show cc0_transform_5 k0_off1_inb numel1_S1 (tables m) (grid0.coords t) 2 * 512 + 1 * b.val = b.val
    rw [hm]; show 0 * 512 + 1 * b.val = _; omega

theorem in6 (hO : Fits m) (c : Dev nD) (t : Fin grid0.N) (e : Fin 64) (he : (eb m t).toNat = e.val) (a : Fin 512) (b : Fin 1024) :
    (blkOf m hO c 6 t : Vec Ideal S1x512x1024 .f32) (ix3 0 a b) = (m ((c.tc : Thread nD τ).loc main_arg6) : FVec Ideal S64x512x1024 .f32) (ix3 e a b) := by
  have hm := map6 m t
  rw [he] at hm
  refine congrArg (at0 m c (Pipeline.arrRef spec0 6)) (funext fun (x : Fin 3) => Fin.ext ?_)
  match x with
  | ⟨0, _⟩ =>
    show cc0_transform_6 k0_off1_inb numel1_S1 (tables m) (grid0.coords t) 0 * 1 + 1 * 0 = e.val
    rw [hm]; show e.val * 1 + 1 * 0 = _; omega
  | ⟨1, _⟩ =>
    show cc0_transform_6 k0_off1_inb numel1_S1 (tables m) (grid0.coords t) 1 * 512 + 1 * a.val = a.val
    rw [hm]; show 0 * 512 + 1 * a.val = _; omega
  | ⟨2, _⟩ =>
    show cc0_transform_6 k0_off1_inb numel1_S1 (tables m) (grid0.coords t) 2 * 1024 + 1 * b.val = b.val
    rw [hm]; show 0 * 1024 + 1 * b.val = _; omega

theorem map7 : ∀ t : Fin grid0.N, cc0_transform_7 (grid0.coords t) = ![t.val, 0] := (by decide +kernel : ∀ t : Fin grid0.N, _)

theorem covers7 (hO : Fits m) : ((pipe m hO).win 7).Covers :=
  Pipeline.Window.covers_of_index_surj _ rfl (show ∀ a : Fin 2, 0 < S2048x128.size a by decide) fun β => by
    have h0 : (β (0 : Fin 2)).val < 156 := lt_of_lt_of_eq (β (0 : Fin 2)).isLt (by show (319488 + 2048 - 1) / 2048 = 156; decide)
    have h1 : (β (1 : Fin 2)).val < 1 := lt_of_lt_of_eq (β (1 : Fin 2)).isLt (by show (128 + 128 - 1) / 128 = 1; decide)
    refine ⟨(⟨(β (0 : Fin 2)).val, h0⟩ : Fin 156).cast N_0.symm, fun (a : Fin 2) => ?_⟩
    show cc0_transform_7 (grid0.coords ((⟨(β (0 : Fin 2)).val, h0⟩ : Fin 156).cast N_0.symm)) a = (β a).val
    rw [map7]
    match a with
    | ⟨0, _⟩ => rfl
    | ⟨1, _⟩ => show 0 = (β (1 : Fin 2)).val; omega

theorem expert_congr {x x' : Fin 1024 → EReal} {g g' u u' : Fin 1024 → Fin 512 → EReal} {d d' : Fin 512 → EReal}
    (hx : ∀ k, x k = x' k) (hg : ∀ k h, g k h = g' k h) (hu : ∀ k h, u k h = u' k h) (hd : ∀ h, d h = d' h) :
    expert x g u d = expert x' g' u' d' := by
  rw [funext hx, funext fun k => funext (hg k), funext fun k => funext (hu k), funext hd]

theorem word64 (v : BitVec 32) (h : v.toNat < 64) : ∃ e : Fin 64, v.toNat = e.val := ⟨⟨v.toNat, h⟩, rfl⟩

abbrev refOf (c : Dev nD) : FVec Ideal S319488x128 .f32 :=
  REF (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))

/-- What a point leaves is the reference's block. -/
theorem out_at (hO : Fits m) (c : Dev nD) (n : Fin 156)
    (ha : (ea m n).toNat < 64) (hb : (eb m n).toNat < 64) (hv : vd m n = 1#32 ∨ vd m n = 0#32)
    (e1 : ea m n = (m ((c.tc : Thread nD τ).loc main_arg1) : IVec S156 32) (ix1 n))
    (e2 : eb m n = (m ((c.tc : Thread nD τ).loc main_arg2) : IVec S156 32) (ix1 n))
    (e3 : vd m n = (m ((c.tc : Thread nD τ).loc main_arg3) : IVec S156 32) (ix1 n)) (r : Fin 2048) (l : Fin 128) :
    outOf m hO c (n.cast N_0.symm) (ix2 r l) = refOf m c (ix2 ⟨n.val * 2048 + r.val, by omega⟩ l) := by
  obtain ⟨a, ha⟩ := word64 _ ha
  obtain ⟨b, hb⟩ := word64 _ hb
  refine Eq.trans ?_ (RO_at _ _ n r l (by rw [← e3]; exact hv)).symm
  rw [← e3]
  unfold outOf
  by_cases h : vd m n = 1#32
  · rw [if_pos h]
    refine (congrFun (if_pos h) _).trans ?_
    refine (rows_at _ _ _ _ _ _ _ ⟨r.val / 8, by omega⟩ ⟨r.val % 8 * 128 + l.val, by omega⟩).trans ?_
    have hr : n.val * 256 + r.val / 8 < 39936 := by omega
    refine congrArg₂ (· + ·) (congrArg₂ (· * ·) ?_ ?_) (congrArg₂ (· * ·) ?_ ?_)
    · exact (in0 m hO c (n.cast N_0.symm) h ⟨r.val / 8, by omega⟩ _ hr).trans (RW0_at _ (row n ⟨r.val / 8, by omega⟩) ⟨r.val % 8 * 128 + l.val, by omega⟩).symm
    · refine Eq.trans ?_ (RFF_at _ _ _ _ _ n a (by rw [← e1]; exact ha) ⟨r.val / 8, by omega⟩ ⟨r.val % 8 * 128 + l.val, by omega⟩).symm
      exact expert_congr (fun k => in0 m hO c (n.cast N_0.symm) h ⟨r.val / 8, by omega⟩ _ hr) (fun k h => (pay5_at _ k h).trans (in1 m hO c _ a ha k h))
        (fun k h => (pay6_at _ k h).trans (in2 m hO c _ a ha k h)) (fun h => (pay7_at _ h _).trans (in3 m hO c _ a ha h _))
    · exact (in0 m hO c (n.cast N_0.symm) h ⟨r.val / 8, by omega⟩ _ hr).trans (RW1_at _ (row n ⟨r.val / 8, by omega⟩) ⟨r.val % 8 * 128 + l.val, by omega⟩).symm
    · refine Eq.trans ?_ (RFF_at _ _ _ _ _ n b (by rw [← e2]; exact hb) ⟨r.val / 8, by omega⟩ ⟨r.val % 8 * 128 + l.val, by omega⟩).symm
      exact expert_congr (fun k => in0 m hO c (n.cast N_0.symm) h ⟨r.val / 8, by omega⟩ _ hr) (fun k h => (pay8_at _ k h).trans (in4 m hO c _ b hb k h))
        (fun k h => (pay9_at _ k h).trans (in5 m hO c _ b hb k h)) (fun h => (pay10_at _ h _).trans (in6 m hO c _ b hb h _))
  · rw [if_neg h]
    refine (congrFun (if_neg h) _).trans ?_
    exact Ideal.ofBits_zero_f32

/-- The kernel's result is the reference's. -/
theorem final7 (hO : Fits m) (c : Dev nD) (hc : ∀ n : Fin 156, (ea m n).toNat < 64 ∧ (eb m n).toNat < 64 ∧ (vd m n = 1#32 ∨ vd m n = 0#32)) :
    (kept m hO 0 c).arrAt 7 (pipe m hO).N = refOf m c := by
  refine (kept m hO 0 c).arrAt_eq_of_covers 7 (refOf m c) (covers7 m hO) (fun t hf y => ?_) (harr := Memref.isWhole_whole _)
  have ht : t.val < 156 := lt_of_lt_of_eq t.isLt N_0
  have hy0 : (y (0 : Fin 2)).val < 2048 := (y (0 : Fin 2)).isLt
  have hy1 : (y (1 : Fin 2)).val < 128 := (y (1 : Fin 2)).isLt
  have hw := hc ⟨t.val, ht⟩
  obtain rfl : c = 0 := Subsingleton.elim _ _
  refine Eq.trans (b := outOf m hO 0 t (ix2 ⟨(y (0 : Fin 2)).val, hy0⟩ ⟨(y (1 : Fin 2)).val, hy1⟩)) ?_ ?_
  · refine (cast_eq _ _).trans ((congrFun (left7 m hO 0 t) _).trans (congrArg (outOf m hO 0 t) (funext fun (a : Fin 2) => Fin.ext ?_)))
    match a with
    | ⟨0, _⟩ => rfl
    | ⟨1, _⟩ => rfl
  · refine (out_at m hO 0 ⟨t.val, ht⟩ hw.1 hw.2.1 hw.2.2 rfl rfl rfl ⟨(y (0 : Fin 2)).val, hy0⟩ ⟨(y (1 : Fin 2)).val, hy1⟩).trans
      (congrArg (refOf m 0) (funext fun (a : Fin 2) => Fin.ext ?_))
    have hm := map7 t
    match a with
    | ⟨0, _⟩ =>
      show t.val * 2048 + (y (0 : Fin 2)).val = cc0_transform_7 (grid0.coords t) 0 * 2048 + 1 * (y (0 : Fin 2)).val
      rw [hm]; show _ = t.val * 2048 + 1 * (y (0 : Fin 2)).val; omega
    | ⟨1, _⟩ =>
      show (y (1 : Fin 2)).val = cc0_transform_7 (grid0.coords t) 1 * 128 + 1 * (y (1 : Fin 2)).val
      rw [hm]; show _ = 0 * 128 + 1 * (y (1 : Fin 2)).val; omega

end Cert.Proof.Ex

end
-- ==== Proof.ExBits.lean ====
/- The expert kernel's two runs, as the claims state them. -/
module

public import proofs.«01_k».proof.Defs
public import proofs.«01_k».proof.Proof.ExFit
public import proofs.«01_k».proof.Proof.ExBitsFit
public import proofs.«01_k».proof.Proof.ExVal

@[expose] public section

set_option maxRecDepth 16384

noncomputable section

namespace Cert.Proof

open Idealize.ShloMosaic Idealize.SL.Sem

theorem ex_quiet_ideal : @Cert.quiescent_KernelExIdeal Cert.KernelExIdeal.Gen.facts Cert.Pre_tables_ok.Gen.facts :=
  fun m g h => Ex.quiet (F := Ideal) m g (Ex.of_pre m h).1 (Ex.of_pre m h).2

theorem ex_quiet_bits : @Cert.quiescent_KernelEx Cert.KernelEx.Gen.facts Cert.Pre_tables_ok.Gen.facts :=
  fun m g h => ExBits.quiet (F := Bits) m g (ExBits.of_pre m h).1 (ExBits.of_pre m h).2

theorem ex_quiet_ref : @Cert.quiescent_ReferenceExIdeal Cert.ReferenceExIdeal.Gen.facts Cert.Pre_tables_ok.Gen.facts :=
  fun m ρ _ => (θ_run Cert.ReferenceExIdeal.defs _ _).mono (fun r h =>
    ⟨fun c => (h c).2, Idealize.ShloMosaic.sem_eq_zero_of_no_sems (by decide) r.2⟩)
    (Cert.ReferenceExIdeal.Value.run (F := Ideal) m ρ)

/-- The experts' rows: the kernel's result is the reference's. -/
theorem ex_values : @Cert.algebraic_KernelExIdeal_ReferenceExIdeal Cert.KernelExIdeal.Gen.facts Cert.ReferenceExIdeal.Gen.facts
    Cert.Pre_tables_ok.Gen.facts := by
  intro m g m' g' hp hagree
  obtain ⟨hO, hT⟩ := Ex.of_pre m hp
  refine ⟨fun c => Ex.refOf m c, ?_, ?_⟩
  · refine (θ_run Cert.KernelExIdeal.defs _ _).mono (fun r h c => ?_) (Ex.result m g hO hT)
    exact ⟨(h c).1.trans (Ex.final7 m hO c fun n => have w := ExPre.words (hp 0) n; ⟨w.1, w.2.1, w.2.2.1⟩), (h c).2⟩
  · refine (θ_run Cert.ReferenceExIdeal.defs _ _).mono (fun r h c => ?_) (Cert.ReferenceExIdeal.Value.run (F := Ideal) m' g')
    obtain ⟨h0, a⟩ := h c
    obtain ⟨e0, e1, e2, e3, e4, e5, e6⟩ := hagree c
    refine ⟨h0.trans ((Ex.res_eq m' c).trans ?_), a⟩
    rw [e0, e1, e2, e3, e4, e5, e6]

end Cert.Proof

end
-- ==== Proof.MxRun.lean ====
/- The mixer: what its body holds, and the parts of its run that keep it. -/
module

public import proofs.«01_k».proof.Proof.Gen.KernelMxIdeal
public import proofs.«01_k».proof.Proof.Gen.KernelMxIdeal.Launch
public import proofs.«01_k».proof.Proof.Gen.KernelMxIdeal.Points
public import proofs.«01_k».proof.Proof.Gen.KernelMxIdeal.Frame
public import proofs.«01_k».proof.Proof.Gen.KernelMxIdeal.Skeleton
public import Idealize.ShloMosaic.Lib.Tactic
public import Idealize.ShloMosaic.Lib.Pipeline.FrameBody
public import Idealize.ShloMosaic.Lib.WritesUnit
public import Idealize.ShloMosaic.Lib.ValueLayout
public import Idealize.ShloMosaic.Lib.Pipeline.Value

@[expose] public section

set_option maxRecDepth 16384

noncomputable section

namespace Cert.Proof.Mx

open Cert.KernelMxIdeal Cert.KernelMxIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The convolution's window holds batch `b`'s projected rows from its row 8 on. -/
def rowsAt (X : Vec F S1x256x4096 .f32) (b : ℕ) (W : Vec F S40x1024 .f32) : Prop :=
  ∀ (y : S40x1024.Idx) (z : S1x256x4096.Idx), 8 ≤ (y 0).val → (z 1).val = 32 * b + ((y 0).val - 8) → (z 2).val = (y 1).val → W y = X z

/-- Batch `b`'s last three projected rows. -/
def tailAt (X : Vec F S1x256x4096 .f32) (b : ℕ) (v : Vec F S3x1024 .f32) : Prop :=
  ∀ (y : S3x1024.Idx) (z : S1x256x4096.Idx), (z 1).val = 32 * b + 29 + (y 0).val → (z 2).val = (y 1).val → v y = X z

/-- The kept rows of the batches before `n`. -/
def keptTo (X : Vec F S1x256x4096 .f32) (n : ℕ) (W : Vec F S8x3x1024 .f32) : Prop :=
  ∀ (y : S8x3x1024.Idx) (z : S1x256x4096.Idx), (y 0).val < n → (z 1).val = 32 * (y 0).val + 29 + (y 1).val → (z 2).val = (y 2).val → W y = X z

theorem rows_stored (X : Vec F S1x256x4096 .f32) (b : ℕ) (M : Memref sig .tc .vmem S40x1024 .f32) (f : M.view.ty.Contents (Elt F))
    (L : List (View.Piece (Elt F) S40x1024 .f32)) (inb) (w : FVec F S32x1024 .f32)
    (hw : ∀ (x : S32x1024.Idx) (z : S1x256x4096.Idx), (z 1).val = 32 * b + (x 0).val → (z 2).val = (x 1).val → w x = X z) :
    rowsAt X b (M.view.read (Elt F) (M.view.writes (Elt F) f (⟨Rect.unit (s := S40x1024) ![8, 0] S32x1024.size inb, w⟩ :: L))) := by
  intro y z h8 h1 h2
  have hy0 : (y 0).val < 40 := (y 0).isLt
  have hy1 : (y 1).val < 1024 := (y 1).isLt
  refine (View.read_writes_cons_rows_of_mem M.view f inb w L y (ix2 ⟨(y 0).val - 8, by omega⟩ ⟨(y 1).val, hy1⟩) rfl ?_ rfl).trans ?_
  · show (y 0).val = 8 + ((y 0).val - 8); omega
  · exact hw _ z h1 h2

theorem block_rows (M : Memref sig .tc .vmem S1x256x4096 .f32) (f : M.view.ty.Contents (Elt F)) (b : ℕ) (off : Fin 3 → ℕ) (inb) (h)
    (ho : off = ![0, 32 * b, 0]) (x : S32x1024.Idx) (z : S1x256x4096.Idx) (h1 : (z 1).val = 32 * b + (x 0).val) (h2 : (z 2).val = (x 1).val) :
    shapeCast S32x1024 (M.view.readAt (Elt F) (Rect.unit (s := S1x256x4096) off S1x32x1024.size inb).toLoadRect f) h x = M.view.read (Elt F) f z := by
  subst ho
  have hz0 : (z 0).val < 1 := (z 0).isLt
  obtain ⟨p, q, rfl⟩ : ∃ (p : Fin 32) (q : Fin 1024), x = ix2 p q := ⟨x 0, x 1, funext fun a => match a with | ⟨0, _⟩ => rfl | ⟨1, _⟩ => rfl⟩
  refine (shapeCast_1ab_ab_apply _ h p q).trans (congrArg (M.view.read (Elt F) f) (funext fun a => Fin.ext ?_))
  match a with
  | ⟨0, _⟩ => show 0 + 1 * 0 = (z 0).val; omega
  | ⟨1, _⟩ => show 32 * b + 1 * p.val = (z 1).val; rw [h1]; show _ = 32 * b + p.val; omega
  | ⟨2, _⟩ => show 0 + 1 * q.val = (z 2).val; rw [h2]; show _ = q.val; omega

theorem tail_read (X : Vec F S1x256x4096 .f32) (b : ℕ) (M : Memref sig .tc .vmem S40x1024 .f32) (g : M.view.ty.Contents (Elt F)) (inb)
    (h : rowsAt X b (M.view.read (Elt F) g)) :
    tailAt X b (M.view.readAt (Elt F) (Rect.unit (s := S40x1024) ![37, 0] S3x1024.size inb).toLoadRect g) := by
  intro y z h1 h2
  refine h ((Rect.unit (s := S40x1024) ![37, 0] S3x1024.size inb).toLoadRect.idx y) z ?_ ?_ ?_
  · show 8 ≤ 37 + 1 * (y 0).val; omega
  · show (z 1).val = 32 * b + (37 + 1 * (y 0).val - 8); omega
  · show (z 2).val = 0 + 1 * (y 1).val; omega

theorem kept_step (X : Vec F S1x256x4096 .f32) (n : ℕ) (M : Memref sig .tc .vmem S8x3x1024 .f32) (f : M.view.ty.Contents (Elt F))
    (h : keptTo X n (M.view.read (Elt F) f)) (v : Vec F S3x1024 .f32) (hv : tailAt X n v) (off : Fin 3 → ℕ) (ho : off = ![n, 0, 0]) (inb) (hc) :
    keptTo X (n + 1) (M.view.read (Elt F) (M.view.writes (Elt F) f
      [⟨Rect.unit (s := S8x3x1024) off S1x3x1024.size inb, (shapeCast S1x3x1024 v hc : FVec F S1x3x1024 .f32)⟩])) := by
  intro y z h0 h1 h2
  have hy1 : (y 1).val < 3 := (y 1).isLt
  have hy2 : (y 2).val < 1024 := (y 2).isLt
  by_cases hn : (y 0).val = n
  · refine (View.read_writes_cons_unit_of_mem M.view f inb _ [] y (ix3 (0 : Fin 1) ⟨(y 1).val, hy1⟩ ⟨(y 2).val, hy2⟩) ho ?_).trans ?_
    · intro a
      match a with
      | ⟨0, _⟩ => show (y 0).val = n + 0; omega
      | ⟨1, _⟩ => show (y 1).val = 0 + (y 1).val; omega
      | ⟨2, _⟩ => show (y 2).val = 0 + (y 2).val; omega
    · exact (shapeCast_ab_1ab_apply v hc _ _ _).trans (hv _ z (by rw [h1, hn]) h2)
  · refine (View.read_writes_cons_unit_of_not_mem M.view f inb _ [] y ho (0 : Fin 3) (.inl ?_)).trans (h y z (by omega) h1 h2)
    show (y 0).val < n
    omega

variable (c : Dev nD) (E : Set ℕ) (i : grid0.Coords)
  (a2 : Memref sig .tc .vmem S256x1024 .f32) (q2 : a2.IsWhole)
  (a3 : Memref sig .tc .vmem S1024x4096 .bf16) (q3 : a3.IsWhole)
  (a4 : Memref sig .tc .vmem S1024x128 .bf16) (q4 : a4.IsWhole)
  (a5 : Memref sig .tc .vmem S8x1024 .bf16) (q5 : a5.IsWhole)
  (a6 : Memref sig .tc .vmem S1x128 .f32) (q6 : a6.IsWhole)
  (a7 : Memref sig .tc .vmem S8x1 .f32) (q7 : a7.IsWhole)
  (a8 : Memref sig .tc .vmem S4x1024 .f32) (q8 : a8.IsWhole)
  (a9 : Memref sig .tc .vmem S1x1024 .f32) (q9 : a9.IsWhole)
  (a10 : Memref sig .tc .vmem S1024x1024 .bf16) (q10 : a10.IsWhole)
  (a11 : Memref sig .tc .vmem S1x1024 .f32) (q11 : a11.IsWhole)
  (a12 : Memref sig .tc .vmem S1x1024 .f32) (q12 : a12.IsWhole)
  (a13 : Memref sig .tc .vmem S32x128 .f32) (q13 : a13.IsWhole)
  (a14 : Memref sig .tc .vmem S32x128 .f32) (q14 : a14.IsWhole)
  (a15 : Memref sig .tc .vmem S4x32x32 .f32) (q15 : a15.IsWhole)
  (a16 : Memref sig .tc .vmem S4x32x128 .f32) (q16 : a16.IsWhole)
  (a17 : Memref sig .tc .vmem S4x32x128 .f32) (q17 : a17.IsWhole)
  (a18 : Memref sig .tc .vmem S4x1x128 .f32) (q18 : a18.IsWhole)
  (a19 : Memref sig .tc .vmem S8x3x1024 .f32) (q19 : a19.IsWhole)
  (a20 : Memref sig .tc .vmem S8x4x128x128 .f32) (q20 : a20.IsWhole)
  (a21 : Memref sig .tc .vmem S8x4x128 .f32) (q21 : a21.IsWhole)
  (a22 : Memref sig .tc .vmem S8x4x128 .f32) (q22 : a22.IsWhole)
  (a23 : Memref sig .tc .vmem S8x4x128x128 .f32) (q23 : a23.IsWhole)
  (a24 : Memref sig .tc .vmem S256x1024 .f32) (q24 : a24.IsWhole)
  (a25 : Memref sig .tc .vmem S8x3x1024 .f32) (q25 : a25.IsWhole)
  (a26 : Memref sig .tc .vmem S8x4x128x128 .f32) (q26 : a26.IsWhole)
  (a27 : Memref sig .tc .vmem S8x4x128 .f32) (q27 : a27.IsWhole)
  (a28 : Memref sig .tc .vmem S8x4x128 .f32) (q28 : a28.IsWhole)
  (a29 : Memref sig .tc .vmem S8x4x128x128 .f32) (q29 : a29.IsWhole)
  (a30 : Memref sig .tc .vmem S1x256x4096 .f32) (q30 : a30.IsWhole)
  (a31 : Memref sig .tc .vmem S1x256x128 .f32) (q31 : a31.IsWhole)
  (a32 : Memref sig .tc .vmem S256x1024 .bf16) (q32 : a32.IsWhole)
  (a33 : Memref sig .tc .vmem S40x1024 .f32) (q33 : a33.IsWhole)
  (a34 : Memref sig .tc .vmem S256x1024 .bf16) (q34 : a34.IsWhole)
variable (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ))) (f7 : Buf (Elt F) (a7.view.loc (c : Thread nD τ))) (f8 : Buf (Elt F) (a8.view.loc (c : Thread nD τ))) (f9 : Buf (Elt F) (a9.view.loc (c : Thread nD τ))) (f10 : Buf (Elt F) (a10.view.loc (c : Thread nD τ))) (f11 : Buf (Elt F) (a11.view.loc (c : Thread nD τ))) (f12 : Buf (Elt F) (a12.view.loc (c : Thread nD τ))) (f13 : Buf (Elt F) (a13.view.loc (c : Thread nD τ))) (f14 : Buf (Elt F) (a14.view.loc (c : Thread nD τ))) (f15 : Buf (Elt F) (a15.view.loc (c : Thread nD τ))) (f16 : Buf (Elt F) (a16.view.loc (c : Thread nD τ))) (f17 : Buf (Elt F) (a17.view.loc (c : Thread nD τ))) (f18 : Buf (Elt F) (a18.view.loc (c : Thread nD τ))) (f19 : Buf (Elt F) (a19.view.loc (c : Thread nD τ))) (f20 : Buf (Elt F) (a20.view.loc (c : Thread nD τ))) (f21 : Buf (Elt F) (a21.view.loc (c : Thread nD τ))) (f22 : Buf (Elt F) (a22.view.loc (c : Thread nD τ))) (f23 : Buf (Elt F) (a23.view.loc (c : Thread nD τ))) (f30 : Buf (Elt F) (a30.view.loc (c : Thread nD τ))) (f31 : Buf (Elt F) (a31.view.loc (c : Thread nD τ))) (f34 : Buf (Elt F) (a34.view.loc (c : Thread nD τ)))
variable (P25 : Vec F S8x3x1024 .f32 → Prop) (P33 : Vec F S40x1024 .f32 → Prop)

/-- Everything the body holds while it runs: what it only reads, at its contents; the results and the scratch, at any. -/
def Kept : sProp 𝕄 :=
  iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ (a17.view.loc (c : Thread nD τ) ↦[a17.view.set]{fullShare} f17) ∗ (a18.view.loc (c : Thread nD τ) ↦[a18.view.set]{fullShare} f18) ∗ (a19.view.loc (c : Thread nD τ) ↦[a19.view.set]{fullShare} f19) ∗ (a20.view.loc (c : Thread nD τ) ↦[a20.view.set]{fullShare} f20) ∗ (a21.view.loc (c : Thread nD τ) ↦[a21.view.set]{fullShare} f21) ∗ (a22.view.loc (c : Thread nD τ) ↦[a22.view.set]{fullShare} f22) ∗ (a23.view.loc (c : Thread nD τ) ↦[a23.view.set]{fullShare} f23) ∗ (∃ f24, (a24.view.loc (c : Thread nD τ) ↦[a24.view.set]{fullShare} f24)) ∗ (∃ f25, ⌜P25 (a25.view.read (Elt F) f25)⌝ ∗ (a25.view.loc (c : Thread nD τ) ↦[a25.view.set]{fullShare} f25)) ∗ (∃ f26, (a26.view.loc (c : Thread nD τ) ↦[a26.view.set]{fullShare} f26)) ∗ (∃ f27, (a27.view.loc (c : Thread nD τ) ↦[a27.view.set]{fullShare} f27)) ∗ (∃ f28, (a28.view.loc (c : Thread nD τ) ↦[a28.view.set]{fullShare} f28)) ∗ (∃ f29, (a29.view.loc (c : Thread nD τ) ↦[a29.view.set]{fullShare} f29)) ∗ (a30.view.loc (c : Thread nD τ) ↦[a30.view.set]{fullShare} f30) ∗ (a31.view.loc (c : Thread nD τ) ↦[a31.view.set]{fullShare} f31) ∗ (∃ f32, (a32.view.loc (c : Thread nD τ) ↦[a32.view.set]{fullShare} f32)) ∗ (∃ f33, ⌜P33 (a33.view.read (Elt F) f33)⌝ ∗ (a33.view.loc (c : Thread nD τ) ↦[a33.view.set]{fullShare} f33)) ∗ (a34.view.loc (c : Thread nD τ) ↦[a34.view.set]{fullShare} f34))

theorem opened {Q : sProp 𝕄} (h : iprop((a2.view.loc (c : Thread nD τ) ↦[a2.view.set]{fullShare} f2) ∗ (a3.view.loc (c : Thread nD τ) ↦[a3.view.set]{fullShare} f3) ∗ (a4.view.loc (c : Thread nD τ) ↦[a4.view.set]{fullShare} f4) ∗ (a5.view.loc (c : Thread nD τ) ↦[a5.view.set]{fullShare} f5) ∗ (a6.view.loc (c : Thread nD τ) ↦[a6.view.set]{fullShare} f6) ∗ (a7.view.loc (c : Thread nD τ) ↦[a7.view.set]{fullShare} f7) ∗ (a8.view.loc (c : Thread nD τ) ↦[a8.view.set]{fullShare} f8) ∗ (a9.view.loc (c : Thread nD τ) ↦[a9.view.set]{fullShare} f9) ∗ (a10.view.loc (c : Thread nD τ) ↦[a10.view.set]{fullShare} f10) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13) ∗ (a14.view.loc (c : Thread nD τ) ↦[a14.view.set]{fullShare} f14) ∗ (a15.view.loc (c : Thread nD τ) ↦[a15.view.set]{fullShare} f15) ∗ (a16.view.loc (c : Thread nD τ) ↦[a16.view.set]{fullShare} f16) ∗ (a17.view.loc (c : Thread nD τ) ↦[a17.view.set]{fullShare} f17) ∗ (a18.view.loc (c : Thread nD τ) ↦[a18.view.set]{fullShare} f18) ∗ (a19.view.loc (c : Thread nD τ) ↦[a19.view.set]{fullShare} f19) ∗ (a20.view.loc (c : Thread nD τ) ↦[a20.view.set]{fullShare} f20) ∗ (a21.view.loc (c : Thread nD τ) ↦[a21.view.set]{fullShare} f21) ∗ (a22.view.loc (c : Thread nD τ) ↦[a22.view.set]{fullShare} f22) ∗ (a23.view.loc (c : Thread nD τ) ↦[a23.view.set]{fullShare} f23) ∗ (∃ f24, (a24.view.loc (c : Thread nD τ) ↦[a24.view.set]{fullShare} f24)) ∗ (∃ f25, ⌜P25 (a25.view.read (Elt F) f25)⌝ ∗ (a25.view.loc (c : Thread nD τ) ↦[a25.view.set]{fullShare} f25)) ∗ (∃ f26, (a26.view.loc (c : Thread nD τ) ↦[a26.view.set]{fullShare} f26)) ∗ (∃ f27, (a27.view.loc (c : Thread nD τ) ↦[a27.view.set]{fullShare} f27)) ∗ (∃ f28, (a28.view.loc (c : Thread nD τ) ↦[a28.view.set]{fullShare} f28)) ∗ (∃ f29, (a29.view.loc (c : Thread nD τ) ↦[a29.view.set]{fullShare} f29)) ∗ (a30.view.loc (c : Thread nD τ) ↦[a30.view.set]{fullShare} f30) ∗ (a31.view.loc (c : Thread nD τ) ↦[a31.view.set]{fullShare} f31) ∗ (∃ f32, (a32.view.loc (c : Thread nD τ) ↦[a32.view.set]{fullShare} f32)) ∗ (∃ f33, ⌜P33 (a33.view.read (Elt F) f33)⌝ ∗ (a33.view.loc (c : Thread nD τ) ↦[a33.view.set]{fullShare} f33)) ∗ (a34.view.loc (c : Thread nD τ) ↦[a34.view.set]{fullShare} f34)) ⊢ Q) : Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33 ⊢ Q := h

section

variable {c} {a2} {a3} {a4} {a5} {a6} {a7} {a8} {a9} {a10} {a11} {a12} {a13} {a14} {a15} {a16} {a17} {a18} {a19} {a20} {a21} {a22} {a23} {a24} {a25} {a26} {a27} {a28} {a29} {a30} {a31} {a32} {a33} {a34} {f2} {f3} {f4} {f5} {f6} {f7} {f8} {f9} {f10} {f11} {f12} {f13} {f14} {f15} {f16} {f17} {f18} {f19} {f20} {f21} {f22} {f23} {f30} {f31} {f34} {P25} {P33}

theorem packed {g24 : Buf (Elt F) (a24.view.loc (c : Thread nD τ))} {g25 : Buf (Elt F) (a25.view.loc (c : Thread nD τ))} {g26 : Buf (Elt F) (a26.view.loc (c : Thread nD τ))} {g27 : Buf (Elt F) (a27.view.loc (c : Thread nD τ))} {g28 : Buf (Elt F) (a28.view.loc (c : Thread nD τ))} {g29 : Buf (Elt F) (a29.view.loc (c : Thread nD τ))} {g32 : Buf (Elt F) (a32.view.loc (c : Thread nD τ))} {g33 : Buf (Elt F) (a33.view.loc (c : Thread nD τ))} : (a2.view.loc (c : Thread nD τ) ↦[a2.view.set]{fullShare} f2) ⊢
    iprop((a3.view.loc (c : Thread nD τ) ↦[a3.view.set]{fullShare} f3) -∗ (a4.view.loc (c : Thread nD τ) ↦[a4.view.set]{fullShare} f4) -∗ (a5.view.loc (c : Thread nD τ) ↦[a5.view.set]{fullShare} f5) -∗ (a6.view.loc (c : Thread nD τ) ↦[a6.view.set]{fullShare} f6) -∗ (a7.view.loc (c : Thread nD τ) ↦[a7.view.set]{fullShare} f7) -∗ (a8.view.loc (c : Thread nD τ) ↦[a8.view.set]{fullShare} f8) -∗ (a9.view.loc (c : Thread nD τ) ↦[a9.view.set]{fullShare} f9) -∗ (a10.view.loc (c : Thread nD τ) ↦[a10.view.set]{fullShare} f10) -∗ (a11.view.loc (c : Thread nD τ) ↦[a11.view.set]{fullShare} f11) -∗ (a12.view.loc (c : Thread nD τ) ↦[a12.view.set]{fullShare} f12) -∗ (a13.view.loc (c : Thread nD τ) ↦[a13.view.set]{fullShare} f13) -∗ (a14.view.loc (c : Thread nD τ) ↦[a14.view.set]{fullShare} f14) -∗ (a15.view.loc (c : Thread nD τ) ↦[a15.view.set]{fullShare} f15) -∗ (a16.view.loc (c : Thread nD τ) ↦[a16.view.set]{fullShare} f16) -∗ (a17.view.loc (c : Thread nD τ) ↦[a17.view.set]{fullShare} f17) -∗ (a18.view.loc (c : Thread nD τ) ↦[a18.view.set]{fullShare} f18) -∗ (a19.view.loc (c : Thread nD τ) ↦[a19.view.set]{fullShare} f19) -∗ (a20.view.loc (c : Thread nD τ) ↦[a20.view.set]{fullShare} f20) -∗ (a21.view.loc (c : Thread nD τ) ↦[a21.view.set]{fullShare} f21) -∗ (a22.view.loc (c : Thread nD τ) ↦[a22.view.set]{fullShare} f22) -∗ (a23.view.loc (c : Thread nD τ) ↦[a23.view.set]{fullShare} f23) -∗ (a24.view.loc (c : Thread nD τ) ↦[a24.view.set]{fullShare} g24) -∗ (a25.view.loc (c : Thread nD τ) ↦[a25.view.set]{fullShare} g25) -∗ (a26.view.loc (c : Thread nD τ) ↦[a26.view.set]{fullShare} g26) -∗ (a27.view.loc (c : Thread nD τ) ↦[a27.view.set]{fullShare} g27) -∗ (a28.view.loc (c : Thread nD τ) ↦[a28.view.set]{fullShare} g28) -∗ (a29.view.loc (c : Thread nD τ) ↦[a29.view.set]{fullShare} g29) -∗ (a30.view.loc (c : Thread nD τ) ↦[a30.view.set]{fullShare} f30) -∗ (a31.view.loc (c : Thread nD τ) ↦[a31.view.set]{fullShare} f31) -∗ (a32.view.loc (c : Thread nD τ) ↦[a32.view.set]{fullShare} g32) -∗ (a33.view.loc (c : Thread nD τ) ↦[a33.view.set]{fullShare} g33) -∗ (a34.view.loc (c : Thread nD τ) ↦[a34.view.set]{fullShare} f34) -∗ ⌜P25 (a25.view.read (Elt F) g25)⌝ -∗ ⌜P33 (a33.view.read (Elt F) g33)⌝ -∗ Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  iintro H2 H3 H4 H5 H6 H7 H8 H9 H10 H11 H12 H13 H14 H15 H16 H17 H18 H19 H20 H21 H22 H23 H24 H25 H26 H27 H28 H29 H30 H31 H32 H33 H34 %p25 %p33
  unfold Kept
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexists _; iexact H24
  isplitl [H25]
  · iexists _; isplitr; swap; · iexact H25
    ipureintro; exact p25
  isplitl [H26]
  · iexists _; iexact H26
  isplitl [H27]
  · iexists _; iexact H27
  isplitl [H28]
  · iexists _; iexact H28
  isplitl [H29]
  · iexists _; iexact H29
  isplitl [H30]
  · iexact H30
  isplitl [H31]
  · iexact H31
  isplitl [H32]
  · iexists _; iexact H32
  isplitl [H33]
  · iexists _; isplitr; swap; · iexact H33
    ipureintro; exact p33
  iexact H34

end

set_option maxHeartbeats 4000000 in
theorem k0_part1_keeps (v73 : FVec F S4x1024 .f32) (c0_i32 : BitVec 32) (c1_i32 : BitVec 32) (k0_t1 : Fin k0_t1_loop.trips) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part1 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v73 c0_i32 c1_i32 k0_t1) (fun r => iprop(⌜tailAt (a30.view.read (Elt F) f30) (2 * k0_t1.val) r.2.2.2.2⌝ ∗ Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 (fun _ => True))) := by
  rw [k0_part1_eq_skeleton]; unfold k0_part1_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  simp only [Idealize.SL.Sem.Prog.bind_lift]
  sl_step
  sl_step
  sl_step
  sl_step
  sl_step
  sl_step
  ihave Hx : (iprop(∃ g, ⌜rowsAt (a30.view.read (Elt F) f30) (2 * k0_t1.val) (a33.view.read (Elt F) g)⌝ ∗ (a33.view.loc (c : Thread nD τ) ↦[a33.view.set]{fullShare} g))) $$ [H33]
  · iexists _; isplitr; swap; · iexact H33
    ipureintro
    refine rows_stored (a30.view.read (Elt F) f30) _ a33 _ _ _ _ fun x z h1 h2 => ?_
    simp only [k0_pay4, k0_pay2, shapeCast_self]
    exact block_rows a30 f30 (2 * k0_t1.val) _ _ _ (by rw [show (0#32 : BitVec 32) = BitVec.ofNat 32 ((0 : Fin 2)).val from rfl, k0_off1_eq k0_t1 0]; congr 1; funext a; fin_cases a <;> simp <;> omega) x z h1 h2
  icases Hx with ⟨%g, %hg, H33⟩
  sl_step
  sl_step
  sl_step
  sl_step
  sl_step
  isplitr; · ipureintro; exact tail_read (a30.view.read (Elt F) f30) _ a33 g _ hg
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; trivial

set_option maxHeartbeats 4000000 in
theorem k0_part2_keeps (v68 v71 : FVec F S32x32 .f32) (k0_t1 : Fin k0_t1_loop.trips) (v112 : BitVec 32) (v142 : FVec F S32x1024 .f32) (v143 : Vec F S3x1024 .f32)  (hv : tailAt (a30.view.read (Elt F) f30) (2 * k0_t1.val) v143):
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val)) P33
      ⊢ wp frame (wpE (defs₀ (F := F)) Variants.none c none) E (k0_part2 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v68 v71 k0_t1 v112 v142 v143) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val + 1)) P33) := by
  rw [k0_part2_eq_skeleton]; unfold k0_part2_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact kept_step (a30.view.read (Elt F) f30) _ a25 f25 p25 v143 hv _ (by rw [show (0#32 : BitVec 32) = BitVec.ofNat 32 ((0 : Fin 2)).val from rfl, k0_off2_eq k0_t1 0]; rfl) _ _
  · ipureintro; exact p33

set_option maxHeartbeats 4000000 in
theorem k0_part3_keeps (v73 : FVec F S4x1024 .f32) (k0_t1 : Fin k0_t1_loop.trips) (a35 : BitVec 32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part3 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v73 k0_t1 a35) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 (rowsAt (a30.view.read (Elt F) f30) (2 * k0_t1.val + 1))) := by
  rw [k0_part3_eq_skeleton]; unfold k0_part3_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  simp only [Idealize.SL.Sem.Prog.bind_lift]
  sl_step
  sl_step
  sl_step
  sl_step
  sl_step
  sl_step
  sl_step
  sl_step
  ihave Hx : (iprop(∃ g, ⌜rowsAt (a30.view.read (Elt F) f30) (2 * k0_t1.val + 1) (a33.view.read (Elt F) g)⌝ ∗ (a33.view.loc (c : Thread nD τ) ↦[a33.view.set]{fullShare} g))) $$ [H33]
  · iexists _; isplitr; swap; · iexact H33
    ipureintro
    refine rows_stored (a30.view.read (Elt F) f30) _ a33 _ _ _ _ fun x z h1 h2 => ?_
    simp only [k0_pay16, k0_pay14, shapeCast_self]
    exact block_rows a30 f30 (2 * k0_t1.val + 1) _ _ _ (by rw [show (1#32 : BitVec 32) = BitVec.ofNat 32 ((1 : Fin 2)).val from rfl, k0_off1_eq k0_t1 1]; congr 1; funext a; fin_cases a <;> simp <;> omega) x z h1 h2
  icases Hx with ⟨%g, %hg, H33⟩
  sl_step
  sl_step
  sl_step
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact hg

set_option maxHeartbeats 4000000 in
theorem k0_part4_keeps (v68 : FVec F S32x32 .f32) (k0_t1 : Fin k0_t1_loop.trips) (v191 : BitVec 32) (v193 : BitVec 32) (v223 : FVec F S32x1024 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val + 1)) (rowsAt (a30.view.read (Elt F) f30) (2 * k0_t1.val + 1))
      ⊢ wp frame (wpE (defs₀ (F := F)) Variants.none c none) E (k0_part4 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v68 k0_t1 v191 v193 v223) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val + 1 + 1)) (rowsAt (a30.view.read (Elt F) f30) (2 * k0_t1.val + 1))) := by
  rw [k0_part4_eq_skeleton]; unfold k0_part4_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact kept_step (a30.view.read (Elt F) f30) _ a25 f25 p25 _ (tail_read (a30.view.read (Elt F) f30) _ a33 f33 _ p33) _ (by rw [show (1#32 : BitVec 32) = BitVec.ofNat 32 ((1 : Fin 2)).val from rfl, k0_off2_eq k0_t1 1]; rfl) _ _
  · ipureintro; exact p33

set_option maxHeartbeats 4000000 in
theorem k0_part5_keeps (v71 : FVec F S32x32 .f32) (k0_t1 : Fin k0_t1_loop.trips) (v110 : BitVec 32) (v112 : BitVec 32) (v155 : FVec F S32x1024 .f32) (v158 : FVec F S32x128 .f32) (v167 : FVec F S8x32 .f32) (v176 : FVec F S32x128 .f32) (v185 v259 v262 : FVec F S8x32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part5 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v71 k0_t1 v110 v112 v155 v158 v167 v176 v185 v259 v262) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part5_eq_skeleton]; unfold k0_part5_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part6_keeps (k0_t1 : Fin k0_t1_loop.trips) (v110 : BitVec 32) (v158 : FVec F S32x128 .f32) (v167 : FVec F S8x32 .f32) (v176 : FVec F S32x128 .f32) (v185 : FVec F S8x32 .f32) (v191 : BitVec 32) (v193 : BitVec 32) (v236 : FVec F S32x1024 .f32) (v239 : FVec F S32x128 .f32) (v248 : FVec F S8x32 .f32) (v257 : FVec F S32x128 .f32) (v266 : FVec F S8x32 .f32) (v298 v299 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part6 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v158 v167 v176 v185 v191 v193 v236 v239 v248 v257 v266 v298 v299) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part6_eq_skeleton]; unfold k0_part6_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part7_keeps (k0_t1 : Fin k0_t1_loop.trips) (v191 : BitVec 32) (v193 : BitVec 32) (v236 : FVec F S32x1024 .f32) (v239 : FVec F S32x128 .f32) (v248 : FVec F S8x32 .f32) (v257 : FVec F S32x128 .f32) (v266 : FVec F S8x32 .f32) (v273 : FVec F S32x128 .f32) (v280 : FVec F S128x128 .f32) (v287 : FVec F S32x1 .f32) (v288 v290 : FVec F S1x32 .f32) (v298 : FVec F S32x128 .f32) (v305 : FVec F S128x128 .f32) (v323 : FVec F S32x128 .f32) (v330 : FVec F S128x128 .f32) (v343 v344 : FVec F S32x128 .bf16) (cst_180 : FVec F S32x32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part7 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v191 v193 v236 v239 v248 v257 v266 v273 v280 v287 v288 v290 v298 v305 v323 v330 v343 v344 cst_180) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part7_eq_skeleton]; unfold k0_part7_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part8_keeps (v66 : IVec S32x32 1) (v292 : FVec F S32x1 .f32) (v295 : FVec F S32x32 .f32) (v312 : FVec F S32x1 .f32) (v313 v315 : FVec F S1x32 .f32) (v317 : FVec F S32x1 .f32) (v320 : FVec F S32x32 .f32) (v337 : FVec F S32x1 .f32) (v338 v340 : FVec F S1x32 .f32) (v342 v362 : FVec F S32x1 .f32) (v363 v365 : FVec F S1x32 .f32) (v367 : FVec F S32x1 .f32) (v387 v388 : FVec F S32x32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part8 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v66 v292 v295 v312 v313 v315 v317 v320 v337 v338 v340 v342 v362 v363 v365 v367 v387 v388) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part8_eq_skeleton]; unfold k0_part8_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part9_keeps (v274 v277 : FVec F S32x128 .f32) (v287 v289 v292 : FVec F S32x1 .f32) (v299 v302 : FVec F S32x128 .f32) (v312 v314 v317 : FVec F S32x1 .f32) (v327 : FVec F S32x128 .f32) (v337 v339 : FVec F S32x1 .f32) (v345 : FVec F S32x32 .f32) (v352 : FVec F S32x128 .f32) (v367 : FVec F S32x1 .f32) (v370 : FVec F S32x32 .f32) (v413 v416 v419 v422 : FVec F S32x1 .f32) (v431 v434 v437 v440 : FVec F S32x32 .f32) (v441 : FVec F S32x1 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part9 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v274 v277 v287 v289 v292 v299 v302 v312 v314 v317 v327 v337 v339 v345 v352 v367 v370 v413 v416 v419 v422 v431 v434 v437 v440 v441) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part9_eq_skeleton]; unfold k0_part9_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part10_keeps (v273 : FVec F S32x128 .f32) (v283 : FVec F S1x128 .f32) (v298 : FVec F S32x128 .f32) (v308 : FVec F S1x128 .f32) (v324 v327 : FVec F S32x128 .f32) (v342 : FVec F S32x1 .f32) (v349 v352 : FVec F S32x128 .f32) (v362 v364 v367 : FVec F S32x1 .f32) (v373 v376 v379 : FVec F S32x128 .f32) (v422 v436 : FVec F S32x1 .f32) (v437 : FVec F S32x32 .f32) (v439 : FVec F S32x1 .f32) (v440 : FVec F S32x32 .f32) (v442 : FVec F S32x1 .f32) (v443 : FVec F S32x32 .f32) (v449 v452 v455 : FVec F S32x128 .f32) (v491 : FVec F S1x1 .f32) (v495 : FVec F S32x1 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part10 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v273 v283 v298 v308 v324 v327 v342 v349 v352 v362 v364 v367 v373 v376 v379 v422 v436 v437 v439 v440 v442 v443 v449 v452 v455 v491 v495) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part10_eq_skeleton]; unfold k0_part10_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part11_keeps (v110 : BitVec 32) (v280 : FVec F S128x128 .f32) (v323 : FVec F S32x128 .f32) (v333 : FVec F S1x128 .f32) (v348 : FVec F S32x128 .f32) (v358 : FVec F S1x128 .f32) (v382 : FVec F S32x128 .f32) (v413 v416 v419 v422 v442 v445 : FVec F S32x1 .f32) (v446 : FVec F S32x32 .f32) (v458 : FVec F S32x128 .f32) (v469 : FVec F S1x1 .f32) (v474 : FVec F S128x128 .f32) (v525 : FVec F S32x128 .f32) (v533 : FVec F S32x1 .f32) (v536 : FVec F S32x128 .f32) (v544 : FVec F S32x1 .f32) (v547 : FVec F S32x128 .f32) (v548 : FVec F S32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part11 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v110 v280 v323 v333 v348 v358 v382 v413 v416 v419 v422 v442 v445 v446 v458 v469 v474 v525 v533 v536 v544 v547 v548) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part11_eq_skeleton]; unfold k0_part11_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part12_keeps (k0_t1 : Fin k0_t1_loop.trips) (v110 : BitVec 32) (v283 : FVec F S1x128 .f32) (v305 : FVec F S128x128 .f32) (v308 : FVec F S1x128 .f32) (v459 v469 : FVec F S1x1 .f32) (v471 : FVec F S32x128 .f32) (v475 v485 : FVec F S1x1 .f32) (v487 : FVec F S32x128 .f32) (v490 : FVec F S128x128 .f32) (v501 : FVec F S1x1 .f32) (v597 : FVec F S128x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part12 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v283 v305 v308 v459 v469 v471 v475 v485 v487 v490 v501 v597) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part12_eq_skeleton]; unfold k0_part12_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part13_keeps (k0_t1 : Fin k0_t1_loop.trips) (v191 : BitVec 32) (v330 : FVec F S128x128 .f32) (v333 : FVec F S1x128 .f32) (v355 : FVec F S128x128 .f32) (v358 : FVec F S1x128 .f32) (v491 v501 : FVec F S1x1 .f32) (v503 : FVec F S32x128 .f32) (v506 : FVec F S128x128 .f32) (v507 v517 : FVec F S1x1 .f32) (v519 : FVec F S32x128 .f32) (v522 v639 : FVec F S128x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part13 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v191 v330 v333 v355 v358 v491 v501 v503 v506 v507 v517 v519 v522 v639) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part13_eq_skeleton]; unfold k0_part13_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part14_keeps (v75 : FVec F S1x1024 .f32) (k0_t1 : Fin k0_t1_loop.trips) (v112 : BitVec 32) (v573 v580 : FVec F S32x128 .f32) (v678 : FVec F S1x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part14 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v573 v580 v678) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part14_eq_skeleton]; unfold k0_part14_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part15_keeps (v75 : FVec F S1x1024 .f32) (k0_t1 : Fin k0_t1_loop.trips) (v112 : BitVec 32) (v193 : BitVec 32) (v580 v587 v720 : FVec F S32x128 .f32) (v722 : FVec F S32x1 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part15 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v193 v580 v587 v720 v722) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part15_eq_skeleton]; unfold k0_part15_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part16_keeps (v75 : FVec F S1x1024 .f32) (k0_t1 : Fin k0_t1_loop.trips) (v193 : BitVec 32) (v594 v755 v761 : FVec F S32x128 .f32) (v766 : FVec F S32x1 .f32) (cst_282 : F .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part16 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v193 v594 v755 v761 v766 cst_282) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part16_eq_skeleton]; unfold k0_part16_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part17_keeps (k0_t1 : Fin k0_t1_loop.trips) (v112 : BitVec 32) (v187 v189 : FVec F S32x128 .f32) (v193 : BitVec 32) (v809 v812 : FVec F S32x128 .f32) (cst_295 : F .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part17 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v112 v187 v189 v193 v809 v812 cst_295) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part17_eq_skeleton]; unfold k0_part17_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part18_keeps (k0_t1 : Fin k0_t1_loop.trips) (v110 : BitVec 32) (v187 v189 : FVec F S32x128 .f32) (v193 : BitVec 32) (v268 v270 v828 v841 v851 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part18 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v187 v189 v193 v268 v270 v828 v841 v851) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part18_eq_skeleton]; unfold k0_part18_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part19_keeps (k0_t1 : Fin k0_t1_loop.trips) (v191 : BitVec 32) (v268 v270 v835 v848 v854 v861 v867 v874 v880 : FVec F S32x128 .f32) (v883 : FVec F S128x128 .f32) (v889 : FVec F S32x128 .f32) (v891 : Vec F S1x1x128x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part19 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v191 v268 v270 v835 v848 v854 v861 v867 v874 v880 v883 v889 v891) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part19_eq_skeleton]; unfold k0_part19_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part20_keeps (v831 v844 v857 v870 v880 v889 v898 v907 : FVec F S32x128 .f32) (v913 v916 v919 : FVec F S32x32 .f32) (v932 : FVec F S32x128 .bf16) (v933 : FVec F S128x128 .bf16) (cst_349 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part20 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v831 v844 v857 v870 v880 v889 v898 v907 v913 v916 v919 v932 v933 cst_349) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part20_eq_skeleton]; unfold k0_part20_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part21_keeps (k0_t1 : Fin k0_t1_loop.trips) (v110 : BitVec 32) (v831 v844 v857 v870 : FVec F S32x128 .f32) (v883 v892 : FVec F S128x128 .f32) (v922 : FVec F S32x32 .f32) (v925 v928 : FVec F S32x128 .f32) (v940 v946 : FVec F S128x128 .f32) (v961 v964 v967 : FVec F S32x32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part21 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v831 v844 v857 v870 v883 v892 v922 v925 v928 v940 v946 v961 v964 v967) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part21_eq_skeleton]; unfold k0_part21_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part22_keeps (k0_t1 : Fin k0_t1_loop.trips) (v112 : BitVec 32) (v191 : BitVec 32) (v901 v910 : FVec F S128x128 .f32) (v931 v934 : FVec F S32x128 .f32) (v952 v958 : FVec F S128x128 .f32) (v979 v982 v986 : FVec F S32x128 .f32) (v1004 : FVec F S128x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part22 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v112 v191 v901 v910 v931 v934 v952 v958 v979 v982 v986 v1004) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part22_eq_skeleton]; unfold k0_part22_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part23_keeps (v75 : FVec F S1x1024 .f32) (k0_t1 : Fin k0_t1_loop.trips) (v112 : BitVec 32) (v986 v999 v1037 : FVec F S32x128 .f32) (v1038 : FVec F S32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part23 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v986 v999 v1037 v1038) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part23_eq_skeleton]; unfold k0_part23_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part24_keeps (v75 : FVec F S1x1024 .f32) (k0_t1 : Fin k0_t1_loop.trips) (v112 : BitVec 32) (v193 : BitVec 32) (v1012 v1073 v1079 : FVec F S32x128 .f32) (v1082 v1083 : FVec F S32x1 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part24 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v193 v1012 v1073 v1079 v1082 v1083) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part24_eq_skeleton]; unfold k0_part24_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part25_keeps (v75 : FVec F S1x1024 .f32) (k0_t1 : Fin k0_t1_loop.trips) (v193 : BitVec 32) (v1025 v1109 v1128 v1129 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part25 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v193 v1025 v1109 v1128 v1129) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part25_eq_skeleton]; unfold k0_part25_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part26_keeps (k0_t1 : Fin k0_t1_loop.trips) (v110 : BitVec 32) (v112 : BitVec 32) (v155 : FVec F S32x1024 .f32) (v158 : FVec F S32x128 .f32) (v167 : FVec F S8x32 .f32) (v176 : FVec F S32x128 .f32) (v185 : FVec F S8x32 .f32) (v1174 : FVec F S32x128 .bf16) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part26 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v112 v155 v158 v167 v176 v185 v1174) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part26_eq_skeleton]; unfold k0_part26_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part27_keeps (k0_t1 : Fin k0_t1_loop.trips) (v110 : BitVec 32) (v158 : FVec F S32x128 .f32) (v167 : FVec F S8x32 .f32) (v176 : FVec F S32x128 .f32) (v185 : FVec F S8x32 .f32) (v191 : BitVec 32) (v193 : BitVec 32) (v236 : FVec F S32x1024 .f32) (v239 : FVec F S32x128 .f32) (v248 : FVec F S8x32 .f32) (v257 : FVec F S32x128 .f32) (v266 : FVec F S8x32 .f32) (v1206 v1207 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part27 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v158 v167 v176 v185 v191 v193 v236 v239 v248 v257 v266 v1206 v1207) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part27_eq_skeleton]; unfold k0_part27_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part28_keeps (v66 : IVec S32x32 1) (k0_t1 : Fin k0_t1_loop.trips) (v191 : BitVec 32) (v239 : FVec F S32x128 .f32) (v248 : FVec F S8x32 .f32) (v257 : FVec F S32x128 .f32) (v266 : FVec F S8x32 .f32) (v1181 : FVec F S32x128 .f32) (v1188 : FVec F S128x128 .f32) (v1195 : FVec F S32x1 .f32) (v1196 v1198 : FVec F S1x32 .f32) (v1206 : FVec F S32x128 .f32) (v1213 : FVec F S128x128 .f32) (v1220 : FVec F S32x1 .f32) (v1221 v1223 : FVec F S1x32 .f32) (v1231 : FVec F S32x128 .f32) (v1238 : FVec F S128x128 .f32) (v1256 v1257 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part28 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v66 k0_t1 v191 v239 v248 v257 v266 v1181 v1188 v1195 v1196 v1198 v1206 v1213 v1220 v1221 v1223 v1231 v1238 v1256 v1257) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part28_eq_skeleton]; unfold k0_part28_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part29_keeps (v66 : IVec S32x32 1) (v1185 : FVec F S32x128 .f32) (v1200 : FVec F S32x1 .f32) (v1203 : FVec F S32x32 .f32) (v1225 : FVec F S32x1 .f32) (v1228 : FVec F S32x32 .f32) (v1245 : FVec F S32x1 .f32) (v1246 v1248 : FVec F S1x32 .f32) (v1250 : FVec F S32x1 .f32) (v1253 : FVec F S32x32 .f32) (v1270 : FVec F S32x1 .f32) (v1271 v1273 : FVec F S1x32 .f32) (v1275 : FVec F S32x1 .f32) (v1278 v1297 v1302 v1303 : FVec F S32x32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part29 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v66 v1185 v1200 v1203 v1225 v1228 v1245 v1246 v1248 v1250 v1253 v1270 v1271 v1273 v1275 v1278 v1297 v1302 v1303) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part29_eq_skeleton]; unfold k0_part29_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part30_keeps (v1182 v1185 : FVec F S32x128 .f32) (v1195 v1197 v1200 : FVec F S32x1 .f32) (v1207 v1210 : FVec F S32x128 .f32) (v1220 v1222 v1225 : FVec F S32x1 .f32) (v1232 v1235 : FVec F S32x128 .f32) (v1245 v1247 v1250 : FVec F S32x1 .f32) (v1260 : FVec F S32x128 .f32) (v1321 v1324 v1327 : FVec F S32x1 .f32) (v1348 v1351 v1354 : FVec F S32x32 .f32) (v1355 : FVec F S32x32 .bf16) (v1356 : FVec F S32x128 .bf16) (cst_512 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part30 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1182 v1185 v1195 v1197 v1200 v1207 v1210 v1220 v1222 v1225 v1232 v1235 v1245 v1247 v1250 v1260 v1321 v1324 v1327 v1348 v1351 v1354 v1355 v1356 cst_512) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part30_eq_skeleton]; unfold k0_part30_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part31_keeps (v1181 : FVec F S32x128 .f32) (v1191 : FVec F S1x128 .f32) (v1206 : FVec F S32x128 .f32) (v1216 : FVec F S1x128 .f32) (v1231 v1235 : FVec F S32x128 .f32) (v1241 : FVec F S1x128 .f32) (v1257 v1260 : FVec F S32x128 .f32) (v1270 v1272 v1275 : FVec F S32x1 .f32) (v1281 v1284 v1287 : FVec F S32x128 .f32) (v1330 v1344 : FVec F S32x1 .f32) (v1345 : FVec F S32x32 .f32) (v1347 : FVec F S32x1 .f32) (v1348 : FVec F S32x32 .f32) (v1350 : FVec F S32x1 .f32) (v1351 : FVec F S32x32 .f32) (v1357 v1360 v1363 v1411 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part31 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1181 v1191 v1206 v1216 v1231 v1235 v1241 v1257 v1260 v1270 v1272 v1275 v1281 v1284 v1287 v1330 v1344 v1345 v1347 v1348 v1350 v1351 v1357 v1360 v1363 v1411) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part31_eq_skeleton]; unfold k0_part31_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part32_keeps (k0_t1 : Fin k0_t1_loop.trips) (v110 : BitVec 32) (v1188 : FVec F S128x128 .f32) (v1191 : FVec F S1x128 .f32) (v1256 : FVec F S32x128 .f32) (v1266 : FVec F S1x128 .f32) (v1290 : FVec F S32x128 .f32) (v1321 v1324 v1327 v1330 v1353 : FVec F S32x1 .f32) (v1354 : FVec F S32x32 .f32) (v1366 : FVec F S32x128 .f32) (v1377 : FVec F S1x1 .f32) (v1379 : FVec F S32x128 .f32) (v1382 : FVec F S128x128 .f32) (v1433 : FVec F S32x128 .f32) (v1441 : FVec F S32x1 .f32) (v1444 : FVec F S32x128 .f32) (v1452 : FVec F S32x1 .f32) (v1455 : FVec F S32x128 .f32) (v1463 : FVec F S32x1 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part32 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v1188 v1191 v1256 v1266 v1290 v1321 v1324 v1327 v1330 v1353 v1354 v1366 v1377 v1379 v1382 v1433 v1441 v1444 v1452 v1455 v1463) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part32_eq_skeleton]; unfold k0_part32_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

end Cert.Proof.Mx

end
-- ==== Proof.MxWhole.lean ====
/- The mixer: a trip of its loop, and its body whole. -/
module

public import proofs.«01_k».proof.Proof.MxRun
public import Idealize.ShloMosaic.Lib.VecWindow

@[expose] public section

set_option maxRecDepth 16384

noncomputable section

namespace Cert.Proof.Mx

open Cert.KernelMxIdeal Cert.KernelMxIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem chain {α β : Type} {c : Dev nD} {E : Set ℕ} {P : sProp 𝕄} {R : α → sProp 𝕄} {Q : β → sProp 𝕄}
    {p : Prog (TpuEff nD τ sig (Elt F) Λ₀ .tc) α} {k : α → Prog (TpuEff nD τ sig (Elt F) Λ₀ .tc) β}
    (h : P ⊢ wp frame (wpE (defs₀ (F := F)) Variants.none c none) E p R)
    (hk : ∀ a, R a ⊢ wp frame (wpE (defs₀ (F := F)) Variants.none c none) E (k a) Q) :
    P ⊢ wp frame (wpE (defs₀ (F := F)) Variants.none c none) E (p >>= k) Q := by
  rw [wp_bind]; exact h.trans (wp_mono _ _ _ hk)

theorem fact_first {φ : Prop} {A B : sProp 𝕄} (h : φ → A ⊢ B) : iprop(⌜φ⌝ ∗ A) ⊢ B := by
  iintro ⟨%hp, H⟩
  iapply (h hp)
  iexact H

/-- The projected rows' first 1024 columns, from a block of rows and the projection's weights. -/
def projAt (x : Vec F S256x1024 .f32) (w : Vec F S1024x4096 .bf16) (X : Vec F S1x256x4096 .f32) : Prop :=
  ∀ (r : Fin 256) (q : Fin 512),
    X (ix3 (0 : Fin 1) r ⟨q.val, by omega⟩) = k0_pay409 x (View.ld w (Rect.unit (s := S1024x4096) ![0, 0] S1024x512.size inb_S1024x4096_S1024x512_0_0)) (ix3 (0 : Fin 1) r q)
    ∧ X (ix3 (0 : Fin 1) r ⟨512 + q.val, by omega⟩) = k0_pay410 x (View.ld w (Rect.unit (s := S1024x4096) ![0, 512] S1024x512.size inb_S1024x4096_S1024x512_0_512)) (ix3 (0 : Fin 1) r q)

/-- The rows kept of a block of eight batches. -/
def convOf (x : Vec F S256x1024 .f32) (w : Vec F S1024x4096 .bf16) : Vec F S8x3x1024 .f32 := fun y =>
  if h : (y 2).val < 512 then
    k0_pay409 x (View.ld w (Rect.unit (s := S1024x4096) ![0, 0] S1024x512.size inb_S1024x4096_S1024x512_0_0))
      (ix3 (0 : Fin 1) ⟨32 * (y 0).val + 29 + (y 1).val, by have h0 : (y 0).val < 8 := (y 0).isLt; have h1 : (y 1).val < 3 := (y 1).isLt; omega⟩ ⟨(y 2).val, h⟩)
  else
    k0_pay410 x (View.ld w (Rect.unit (s := S1024x4096) ![0, 512] S1024x512.size inb_S1024x4096_S1024x512_0_512))
      (ix3 (0 : Fin 1) ⟨32 * (y 0).val + 29 + (y 1).val, by have h0 : (y 0).val < 8 := (y 0).isLt; have h1 : (y 1).val < 3 := (y 1).isLt; omega⟩
        ⟨(y 2).val - 512, by have h2 : (y 2).val < 1024 := (y 2).isLt; omega⟩)

theorem convOf_of_kept (x : Vec F S256x1024 .f32) (w : Vec F S1024x4096 .bf16) (X : Vec F S1x256x4096 .f32) (V : Vec F S8x3x1024 .f32)
    (hX : projAt x w X) (hV : keptTo X 8 V) : V = convOf x w := by
  funext y
  have h0 : (y 0).val < 8 := (y 0).isLt
  have h1 : (y 1).val < 3 := (y 1).isLt
  have h2 : (y 2).val < 1024 := (y 2).isLt
  unfold convOf
  by_cases h : (y 2).val < 512
  · rw [dif_pos h]
    exact (hV y (ix3 (0 : Fin 1) ⟨32 * (y 0).val + 29 + (y 1).val, by omega⟩ ⟨(y 2).val, by omega⟩) h0 rfl rfl).trans (hX _ ⟨(y 2).val, h⟩).1
  · rw [dif_neg h]
    refine (hV y (ix3 (0 : Fin 1) ⟨32 * (y 0).val + 29 + (y 1).val, by omega⟩ ⟨512 + ((y 2).val - 512), by omega⟩) h0 rfl ?_).trans (hX _ ⟨(y 2).val - 512, by omega⟩).2
    show 512 + ((y 2).val - 512) = (y 2).val
    omega

theorem col_miss (M : Memref sig .tc .vmem S1x256x4096 .f32) (f : M.view.ty.Contents (Elt F)) (o : ℕ) (inb) (w : (Rect.unit (s := S1x256x4096) ![0, 0, o] S1x256x512.size inb).shape.Idx → F .f32)
    (L : List (View.Piece (Elt F) S1x256x4096 .f32)) (r : Fin 256) (q : Fin 4096) (h : q.val < o) :
    M.view.read (Elt F) (M.view.writes (Elt F) f (⟨Rect.unit (s := S1x256x4096) ![0, 0, o] S1x256x512.size inb, w⟩ :: L)) (ix3 (0 : Fin 1) r q)
      = M.view.read (Elt F) (M.view.writes (Elt F) f L) (ix3 (0 : Fin 1) r q) :=
  View.read_writes_cons_unit_of_not_mem M.view f inb w L _ rfl (2 : Fin 3) (.inl h)

theorem col_hit (M : Memref sig .tc .vmem S1x256x4096 .f32) (f : M.view.ty.Contents (Elt F)) (o : ℕ) (inb) (w : (Rect.unit (s := S1x256x4096) ![0, 0, o] S1x256x512.size inb).shape.Idx → F .f32)
    (L : List (View.Piece (Elt F) S1x256x4096 .f32)) (r : Fin 256) (q : Fin 4096) (p : Fin 512) (h : q.val = o + p.val) :
    M.view.read (Elt F) (M.view.writes (Elt F) f (⟨Rect.unit (s := S1x256x4096) ![0, 0, o] S1x256x512.size inb, w⟩ :: L)) (ix3 (0 : Fin 1) r q)
      = w (ix3 (0 : Fin 1) r p) :=
  View.read_writes_cons_unit_of_mem M.view f inb w L _ _ rfl fun a => match a with
    | ⟨0, _⟩ => rfl
    | ⟨1, _⟩ => (Nat.zero_add _).symm
    | ⟨2, _⟩ => h

theorem open_none {α : Type _} {P : α → sProp 𝕄} {Q : sProp 𝕄} (h : ∀ a, P a ⊢ Q) : iprop(∃ a, P a) ⊢ Q := by
  iintro ⟨%a, H⟩
  iapply (h a); iexact H

theorem keep_all {σ : Type} {A : sProp 𝕄} {B : σ → sProp 𝕄} : A ⊢ iprop(A ∗ (∀ acc, B acc -∗ B acc)) := by
  iintro H
  isplitl [H]; · iexact H
  iintro %acc HB; iexact HB

theorem open_one {α : Type _} {φ : α → Prop} {P : α → sProp 𝕄} {Q : sProp 𝕄} (h : ∀ a, φ a → P a ⊢ Q) : iprop(∃ a, ⌜φ a⌝ ∗ P a) ⊢ Q := by
  iintro ⟨%a, %hp, H⟩
  iapply (h a hp); iexact H

theorem open_two {α β : Type _} {φ : α → β → Prop} {P : α → β → sProp 𝕄} {Q : sProp 𝕄} (h : ∀ a b, φ a b → P a b ⊢ Q) :
    iprop(∃ a, ∃ b, ⌜φ a b⌝ ∗ P a b) ⊢ Q := by
  iintro ⟨%a, %b, %hp, H⟩
  iapply (h a b hp); iexact H

variable (c : Dev nD) (E : Set ℕ) (i : grid0.Coords)
  (a2 : Memref sig .tc .vmem S256x1024 .f32) (q2 : a2.IsWhole)
  (a3 : Memref sig .tc .vmem S1024x4096 .bf16) (q3 : a3.IsWhole)
  (a4 : Memref sig .tc .vmem S1024x128 .bf16) (q4 : a4.IsWhole)
  (a5 : Memref sig .tc .vmem S8x1024 .bf16) (q5 : a5.IsWhole)
  (a6 : Memref sig .tc .vmem S1x128 .f32) (q6 : a6.IsWhole)
  (a7 : Memref sig .tc .vmem S8x1 .f32) (q7 : a7.IsWhole)
  (a8 : Memref sig .tc .vmem S4x1024 .f32) (q8 : a8.IsWhole)
  (a9 : Memref sig .tc .vmem S1x1024 .f32) (q9 : a9.IsWhole)
  (a10 : Memref sig .tc .vmem S1024x1024 .bf16) (q10 : a10.IsWhole)
  (a11 : Memref sig .tc .vmem S1x1024 .f32) (q11 : a11.IsWhole)
  (a12 : Memref sig .tc .vmem S1x1024 .f32) (q12 : a12.IsWhole)
  (a13 : Memref sig .tc .vmem S32x128 .f32) (q13 : a13.IsWhole)
  (a14 : Memref sig .tc .vmem S32x128 .f32) (q14 : a14.IsWhole)
  (a15 : Memref sig .tc .vmem S4x32x32 .f32) (q15 : a15.IsWhole)
  (a16 : Memref sig .tc .vmem S4x32x128 .f32) (q16 : a16.IsWhole)
  (a17 : Memref sig .tc .vmem S4x32x128 .f32) (q17 : a17.IsWhole)
  (a18 : Memref sig .tc .vmem S4x1x128 .f32) (q18 : a18.IsWhole)
  (a19 : Memref sig .tc .vmem S8x3x1024 .f32) (q19 : a19.IsWhole)
  (a20 : Memref sig .tc .vmem S8x4x128x128 .f32) (q20 : a20.IsWhole)
  (a21 : Memref sig .tc .vmem S8x4x128 .f32) (q21 : a21.IsWhole)
  (a22 : Memref sig .tc .vmem S8x4x128 .f32) (q22 : a22.IsWhole)
  (a23 : Memref sig .tc .vmem S8x4x128x128 .f32) (q23 : a23.IsWhole)
  (a24 : Memref sig .tc .vmem S256x1024 .f32) (q24 : a24.IsWhole)
  (a25 : Memref sig .tc .vmem S8x3x1024 .f32) (q25 : a25.IsWhole)
  (a26 : Memref sig .tc .vmem S8x4x128x128 .f32) (q26 : a26.IsWhole)
  (a27 : Memref sig .tc .vmem S8x4x128 .f32) (q27 : a27.IsWhole)
  (a28 : Memref sig .tc .vmem S8x4x128 .f32) (q28 : a28.IsWhole)
  (a29 : Memref sig .tc .vmem S8x4x128x128 .f32) (q29 : a29.IsWhole)
  (a30 : Memref sig .tc .vmem S1x256x4096 .f32) (q30 : a30.IsWhole)
  (a31 : Memref sig .tc .vmem S1x256x128 .f32) (q31 : a31.IsWhole)
  (a32 : Memref sig .tc .vmem S256x1024 .bf16) (q32 : a32.IsWhole)
  (a33 : Memref sig .tc .vmem S40x1024 .f32) (q33 : a33.IsWhole)
  (a34 : Memref sig .tc .vmem S256x1024 .bf16) (q34 : a34.IsWhole)
variable (f2 : Buf (Elt F) (a2.view.loc (c : Thread nD τ))) (f3 : Buf (Elt F) (a3.view.loc (c : Thread nD τ))) (f4 : Buf (Elt F) (a4.view.loc (c : Thread nD τ))) (f5 : Buf (Elt F) (a5.view.loc (c : Thread nD τ))) (f6 : Buf (Elt F) (a6.view.loc (c : Thread nD τ))) (f7 : Buf (Elt F) (a7.view.loc (c : Thread nD τ))) (f8 : Buf (Elt F) (a8.view.loc (c : Thread nD τ))) (f9 : Buf (Elt F) (a9.view.loc (c : Thread nD τ))) (f10 : Buf (Elt F) (a10.view.loc (c : Thread nD τ))) (f11 : Buf (Elt F) (a11.view.loc (c : Thread nD τ))) (f12 : Buf (Elt F) (a12.view.loc (c : Thread nD τ))) (f13 : Buf (Elt F) (a13.view.loc (c : Thread nD τ))) (f14 : Buf (Elt F) (a14.view.loc (c : Thread nD τ))) (f15 : Buf (Elt F) (a15.view.loc (c : Thread nD τ))) (f16 : Buf (Elt F) (a16.view.loc (c : Thread nD τ))) (f17 : Buf (Elt F) (a17.view.loc (c : Thread nD τ))) (f18 : Buf (Elt F) (a18.view.loc (c : Thread nD τ))) (f19 : Buf (Elt F) (a19.view.loc (c : Thread nD τ))) (f20 : Buf (Elt F) (a20.view.loc (c : Thread nD τ))) (f21 : Buf (Elt F) (a21.view.loc (c : Thread nD τ))) (f22 : Buf (Elt F) (a22.view.loc (c : Thread nD τ))) (f23 : Buf (Elt F) (a23.view.loc (c : Thread nD τ))) (f30 : Buf (Elt F) (a30.view.loc (c : Thread nD τ))) (f31 : Buf (Elt F) (a31.view.loc (c : Thread nD τ))) (f34 : Buf (Elt F) (a34.view.loc (c : Thread nD τ)))
variable (P25 : Vec F S8x3x1024 .f32 → Prop) (P33 : Vec F S40x1024 .f32 → Prop)

set_option maxHeartbeats 4000000 in
theorem k0_part33_keeps (k0_t1 : Fin k0_t1_loop.trips) (v110 : BitVec 32) (v191 : BitVec 32) (v1213 : FVec F S128x128 .f32) (v1216 : FVec F S1x128 .f32) (v1238 : FVec F S128x128 .f32) (v1367 v1383 v1393 : FVec F S1x1 .f32) (v1395 : FVec F S32x128 .f32) (v1398 : FVec F S128x128 .f32) (v1409 : FVec F S1x1 .f32) (v1414 : FVec F S128x128 .f32) (v1511 : FVec F S1x128 .f32) (v1512 : FVec F S128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part33 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v191 v1213 v1216 v1238 v1367 v1383 v1393 v1395 v1398 v1409 v1414 v1511 v1512) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part33_eq_skeleton]; unfold k0_part33_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part34_keeps (k0_t1 : Fin k0_t1_loop.trips) (v112 : BitVec 32) (v191 : BitVec 32) (v1241 : FVec F S1x128 .f32) (v1263 : FVec F S128x128 .f32) (v1266 : FVec F S1x128 .f32) (v1399 v1409 : FVec F S1x1 .f32) (v1411 : FVec F S32x128 .f32) (v1415 v1425 : FVec F S1x1 .f32) (v1427 : FVec F S32x128 .f32) (v1430 v1549 : FVec F S128x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part34 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v112 v191 v1241 v1263 v1266 v1399 v1409 v1411 v1415 v1425 v1427 v1430 v1549) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part34_eq_skeleton]; unfold k0_part34_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part35_keeps (v75 : FVec F S1x1024 .f32) (k0_t1 : Fin k0_t1_loop.trips) (v112 : BitVec 32) (v1481 v1488 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part35 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v1481 v1488) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part35_eq_skeleton]; unfold k0_part35_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part36_keeps (v75 : FVec F S1x1024 .f32) (k0_t1 : Fin k0_t1_loop.trips) (v112 : BitVec 32) (v193 : BitVec 32) (v1495 v1628 v1634 : FVec F S32x128 .f32) (v1636 : FVec F S32 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part36 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v193 v1495 v1628 v1634 v1636) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part36_eq_skeleton]; unfold k0_part36_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part37_keeps (v75 : FVec F S1x1024 .f32) (k0_t1 : Fin k0_t1_loop.trips) (v193 : BitVec 32) (v1502 v1663 v1682 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part37 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v193 v1502 v1663 v1682) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part37_eq_skeleton]; unfold k0_part37_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part38_keeps (k0_t1 : Fin k0_t1_loop.trips) (v112 : BitVec 32) (v187 v189 : FVec F S32x128 .f32) (v193 : BitVec 32) (v1726 : FVec F S32x128 .bf16) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part38 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v112 v187 v189 v193 v1726) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part38_eq_skeleton]; unfold k0_part38_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part39_keeps (k0_t1 : Fin k0_t1_loop.trips) (v110 : BitVec 32) (v187 v189 : FVec F S32x128 .f32) (v193 : BitVec 32) (v268 v270 v1736 v1749 v1759 v1762 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part39 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v187 v189 v193 v268 v270 v1736 v1749 v1759 v1762) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part39_eq_skeleton]; unfold k0_part39_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part40_keeps (k0_t1 : Fin k0_t1_loop.trips) (v191 : BitVec 32) (v268 v270 v1743 v1756 v1769 v1775 v1782 v1788 : FVec F S32x128 .f32) (v1791 : FVec F S128x128 .f32) (v1797 : FVec F S32x128 .f32) (v1800 : FVec F S128x128 .f32) (v1804 v1805 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part40 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v191 v268 v270 v1743 v1756 v1769 v1775 v1782 v1788 v1791 v1797 v1800 v1804 v1805) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part40_eq_skeleton]; unfold k0_part40_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part41_keeps (v1739 v1752 v1765 v1778 v1797 v1806 v1815 : FVec F S32x128 .f32) (v1821 v1824 v1827 v1830 : FVec F S32x32 .f32) (v1846 : FVec F S32x128 .bf16) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part41 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1739 v1752 v1765 v1778 v1797 v1806 v1815 v1821 v1824 v1827 v1830 v1846) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part41_eq_skeleton]; unfold k0_part41_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part42_keeps (k0_t1 : Fin k0_t1_loop.trips) (v110 : BitVec 32) (v1752 v1765 v1778 : FVec F S32x128 .f32) (v1791 v1800 : FVec F S128x128 .f32) (v1833 v1836 : FVec F S32x128 .f32) (v1848 v1854 : FVec F S128x128 .f32) (v1872 v1875 v1878 : FVec F S32x32 .f32) (v1879 : FVec F S32x32 .bf16) (v1880 : FVec F S32x128 .bf16) (cst_682 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part42 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v110 v1752 v1765 v1778 v1791 v1800 v1833 v1836 v1848 v1854 v1872 v1875 v1878 v1879 v1880 cst_682) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part42_eq_skeleton]; unfold k0_part42_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part43_keeps (k0_t1 : Fin k0_t1_loop.trips) (v112 : BitVec 32) (v191 : BitVec 32) (v1809 v1818 : FVec F S128x128 .f32) (v1839 v1842 : FVec F S32x128 .f32) (v1860 v1866 : FVec F S128x128 .f32) (v1887 v1890 v1894 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part43 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 k0_t1 v112 v191 v1809 v1818 v1839 v1842 v1860 v1866 v1887 v1890 v1894) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part43_eq_skeleton]; unfold k0_part43_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part44_keeps (v75 : FVec F S1x1024 .f32) (k0_t1 : Fin k0_t1_loop.trips) (v112 : BitVec 32) (v1907 v1945 v1951 v1952 : FVec F S32x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part44 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v1907 v1945 v1951 v1952) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part44_eq_skeleton]; unfold k0_part44_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part45_keeps (v75 : FVec F S1x1024 .f32) (k0_t1 : Fin k0_t1_loop.trips) (v112 : BitVec 32) (v193 : BitVec 32) (v1920 v1981 v1997 : FVec F S32x128 .f32) (v1998 : FVec F S1x128 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part45 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v75 k0_t1 v112 v193 v1920 v1981 v1997 v1998) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33) := by
  rw [k0_part45_eq_skeleton]; unfold k0_part45_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 8000000 in
theorem k0_part46_keeps (v66 : IVec S32x32 1) (v68 v71 : FVec F S32x32 .f32) (v73 : FVec F S4x1024 .f32) (v75 : FVec F S1x1024 .f32) (c0_i32 : BitVec 32) (c1_i32 : BitVec 32) (k0_t1 : Fin k0_t1_loop.trips) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val)) (fun _ => True)
      ⊢ wp frame (wpE (defs₀ (F := F)) Variants.none c none) E (k0_part46 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v66 v68 v71 v73 v75 c0_i32 c1_i32 k0_t1) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val + 1 + 1)) (rowsAt (a30.view.read (Elt F) f30) (2 * k0_t1.val + 1))) := by
  rw [k0_part46_eq_skeleton]; unfold k0_part46_skel
  refine chain (by apply k0_part1_keeps) ?_
  rintro ⟨a35, v110, v112, v142, v143⟩
  refine fact_first fun hv => ?_
  refine chain (by apply k0_part2_keeps; exact hv) ?_
  rintro ⟨v155, v158, v167, v176, v185⟩
  refine chain (by apply k0_part3_keeps) ?_
  rintro ⟨v187, v189, v191, v193, v223⟩
  refine chain (by apply k0_part4_keeps) ?_
  rintro ⟨v236, v239, v248, v257, v259, v262⟩
  refine chain (by apply k0_part5_keeps) ?_
  rintro ⟨v266, v268, v270, v273, v274, v277, v280, v283, v287, v288, v289, v290, v292, v295, v298, v299, v302⟩
  refine chain (by apply k0_part6_keeps) ?_
  rintro ⟨v305, v308, v312, v313, v314, v315, v317, v320, v323, v324, v327, v330, v333, v337, v338, v339, v340, v342, v343, v344, cst_180⟩
  refine chain (by apply k0_part7_keeps) ?_
  rintro ⟨v345, v348, v349, v352, v355, v358, v362, v363, v364, v365, v367, v370, v373, v376, v379, v382, v387, v388⟩
  refine chain (by apply k0_part8_keeps) ?_
  rintro ⟨v413, v416, v419, v422, v431, v434, v436, v437, v439, v440, v441⟩
  refine chain (by apply k0_part9_keeps) ?_
  rintro ⟨v442, v443, v445, v446, v449, v452, v455, v458, v459, v469, v471, v474, v475, v485, v487, v490, v491, v495⟩
  refine chain (by apply k0_part10_keeps) ?_
  rintro ⟨v501, v503, v506, v507, v517, v519, v522, v525, v533, v536, v544, v547, v548⟩
  refine chain (by apply k0_part11_keeps) ?_
  rintro ⟨v573, v580, v587, v594, v597⟩
  refine chain (by apply k0_part12_keeps) ?_
  rintro v639
  refine chain (by apply k0_part13_keeps) ?_
  rintro v678
  refine chain (by apply k0_part14_keeps) ?_
  rintro ⟨v720, v722⟩
  refine chain (by apply k0_part15_keeps) ?_
  rintro ⟨v755, v761, v766, cst_282⟩
  refine chain (by apply k0_part16_keeps) ?_
  rintro ⟨v809, v812, cst_295⟩
  refine chain (by apply k0_part17_keeps) ?_
  rintro ⟨v828, v831, v835, v841, v844, v848, v851⟩
  refine chain (by apply k0_part18_keeps) ?_
  rintro ⟨v854, v857, v861, v867, v870, v874, v880, v883, v889, v891⟩
  refine chain (by apply k0_part19_keeps) ?_
  rintro ⟨v892, v898, v901, v907, v910, v913, v916, v919, v922, v925, v928, v931, v932, v933, cst_349⟩
  refine chain (by apply k0_part20_keeps) ?_
  rintro ⟨v934, v940, v946, v952, v958, v961, v964, v967⟩
  refine chain (by apply k0_part21_keeps) ?_
  rintro ⟨v979, v982, v986, v999, v1004⟩
  refine chain (by apply k0_part22_keeps) ?_
  rintro ⟨v1012, v1025, v1037, v1038⟩
  refine chain (by apply k0_part23_keeps) ?_
  rintro ⟨v1073, v1079, v1082, v1083⟩
  refine chain (by apply k0_part24_keeps) ?_
  rintro ⟨v1109, v1128, v1129⟩
  refine chain (by apply k0_part25_keeps) ?_
  rintro v1174
  refine chain (by apply k0_part26_keeps) ?_
  rintro ⟨v1181, v1182, v1185, v1188, v1191, v1195, v1196, v1197, v1198, v1200, v1203, v1206, v1207, v1210, v1213⟩
  refine chain (by apply k0_part27_keeps) ?_
  rintro ⟨v1216, v1220, v1221, v1222, v1223, v1225, v1228, v1231, v1232, v1235, v1238, v1241, v1245, v1246, v1247, v1248, v1250, v1253, v1256, v1257⟩
  refine chain (by apply k0_part28_keeps) ?_
  rintro ⟨v1260, v1263, v1266, v1270, v1271, v1272, v1273, v1275, v1278, v1281, v1284, v1287, v1290, v1297, v1302, v1303⟩
  refine chain (by apply k0_part29_keeps) ?_
  rintro ⟨v1321, v1324, v1327, v1330, v1344, v1345, v1347, v1348, v1350, v1351, v1353, v1354, v1355, v1356, cst_512⟩
  refine chain (by apply k0_part30_keeps) ?_
  rintro ⟨v1357, v1360, v1363, v1366, v1367, v1377, v1379, v1382, v1383, v1393, v1395, v1398, v1399, v1409, v1411⟩
  refine chain (by apply k0_part31_keeps) ?_
  rintro ⟨v1414, v1415, v1425, v1427, v1430, v1433, v1441, v1444, v1452, v1455, v1463⟩
  refine chain (by apply k0_part32_keeps) ?_
  rintro ⟨v1481, v1488, v1495, v1502, v1511, v1512⟩
  refine chain (by apply k0_part33_keeps) ?_
  rintro v1549
  refine chain (by apply k0_part34_keeps) ?_
  rintro _
  refine chain (by apply k0_part35_keeps) ?_
  rintro ⟨v1628, v1634, v1636⟩
  refine chain (by apply k0_part36_keeps) ?_
  rintro ⟨v1663, v1682⟩
  refine chain (by apply k0_part37_keeps) ?_
  rintro v1726
  refine chain (by apply k0_part38_keeps) ?_
  rintro ⟨v1736, v1739, v1743, v1749, v1752, v1756, v1759, v1762, v1765⟩
  refine chain (by apply k0_part39_keeps) ?_
  rintro ⟨v1769, v1775, v1778, v1782, v1788, v1791, v1797, v1800, v1804, v1805⟩
  refine chain (by apply k0_part40_keeps) ?_
  rintro ⟨v1806, v1809, v1815, v1818, v1821, v1824, v1827, v1830, v1833, v1836, v1839, v1842, v1846⟩
  refine chain (by apply k0_part41_keeps) ?_
  rintro ⟨v1848, v1854, v1860, v1866, v1872, v1875, v1878, v1879, v1880, cst_682⟩
  refine chain (by apply k0_part42_keeps) ?_
  rintro ⟨v1887, v1890, v1894, v1907⟩
  refine chain (by apply k0_part43_keeps) ?_
  rintro ⟨v1920, v1933, v1945, v1951, v1952⟩
  refine chain (by apply k0_part44_keeps) ?_
  rintro ⟨v1981, v1997, v1998⟩
  refine chain (by apply k0_part45_keeps) ?_
  rintro ⟨v2017, v2036, v2043⟩
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 8000000 in
theorem trip (v1 : FVec F S256x1024 .f32) (v2 : FVec F S256x1024 .bf16) (v54 : Vec F S1024x128 .bf16) (v72 : Vec F S4x1024 .f32) (v74 : Vec F S1x1024 .f32) (k0_t1 : Fin k0_t1_loop.trips) (u : Unit) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * k0_t1.val)) (fun _ => True)
      ⊢ wp frame (wpE (defs₀ (F := F)) Variants.none c none) E (k0_t1_body i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1 v2 v54 v72 v74 k0_t1 u) (fun _ => Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 (keptTo (a30.view.read (Elt F) f30) (2 * (k0_t1.val + 1))) (fun _ => True)) := by
  unfold k0_t1_body
  refine chain (by apply k0_part46_keeps) ?_
  rintro ⟨v193, v1933, v2053⟩
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; trivial

set_option maxHeartbeats 4000000 in
theorem k0_part47_keeps  :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part47 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 ) (fun _ => iprop(∃ g30 : Buf (Elt F) (a30.view.loc (c : Thread nD τ)), ∃ g34 : Buf (Elt F) (a34.view.loc (c : Thread nD τ)), ⌜projAt (a2.view.read (Elt F) f2) (a3.view.read (Elt F) f3) (a30.view.read (Elt F) g30)⌝ ∗ Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 g30 f31 g34 P25 P33)) := by
  rw [k0_part47_eq_skeleton]; unfold k0_part47_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  ihave Hx : (iprop(∃ g, ⌜projAt (a2.view.read (Elt F) f2) (a3.view.read (Elt F) f3) (a30.view.read (Elt F) g)⌝ ∗ (a30.view.loc (c : Thread nD τ) ↦[a30.view.set]{fullShare} g))) $$ [H30]
  · iexists _; isplitr; swap; · iexact H30
    ipureintro
    intro r q
    refine ⟨?_, ?_⟩
    · refine (col_miss a30 f30 1024 _ _ _ r _ (by show q.val < 1024; omega)).trans ?_
      refine (col_miss a30 f30 512 _ _ _ r _ (by show q.val < 512; omega)).trans ?_
      refine (col_hit a30 f30 0 _ _ _ r _ q (by show q.val = 0 + q.val; omega)).trans ?_
      exact congrFun (congrArg₂ k0_pay409 (View.readAt_full a2.view f2 _) rfl) _
    · refine (col_miss a30 f30 1024 _ _ _ r _ (by show 512 + q.val < 1024; omega)).trans ?_
      refine (col_hit a30 f30 512 _ _ _ r _ q rfl).trans ?_
      exact congrFun (congrArg₂ k0_pay410 (View.readAt_full a2.view f2 _) rfl) _
  icases Hx with ⟨%g30, %hg, H30⟩
  iexists g30; iexists _
  isplitr; · ipureintro; exact hg
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 4000000 in
theorem k0_part48_keeps (v2 : FVec F S256x1024 .bf16) (v26 : FVec F S256x512 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part48 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v2 v26) (fun _ => iprop(∃ g30 : Buf (Elt F) (a30.view.loc (c : Thread nD τ)), ⌜∀ (r : Fin 256) (q : Fin 4096), q.val < 1024 → a30.view.read (Elt F) g30 (ix3 (0 : Fin 1) r q) = a30.view.read (Elt F) f30 (ix3 (0 : Fin 1) r q)⌝ ∗ Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 g30 f31 f34 P25 P33)) := by
  rw [k0_part48_eq_skeleton]; unfold k0_part48_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  ihave Hx : (iprop(∃ g, ⌜∀ (r : Fin 256) (q : Fin 4096), q.val < 1024 → a30.view.read (Elt F) g (ix3 (0 : Fin 1) r q) = a30.view.read (Elt F) f30 (ix3 (0 : Fin 1) r q)⌝ ∗ (a30.view.loc (c : Thread nD τ) ↦[a30.view.set]{fullShare} g))) $$ [H30]
  · iexists _; isplitr; swap; · iexact H30
    ipureintro
    intro r q hq
    refine (col_miss a30 f30 3584 _ _ _ r q (by omega)).trans ?_
    refine (col_miss a30 f30 3072 _ _ _ r q (by omega)).trans ?_
    refine (col_miss a30 f30 2560 _ _ _ r q (by omega)).trans ?_
    refine (col_miss a30 f30 2048 _ _ _ r q (by omega)).trans ?_
    exact col_miss a30 f30 1536 _ _ _ r q (by omega)
  icases Hx with ⟨%g30, %hg, H30⟩
  iexists g30
  isplitr; · ipureintro; exact hg
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

theorem loop_keeps (v1 : FVec F S256x1024 .f32) (v2 : FVec F S256x1024 .bf16) (v54 : Vec F S1024x128 .bf16) (v72 : Vec F S4x1024 .f32) (v74 : Vec F S1x1024 .f32) :
    iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (2 * 0)) (fun _ => True))
      ⊢ wp frame (wpE (defs₀ (F := F)) Variants.none c none) E (Scf.Loop.for k0_t1_loop k0_t1_ok ⟨⟩ (k0_t1_body i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1 v2 v54 v72 v74)) (fun _ => iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (8)) (fun _ => True))) := by
  have hn : Scf.trips k0_t1_loop.lb k0_t1_loop.ub k0_t1_loop.st = 4 := by decide
  rw [show (8 : ℕ) = 2 * Scf.trips k0_t1_loop.lb k0_t1_loop.ub k0_t1_loop.st by rw [hn]]
  refine keep_all.trans (Scf.wp_for frame (wpE (defs₀ (F := F)) Variants.none c none) E _ _ _ k0_t1_ok () _ (fun n _ => iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (2 * n)) (fun _ => True))) (fun k acc => ?_))
  refine open_none fun g31 => ?_
  refine (trip c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23 f30 g31 f34 v1 v2 v54 v72 v74 k acc).trans (wp_mono _ _ _ fun _ => ?_)
  iintro HK; iexists g31; iexact HK

set_option maxHeartbeats 1000000 in
theorem loop_rest (v1 : FVec F S256x1024 .f32) : iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (8)) (fun _ => True))
      ⊢ wp frame (wpE (defs₀ (F := F)) Variants.none c none) E (do
        let v77 : Vec F S256x1024 .bf16 ← Prog.lift (.load a32 (Rect.unit (s := S256x1024) ![0, 0] S256x1024.size inb_S256x1024_S256x1024_0_0).toLoadRect (View.loadsAt_vmem h_S256x1024))
        let v78 : Vec F S1024x1024 .bf16 ← Prog.lift (.load a10 (Rect.unit (s := S1024x1024) ![0, 0] S1024x1024.size inb_S1024x1024_S1024x1024_0_0).toLoadRect (View.loadsAt_vmem h_S1024x1024))
        let v84 : Vec F S1x1024 .f32 ← Prog.lift (.load a11 (Rect.unit (s := S1x1024) ![0, 0] S1x1024.size inb_S1x1024_S1x1024_0_0).toLoadRect (View.loadsAt_vmem h_S1x1024))
        let v86 : Vec F S1x1024 .f32 ← Prog.lift (.load a12 (Rect.unit (s := S1x1024) ![0, 0] S1x1024.size inb_S1x1024_S1x1024_0_0).toLoadRect (View.loadsAt_vmem h_S1x1024))
        pure ⟨k0_pay425 v1 v77 v78, k0_pay426 v84, k0_pay427 v86⟩ : Prog (TpuEff nD τ sig (Elt F) Λ₀ .tc) (Σ' (v83 : FVec F S256x1024 .f32) (v85 : FVec F S1x1024 .f32), FVec F S1x1024 .f32)) (fun _ => iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (8)) (fun _ => True))) := by
  refine open_none fun g31 => ?_
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  simp only [Idealize.SL.Sem.Prog.bind_lift]
  sl_step
  sl_step
  sl_step
  sl_step
  sl_step
  iexists g31
  iapply packed $$ H2 H3 H4 H5 H6 H7 H8 H9 H10 H11 H12 H13 H14 H15 H16 H17 H18 H19 H20 H21 H22 H23 H24 H25 H26 H27 H28 H29 H30 H31 H32 H33 H34 [] []
  · ipureintro; exact p25
  · ipureintro; exact p33

set_option maxHeartbeats 1000000 in
theorem k0_part49_keeps (v1 : FVec F S256x1024 .f32) (v2 : FVec F S256x1024 .bf16) (v54 : Vec F S1024x128 .bf16) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (k0_part49 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1 v2 v54) (fun _ => iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (8)) (fun _ => True))) := by
  rw [k0_part49_eq_skeleton]; unfold k0_part49_skel
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  simp only [Idealize.SL.Sem.Prog.bind_lift]
  sl_step
  sl_step
  sl_step
  sl_step
  sl_step
  ihave HK : (iprop(∃ g31 : Buf (Elt F) (a31.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 g31 f34 (keptTo (a30.view.read (Elt F) f30) (2 * 0)) (fun _ => True))) $$ [H2 H3 H4 H5 H6 H7 H8 H9 H10 H11 H12 H13 H14 H15 H16 H17 H18 H19 H20 H21 H22 H23 H24 H25 H26 H27 H28 H29 H30 H31 H32 H33 H34]
  · iexists _
    iapply packed $$ H2 H3 H4 H5 H6 H7 H8 H9 H10 H11 H12 H13 H14 H15 H16 H17 H18 H19 H20 H21 H22 H23 H24 H25 H26 H27 H28 H29 H30 H31 H32 H33 H34 [] []
    · ipureintro; intro y z h; exact absurd h (by omega)
    · ipureintro; trivial
  iapply (chain (loop_keeps c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23 f30  f34 v1 v2 v54 _ _) (fun _ => by apply loop_rest)) $$ HK

set_option maxHeartbeats 4000000 in
theorem after48 (g30 : Buf (Elt F) (a30.view.loc (c : Thread nD τ))) (g34 : Buf (Elt F) (a34.view.loc (c : Thread nD τ))) (g30' : Buf (Elt F) (a30.view.loc (c : Thread nD τ))) (hp : projAt (a2.view.read (Elt F) f2) (a3.view.read (Elt F) f3) (a30.view.read (Elt F) g30))
    (hs : ∀ (r : Fin 256) (q : Fin 4096), q.val < 1024 → a30.view.read (Elt F) g30' (ix3 (0 : Fin 1) r q) = a30.view.read (Elt F) g30 (ix3 (0 : Fin 1) r q)) (v1 : FVec F S256x1024 .f32) (v2 : FVec F S256x1024 .bf16) (v54 : Vec F S1024x128 .bf16) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 g30' f31 g34 P25 P33
      ⊢ wp frame (wpE (defs₀ (F := F)) Variants.none c none) E (do
        let ⟨v83, v85, v87⟩ : Σ' (v83 : FVec F S256x1024 .f32) (v85 : FVec F S1x1024 .f32), FVec F S1x1024 .f32 ← k0_part49 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1 v2 v54
        let v108 : Vec F S256x1024 .f32 ← Prog.lift (.load a24 (Rect.unit (s := S256x1024) ![0, 0] S256x1024.size inb_S256x1024_S256x1024_0_0).toLoadRect (View.loadsAt_vmem h_S256x1024))
        Prog.lift (.store a24 (Rect.unit (s := S256x1024) ![0, 0] S256x1024.size inb_S256x1024_S256x1024_0_0) (k0_pay1 v83 v85 v87) Finset.univ (View.stores_vmem_bits_univ h_S256x1024 rfl) (.inl rfl))
        pure ⟨⟩                                                               : Prog (TpuEff nD τ sig (Elt F) Λ₀ .tc) PUnit) (fun _ => iprop(∃ h30 : Buf (Elt F) (a30.view.loc (c : Thread nD τ)), ∃ h31 : Buf (Elt F) (a31.view.loc (c : Thread nD τ)), ∃ h34 : Buf (Elt F) (a34.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 h30 h31 h34 (fun V => V = convOf (a2.view.read (Elt F) f2) (a3.view.read (Elt F) f3)) (fun _ => True))) := by
  refine chain (k0_part49_keeps c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23 g30' f31 g34 P25 P33 v1 v2 v54) ?_
  rintro ⟨v83, v85, v87⟩
  refine open_none fun g31 => ?_
  apply opened
  iintro ⟨H2, H3, H4, H5, H6, H7, H8, H9, H10, H11, H12, H13, H14, H15, H16, H17, H18, H19, H20, H21, H22, H23, ⟨%f24, H24⟩, ⟨%f25, %p25, H25⟩, ⟨%f26, H26⟩, ⟨%f27, H27⟩, ⟨%f28, H28⟩, ⟨%f29, H29⟩, H30, H31, ⟨%f32, H32⟩, ⟨%f33, %p33, H33⟩, H34⟩
  sl_exec
  sl_step
  iexists g30'; iexists g31; iexists g34
  iapply packed $$ H2 H3 H4 H5 H6 H7 H8 H9 H10 H11 H12 H13 H14 H15 H16 H17 H18 H19 H20 H21 H22 H23 H24 H25 H26 H27 H28 H29 H30 H31 H32 H33 H34 [] []
  · ipureintro; exact convOf_of_kept _ _ _ _ (fun r q => ⟨(hs r _ (by show q.val < 1024; omega)).trans (hp r q).1, (hs r _ (by show 512 + q.val < 1024; omega)).trans (hp r q).2⟩) p25
  · ipureintro; exact p33

set_option maxHeartbeats 4000000 in
theorem after47 (g30 : Buf (Elt F) (a30.view.loc (c : Thread nD τ))) (g34 : Buf (Elt F) (a34.view.loc (c : Thread nD τ))) (hp : projAt (a2.view.read (Elt F) f2) (a3.view.read (Elt F) f3) (a30.view.read (Elt F) g30))
    (v1 : FVec F S256x1024 .f32) (v2 : FVec F S256x1024 .bf16) (v26 : FVec F S256x512 .f32) :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 g30 f31 g34 P25 P33
      ⊢ wp frame (wpE (defs₀ (F := F)) Variants.none c none) E (do
        let v54 : Vec F S1024x128 .bf16 ← k0_part48 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v2 v26
        let ⟨v83, v85, v87⟩ : Σ' (v83 : FVec F S256x1024 .f32) (v85 : FVec F S1x1024 .f32), FVec F S1x1024 .f32 ← k0_part49 i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 v1 v2 v54
        let v108 : Vec F S256x1024 .f32 ← Prog.lift (.load a24 (Rect.unit (s := S256x1024) ![0, 0] S256x1024.size inb_S256x1024_S256x1024_0_0).toLoadRect (View.loadsAt_vmem h_S256x1024))
        Prog.lift (.store a24 (Rect.unit (s := S256x1024) ![0, 0] S256x1024.size inb_S256x1024_S256x1024_0_0) (k0_pay1 v83 v85 v87) Finset.univ (View.stores_vmem_bits_univ h_S256x1024 rfl) (.inl rfl))
        pure ⟨⟩                                                               : Prog (TpuEff nD τ sig (Elt F) Λ₀ .tc) PUnit) (fun _ => iprop(∃ h30 : Buf (Elt F) (a30.view.loc (c : Thread nD τ)), ∃ h31 : Buf (Elt F) (a31.view.loc (c : Thread nD τ)), ∃ h34 : Buf (Elt F) (a34.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 h30 h31 h34 (fun V => V = convOf (a2.view.read (Elt F) f2) (a3.view.read (Elt F) f3)) (fun _ => True))) := by
  refine chain (k0_part48_keeps c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23 g30 f31 g34 P25 P33 v2 v26) ?_
  intro v54
  refine open_one fun g30' hs => ?_
  exact after48 c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23  f31  P25 P33 g30 g34 g30' hp hs v1 v2 v54

set_option maxHeartbeats 4000000 in
theorem whole_keeps :
    Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 f30 f31 f34 P25 P33
      ⊢ wp frame (wpE (defs₀ (F := F)) Variants.none c none) E (cc0_mixer_sample i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34) (fun _ => iprop(∃ g30 : Buf (Elt F) (a30.view.loc (c : Thread nD τ)), ∃ g31 : Buf (Elt F) (a31.view.loc (c : Thread nD τ)), ∃ g34 : Buf (Elt F) (a34.view.loc (c : Thread nD τ)), Kept c a2 a3 a4 a5 a6 a7 a8 a9 a10 a11 a12 a13 a14 a15 a16 a17 a18 a19 a20 a21 a22 a23 a24 a25 a26 a27 a28 a29 a30 a31 a32 a33 a34 f2 f3 f4 f5 f6 f7 f8 f9 f10 f11 f12 f13 f14 f15 f16 f17 f18 f19 f20 f21 f22 f23 g30 g31 g34 (fun V => V = convOf (a2.view.read (Elt F) f2) (a3.view.read (Elt F) f3)) (fun _ => True))) := by
  rw [cc0_mixer_sample_eq_skeleton]; unfold cc0_mixer_sample_skel
  refine chain (k0_part47_keeps c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23 f30 f31 f34 P25 P33) ?_
  rintro ⟨v1, v2, v26⟩
  refine open_two fun g30 g34 hp => ?_
  exact after47 c E i a2 q2 a3 q3 a4 q4 a5 q5 a6 q6 a7 q7 a8 q8 a9 q9 a10 q10 a11 q11 a12 q12 a13 q13 a14 q14 a15 q15 a16 q16 a17 q17 a18 q18 a19 q19 a20 q20 a21 q21 a22 q22 a23 q23 a24 q24 a25 q25 a26 q26 a27 q27 a28 q28 a29 q29 a30 q30 a31 q31 a32 q32 a33 q33 a34 q34 f2 f3 f4 f5 f6 f7 f8 f9 f10 f11 f12 f13 f14 f15 f16 f17 f18 f19 f20 f21 f22 f23  f31  P25 P33 g30 g34 hp v1 v2 v26

end Cert.Proof.Mx

end
-- ==== Proof.MxFrame.lean ====
/- The mixer: its run, and what it leaves of its arguments. -/
module

public import proofs.«01_k».proof.Proof.MxWhole

@[expose] public section

set_option maxRecDepth 16384

noncomputable section

namespace Cert.Proof.Mx

open Cert.KernelMxIdeal Cert.KernelMxIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results of which nothing is said. -/
def forgets : Fin cfg0.W → Bool := fun w => match w with
  | ⟨22, _⟩ => true
  | ⟨24, _⟩ => true
  | ⟨25, _⟩ => true
  | ⟨26, _⟩ => true
  | ⟨27, _⟩ => true
  | _ => false

/-- What each grid point leaves: the arguments' blocks as they are, and the rows kept of its batches. -/
def left (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => Dat.unnamed 22 t
    | ⟨23, _⟩ => convOf (iblk m c 0 t) (iblk m c 1 t)
    | ⟨24, _⟩ => Dat.unnamed 24 t
    | ⟨25, _⟩ => Dat.unnamed 25 t
    | ⟨26, _⟩ => Dat.unnamed 26 t
    | ⟨27, _⟩ => Dat.unnamed 27 t
    | ⟨_ + 28, h⟩ => absurd h (Nat.not_lt.2 (Nat.le_add_left _ _))
  Φ _ := Pipeline.ΦA spec0 c
  q _ := fullShare
  owed _ := 0

theorem left_arr (c : Dev nD) (w : Fin cfg0.W) : (left m 0 c).A w = V m c (Pipeline.arrRef spec0 w) := by
  dsimp only [left]

theorem l0 (c : Dev nD) (t : Fin cfg0.N) : (left m 0 c).after 0 t = iblk m c 0 t := by dsimp only [left]
theorem l1 (c : Dev nD) (t : Fin cfg0.N) : (left m 0 c).after 1 t = iblk m c 1 t := by dsimp only [left]
theorem l2 (c : Dev nD) (t : Fin cfg0.N) : (left m 0 c).after 2 t = iblk m c 2 t := by dsimp only [left]
theorem l3 (c : Dev nD) (t : Fin cfg0.N) : (left m 0 c).after 3 t = iblk m c 3 t := by dsimp only [left]
theorem l4 (c : Dev nD) (t : Fin cfg0.N) : (left m 0 c).after 4 t = iblk m c 4 t := by dsimp only [left]
theorem l5 (c : Dev nD) (t : Fin cfg0.N) : (left m 0 c).after 5 t = iblk m c 5 t := by dsimp only [left]
theorem l6 (c : Dev nD) (t : Fin cfg0.N) : (left m 0 c).after 6 t = iblk m c 6 t := by dsimp only [left]
theorem l7 (c : Dev nD) (t : Fin cfg0.N) : (left m 0 c).after 7 t = iblk m c 7 t := by dsimp only [left]
theorem l8 (c : Dev nD) (t : Fin cfg0.N) : (left m 0 c).after 8 t = iblk m c 8 t := by dsimp only [left]
theorem l9 (c : Dev nD) (t : Fin cfg0.N) : (left m 0 c).after 9 t = iblk m c 9 t := by dsimp only [left]
theorem l10 (c : Dev nD) (t : Fin cfg0.N) : (left m 0 c).after 10 t = iblk m c 10 t := by dsimp only [left]
theorem l11 (c : Dev nD) (t : Fin cfg0.N) : (left m 0 c).after 11 t = iblk m c 11 t := by dsimp only [left]
theorem l12 (c : Dev nD) (t : Fin cfg0.N) : (left m 0 c).after 12 t = iblk m c 12 t := by dsimp only [left]
theorem l13 (c : Dev nD) (t : Fin cfg0.N) : (left m 0 c).after 13 t = iblk m c 13 t := by dsimp only [left]
theorem l14 (c : Dev nD) (t : Fin cfg0.N) : (left m 0 c).after 14 t = iblk m c 14 t := by dsimp only [left]
theorem l15 (c : Dev nD) (t : Fin cfg0.N) : (left m 0 c).after 15 t = iblk m c 15 t := by dsimp only [left]
theorem l16 (c : Dev nD) (t : Fin cfg0.N) : (left m 0 c).after 16 t = iblk m c 16 t := by dsimp only [left]
theorem l17 (c : Dev nD) (t : Fin cfg0.N) : (left m 0 c).after 17 t = iblk m c 17 t := by dsimp only [left]
theorem l18 (c : Dev nD) (t : Fin cfg0.N) : (left m 0 c).after 18 t = iblk m c 18 t := by dsimp only [left]
theorem l19 (c : Dev nD) (t : Fin cfg0.N) : (left m 0 c).after 19 t = iblk m c 19 t := by dsimp only [left]
theorem l20 (c : Dev nD) (t : Fin cfg0.N) : (left m 0 c).after 20 t = iblk m c 20 t := by dsimp only [left]
theorem l21 (c : Dev nD) (t : Fin cfg0.N) : (left m 0 c).after 21 t = iblk m c 21 t := by dsimp only [left]
theorem l23 (c : Dev nD) (t : Fin cfg0.N) : (left m 0 c).after 23 t = convOf (iblk m c 0 t) (iblk m c 1 t) := by dsimp only [left]
theorem b0 (c : Dev nD) (t : Fin cfg0.N) (d) : (left m 0 c).before 0 t d = iblk m c 0 t := before0_0_of m (left m 0 c) (left_arr m c 0) (l0 m c) t d
theorem b1 (c : Dev nD) (t : Fin cfg0.N) (d) : (left m 0 c).before 1 t d = iblk m c 1 t := before0_1_of m (left m 0 c) (left_arr m c 1) (l1 m c) t d
theorem b2 (c : Dev nD) (t : Fin cfg0.N) (d) : (left m 0 c).before 2 t d = iblk m c 2 t := before0_2_of m (left m 0 c) (left_arr m c 2) (l2 m c) t d
theorem b3 (c : Dev nD) (t : Fin cfg0.N) (d) : (left m 0 c).before 3 t d = iblk m c 3 t := before0_3_of m (left m 0 c) (left_arr m c 3) (l3 m c) t d
theorem b4 (c : Dev nD) (t : Fin cfg0.N) (d) : (left m 0 c).before 4 t d = iblk m c 4 t := before0_4_of m (left m 0 c) (left_arr m c 4) (l4 m c) t d
theorem b5 (c : Dev nD) (t : Fin cfg0.N) (d) : (left m 0 c).before 5 t d = iblk m c 5 t := before0_5_of m (left m 0 c) (left_arr m c 5) (l5 m c) t d
theorem b6 (c : Dev nD) (t : Fin cfg0.N) (d) : (left m 0 c).before 6 t d = iblk m c 6 t := before0_6_of m (left m 0 c) (left_arr m c 6) (l6 m c) t d
theorem b7 (c : Dev nD) (t : Fin cfg0.N) (d) : (left m 0 c).before 7 t d = iblk m c 7 t := before0_7_of m (left m 0 c) (left_arr m c 7) (l7 m c) t d
theorem b8 (c : Dev nD) (t : Fin cfg0.N) (d) : (left m 0 c).before 8 t d = iblk m c 8 t := before0_8_of m (left m 0 c) (left_arr m c 8) (l8 m c) t d
theorem b9 (c : Dev nD) (t : Fin cfg0.N) (d) : (left m 0 c).before 9 t d = iblk m c 9 t := before0_9_of m (left m 0 c) (left_arr m c 9) (l9 m c) t d
theorem b10 (c : Dev nD) (t : Fin cfg0.N) (d) : (left m 0 c).before 10 t d = iblk m c 10 t := before0_10_of m (left m 0 c) (left_arr m c 10) (l10 m c) t d
theorem b11 (c : Dev nD) (t : Fin cfg0.N) (d) : (left m 0 c).before 11 t d = iblk m c 11 t := before0_11_of m (left m 0 c) (left_arr m c 11) (l11 m c) t d
theorem b12 (c : Dev nD) (t : Fin cfg0.N) (d) : (left m 0 c).before 12 t d = iblk m c 12 t := before0_12_of m (left m 0 c) (left_arr m c 12) (l12 m c) t d
theorem b13 (c : Dev nD) (t : Fin cfg0.N) (d) : (left m 0 c).before 13 t d = iblk m c 13 t := before0_13_of m (left m 0 c) (left_arr m c 13) (l13 m c) t d
theorem b14 (c : Dev nD) (t : Fin cfg0.N) (d) : (left m 0 c).before 14 t d = iblk m c 14 t := before0_14_of m (left m 0 c) (left_arr m c 14) (l14 m c) t d
theorem b15 (c : Dev nD) (t : Fin cfg0.N) (d) : (left m 0 c).before 15 t d = iblk m c 15 t := before0_15_of m (left m 0 c) (left_arr m c 15) (l15 m c) t d
theorem b16 (c : Dev nD) (t : Fin cfg0.N) (d) : (left m 0 c).before 16 t d = iblk m c 16 t := before0_16_of m (left m 0 c) (left_arr m c 16) (l16 m c) t d
theorem b17 (c : Dev nD) (t : Fin cfg0.N) (d) : (left m 0 c).before 17 t d = iblk m c 17 t := before0_17_of m (left m 0 c) (left_arr m c 17) (l17 m c) t d
theorem b18 (c : Dev nD) (t : Fin cfg0.N) (d) : (left m 0 c).before 18 t d = iblk m c 18 t := before0_18_of m (left m 0 c) (left_arr m c 18) (l18 m c) t d
theorem b19 (c : Dev nD) (t : Fin cfg0.N) (d) : (left m 0 c).before 19 t d = iblk m c 19 t := before0_19_of m (left m 0 c) (left_arr m c 19) (l19 m c) t d
theorem b20 (c : Dev nD) (t : Fin cfg0.N) (d) : (left m 0 c).before 20 t d = iblk m c 20 t := before0_20_of m (left m 0 c) (left_arr m c 20) (l20 m c) t d
theorem b21 (c : Dev nD) (t : Fin cfg0.N) (d) : (left m 0 c).before 21 t d = iblk m c 21 t := before0_21_of m (left m 0 c) (left_arr m c 21) (l21 m c) t d

theorem scratch_held (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]
  simp only [owns_whole]
  try rfl

/-- The body as the pipeline calls it. -/
abbrev bodyOf (t : Fin cfg0.N) : Prog (TpuEff nD τ sig (Elt F) Λ₀ .tc) PUnit :=
  cc0_mixer_sample (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

theorem bodyOf_row (t : Fin cfg0.N) : defs₀ (F := F) .tc cfg0.body (cfg0.bodyArgs t (cfg0.slots t)) = bodyOf t := by
  unfold defs₀; rw [Defs.onTc_tc]

def entered (c : Dev nD) (t : Fin cfg0.N) : sProp 𝕄 :=
  iprop((left m 0 c).Φ t.castSucc ∗ (left m 0 c).owesAt () t.castSucc
    ∗ (∃ d, owns (c : Thread nD τ) (win0_0.stage (cfg0.slots t 0)) fullShare ((left m 0 c).before 0 t d))
    ∗ (∃ d, owns (c : Thread nD τ) (win0_1.stage (cfg0.slots t 1)) fullShare ((left m 0 c).before 1 t d))
    ∗ (∃ d, owns (c : Thread nD τ) (win0_2.stage (cfg0.slots t 2)) fullShare ((left m 0 c).before 2 t d))
    ∗ (∃ d, owns (c : Thread nD τ) (win0_3.stage (cfg0.slots t 3)) fullShare ((left m 0 c).before 3 t d))
    ∗ (∃ d, owns (c : Thread nD τ) (win0_4.stage (cfg0.slots t 4)) fullShare ((left m 0 c).before 4 t d))
    ∗ (∃ d, owns (c : Thread nD τ) (win0_5.stage (cfg0.slots t 5)) fullShare ((left m 0 c).before 5 t d))
    ∗ (∃ d, owns (c : Thread nD τ) (win0_6.stage (cfg0.slots t 6)) fullShare ((left m 0 c).before 6 t d))
    ∗ (∃ d, owns (c : Thread nD τ) (win0_7.stage (cfg0.slots t 7)) fullShare ((left m 0 c).before 7 t d))
    ∗ (∃ d, owns (c : Thread nD τ) (win0_8.stage (cfg0.slots t 8)) fullShare ((left m 0 c).before 8 t d))
    ∗ (∃ d, owns (c : Thread nD τ) (win0_9.stage (cfg0.slots t 9)) fullShare ((left m 0 c).before 9 t d))
    ∗ (∃ d, owns (c : Thread nD τ) (win0_10.stage (cfg0.slots t 10)) fullShare ((left m 0 c).before 10 t d))
    ∗ (∃ d, owns (c : Thread nD τ) (win0_11.stage (cfg0.slots t 11)) fullShare ((left m 0 c).before 11 t d))
    ∗ (∃ d, owns (c : Thread nD τ) (win0_12.stage (cfg0.slots t 12)) fullShare ((left m 0 c).before 12 t d))
    ∗ (∃ d, owns (c : Thread nD τ) (win0_13.stage (cfg0.slots t 13)) fullShare ((left m 0 c).before 13 t d))
    ∗ (∃ d, owns (c : Thread nD τ) (win0_14.stage (cfg0.slots t 14)) fullShare ((left m 0 c).before 14 t d))
    ∗ (∃ d, owns (c : Thread nD τ) (win0_15.stage (cfg0.slots t 15)) fullShare ((left m 0 c).before 15 t d))
    ∗ (∃ d, owns (c : Thread nD τ) (win0_16.stage (cfg0.slots t 16)) fullShare ((left m 0 c).before 16 t d))
    ∗ (∃ d, owns (c : Thread nD τ) (win0_17.stage (cfg0.slots t 17)) fullShare ((left m 0 c).before 17 t d))
    ∗ (∃ d, owns (c : Thread nD τ) (win0_18.stage (cfg0.slots t 18)) fullShare ((left m 0 c).before 18 t d))
    ∗ (∃ d, owns (c : Thread nD τ) (win0_19.stage (cfg0.slots t 19)) fullShare ((left m 0 c).before 19 t d))
    ∗ (∃ d, owns (c : Thread nD τ) (win0_20.stage (cfg0.slots t 20)) fullShare ((left m 0 c).before 20 t d))
    ∗ (∃ d, owns (c : Thread nD τ) (win0_21.stage (cfg0.slots t 21)) fullShare ((left m 0 c).before 21 t d))
    ∗ (∃ X, owns (c : Thread nD τ) (win0_22.stage (cfg0.slots t 22)) fullShare X)
    ∗ (∃ d, owns (c : Thread nD τ) (win0_23.stage (cfg0.slots t 23)) fullShare ((left m 0 c).before 23 t d))
    ∗ (∃ X, owns (c : Thread nD τ) (win0_24.stage (cfg0.slots t 24)) fullShare X)
    ∗ (∃ X, owns (c : Thread nD τ) (win0_25.stage (cfg0.slots t 25)) fullShare X)
    ∗ (∃ X, owns (c : Thread nD τ) (win0_26.stage (cfg0.slots t 26)) fullShare X)
    ∗ (∃ X, owns (c : Thread nD τ) (win0_27.stage (cfg0.slots t 27)) fullShare X))

def leaves (c : Dev nD) (t : Fin cfg0.N) : sProp 𝕄 :=
  iprop((left m 0 c).Φ t.succ ∗ (left m 0 c).owesAt () t.succ
    ∗ owns (c : Thread nD τ) (win0_0.stage (cfg0.slots t 0)) fullShare ((left m 0 c).after 0 t)
    ∗ owns (c : Thread nD τ) (win0_1.stage (cfg0.slots t 1)) fullShare ((left m 0 c).after 1 t)
    ∗ owns (c : Thread nD τ) (win0_2.stage (cfg0.slots t 2)) fullShare ((left m 0 c).after 2 t)
    ∗ owns (c : Thread nD τ) (win0_3.stage (cfg0.slots t 3)) fullShare ((left m 0 c).after 3 t)
    ∗ owns (c : Thread nD τ) (win0_4.stage (cfg0.slots t 4)) fullShare ((left m 0 c).after 4 t)
    ∗ owns (c : Thread nD τ) (win0_5.stage (cfg0.slots t 5)) fullShare ((left m 0 c).after 5 t)
    ∗ owns (c : Thread nD τ) (win0_6.stage (cfg0.slots t 6)) fullShare ((left m 0 c).after 6 t)
    ∗ owns (c : Thread nD τ) (win0_7.stage (cfg0.slots t 7)) fullShare ((left m 0 c).after 7 t)
    ∗ owns (c : Thread nD τ) (win0_8.stage (cfg0.slots t 8)) fullShare ((left m 0 c).after 8 t)
    ∗ owns (c : Thread nD τ) (win0_9.stage (cfg0.slots t 9)) fullShare ((left m 0 c).after 9 t)
    ∗ owns (c : Thread nD τ) (win0_10.stage (cfg0.slots t 10)) fullShare ((left m 0 c).after 10 t)
    ∗ owns (c : Thread nD τ) (win0_11.stage (cfg0.slots t 11)) fullShare ((left m 0 c).after 11 t)
    ∗ owns (c : Thread nD τ) (win0_12.stage (cfg0.slots t 12)) fullShare ((left m 0 c).after 12 t)
    ∗ owns (c : Thread nD τ) (win0_13.stage (cfg0.slots t 13)) fullShare ((left m 0 c).after 13 t)
    ∗ owns (c : Thread nD τ) (win0_14.stage (cfg0.slots t 14)) fullShare ((left m 0 c).after 14 t)
    ∗ owns (c : Thread nD τ) (win0_15.stage (cfg0.slots t 15)) fullShare ((left m 0 c).after 15 t)
    ∗ owns (c : Thread nD τ) (win0_16.stage (cfg0.slots t 16)) fullShare ((left m 0 c).after 16 t)
    ∗ owns (c : Thread nD τ) (win0_17.stage (cfg0.slots t 17)) fullShare ((left m 0 c).after 17 t)
    ∗ owns (c : Thread nD τ) (win0_18.stage (cfg0.slots t 18)) fullShare ((left m 0 c).after 18 t)
    ∗ owns (c : Thread nD τ) (win0_19.stage (cfg0.slots t 19)) fullShare ((left m 0 c).after 19 t)
    ∗ owns (c : Thread nD τ) (win0_20.stage (cfg0.slots t 20)) fullShare ((left m 0 c).after 20 t)
    ∗ owns (c : Thread nD τ) (win0_21.stage (cfg0.slots t 21)) fullShare ((left m 0 c).after 21 t)
    ∗ (∃ X, owns (c : Thread nD τ) (win0_22.stage (cfg0.slots t 22)) fullShare X)
    ∗ owns (c : Thread nD τ) (win0_23.stage (cfg0.slots t 23)) fullShare ((left m 0 c).after 23 t)
    ∗ (∃ X, owns (c : Thread nD τ) (win0_24.stage (cfg0.slots t 24)) fullShare X)
    ∗ (∃ X, owns (c : Thread nD τ) (win0_25.stage (cfg0.slots t 25)) fullShare X)
    ∗ (∃ X, owns (c : Thread nD τ) (win0_26.stage (cfg0.slots t 26)) fullShare X)
    ∗ (∃ X, owns (c : Thread nD τ) (win0_27.stage (cfg0.slots t 27)) fullShare X))

set_option maxHeartbeats 8000000 in
/-- The body at any point. -/
theorem at_point (c : Dev nD) (t : Fin cfg0.N) :
    entered m c t ⊢ wp frame (wpE (defs₀ (F := F)) Variants.none c none) Set.univ (bodyOf t) (fun _ => leaves m c t) := by
  unfold entered leaves
  simp only [b0, b1, b2, b3, b4, b5, b6, b7, b8, b9, b10, b11, b12, b13, b14, b15, b16, b17, b18, b19, b20, b21]
  rw [show (left m 0 c).Φ t.succ = (Pipeline.ΦA spec0 c : sProp 𝕄) from rfl, show (left m 0 c).Φ t.castSucc = (Pipeline.ΦA spec0 c : sProp 𝕄) from rfl,
    show (left m 0 c).owesAt () t.succ = (left m 0 c).owesAt () t.castSucc from rfl, scratch_held,
    l0, l1, l2, l3, l4, l5, l6, l7, l8, l9, l10, l11, l12, l13, l14, l15, l16, l17, l18, l19, l20, l21, l23]
  unfold owns
  iintro ⟨⟨⟨⟨%d30, %f30, %h30, H30⟩, ⟨%d31, %f31, %h31, H31⟩, ⟨%d32, %f32, %h32, H32⟩, ⟨%d33, %f33, %h33, H33⟩, ⟨%d34, %f34, %h34, H34⟩⟩, Hg⟩, Ho, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩, ⟨%d15, %f15, %h15, H15⟩, ⟨%d16, %f16, %h16, H16⟩, ⟨%d17, %f17, %h17, H17⟩, ⟨%d18, %f18, %h18, H18⟩, ⟨%d19, %f19, %h19, H19⟩, ⟨%d20, %f20, %h20, H20⟩, ⟨%d21, %f21, %h21, H21⟩, ⟨%d22, %f22, %h22, H22⟩, ⟨%d23, %f23, %h23, H23⟩, ⟨%d24, %f24, %h24, H24⟩, ⟨%d25, %f25, %h25, H25⟩, ⟨%d26, %f26, %h26, H26⟩, ⟨%d27, %f27, %h27, H27⟩, ⟨%d28, %f28, %h28, H28⟩, ⟨%d29, %f29, %h29, H29⟩⟩
  iapply (wp_wand_r frame (wpE (defs₀ (F := F)) Variants.none c none) Set.univ)
  isplitl [H2 H3 H4 H5 H6 H7 H8 H9 H10 H11 H12 H13 H14 H15 H16 H17 H18 H19 H20 H21 H22 H23 H24 H25 H26 H27 H28 H29 H30 H31 H32 H33 H34]
  · iapply whole_keeps (P25 := fun _ => True) (P33 := fun _ => True)
    iapply packed $$ H2 H3 H4 H5 H6 H7 H8 H9 H10 H11 H12 H13 H14 H15 H16 H17 H18 H19 H20 H21 H22 H23 H24 H25 H26 H27 H28 H29 H30 H31 H32 H33 H34 [] []
    · ipureintro; trivial
    · ipureintro; trivial
  iintro %u ⟨%g30, %g31, %g34, HK⟩
  unfold Kept
  icases HK with ⟨H2, H3, H4, H5, H6, H7, H8, H9, H10, H11, H12, H13, H14, H15, H16, H17, H18, H19, H20, H21, H22, H23, ⟨%f24', H24⟩, ⟨%f25', %p25, H25⟩, ⟨%f26', H26⟩, ⟨%f27', H27⟩, ⟨%f28', H28⟩, ⟨%f29', H29⟩, H30, H31, ⟨%f32', H32⟩, ⟨%f33', %p33, H33⟩, H34⟩
  isplitl [H30 H31 H32 H33 H34 Hg]
  · isplitr [Hg]; swap; · iexact Hg
    isplitl [H30]
    · iexists _; iexists _; isplitr; swap; · iexact H30
      ipureintro; rfl
    isplitl [H31]
    · iexists _; iexists _; isplitr; swap; · iexact H31
      ipureintro; rfl
    isplitl [H32]
    · iexists _; iexists _; isplitr; swap; · iexact H32
      ipureintro; rfl
    isplitl [H33]
    · iexists _; iexists _; isplitr; swap; · iexact H33
      ipureintro; rfl
    iexists _; iexists _; isplitr; swap; · iexact H34
    ipureintro; rfl
  isplitl [Ho]; · iexact Ho
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  isplitl [H19]
  · iexists _; isplitr; swap; · iexact H19
    ipureintro; exact h19
  isplitl [H20]
  · iexists _; isplitr; swap; · iexact H20
    ipureintro; exact h20
  isplitl [H21]
  · iexists _; isplitr; swap; · iexact H21
    ipureintro; exact h21
  isplitl [H22]
  · iexists _; isplitr; swap; · iexact H22
    ipureintro; exact h22
  isplitl [H23]
  · iexists _; isplitr; swap; · iexact H23
    ipureintro; exact h23
  isplitl [H24]
  · iexists _; iexists _; isplitr; swap; · iexact H24
    ipureintro; rfl
  isplitl [H25]
  · iexists _; isplitr; swap; · iexact H25
    ipureintro; exact p25.trans (congrArg₂ convOf h2 h3)
  isplitl [H26]
  · iexists _; iexists _; isplitr; swap; · iexact H26
    ipureintro; rfl
  isplitl [H27]
  · iexists _; iexists _; isplitr; swap; · iexact H27
    ipureintro; rfl
  isplitl [H28]
  · iexists _; iexists _; isplitr; swap; · iexact H28
    ipureintro; rfl
  iexists _; iexists _; isplitr; swap; · iexact H29
  ipureintro; rfl

theorem obligation (c : Dev nD) : Pipeline.BodyObligationLoose (left (F := F) m 0 c) (defs₀ (F := F)) Variants.none () Set.univ forgets := fun t => by
  rw [bigSep_W0, bigSep_W0, bodyOf_row]
  exact triple_restated (at_point m c t) rfl .rfl fun _ => .rfl

set_option backward.isDefEq.respectTransparency.types false in
/-- The run from any memory. -/
theorem runs : θ_run defs (onTc (τ := τ) (main (F := F))) (s₀ m ρ)
    (fun r => Pipeline.RDat.FramePost cfg0 (fun c => (left m 0 c).toRForget forgets) (V m) r ∧ r.2.sem = fun _ => 0) :=
  Pipeline.θ_run_frame_forget (Q' := _) cfgs (left m) (0 : Fin 1) launch0 defs₀ Variants.none forgets m ρ main
    (hbody := fun c => obligation m c) (hshare := fun c => (left m 0 c).share_full fun _ => rfl)
    (howed := fun _ _ => rfl) (V := V m) (hmain := hmain m Variants.none) (hA := left_arr m) (hΦ := fun _ _ => rfl)

set_option maxHeartbeats 4000000 in
/-- The run leaves the arguments alone and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 17 rfl).trans ((left_arr m c 17).trans (V_main_arg9 m c)),
      (h.1.arr_in c 18 rfl).trans ((left_arr m c 18).trans (V_main_arg10 m c)),
      (h.1.arr_in c 19 rfl).trans ((left_arr m c 19).trans (V_main_arg11 m c)),
      ((h.1 c).2 main_arg12 (Pipeline.mem_restRefs_of main_arg12 (by decide) (by decide))).trans (V_main_arg12 m c),
      (h.1.arr_in c 21 rfl).trans ((left_arr m c 21).trans (V_main_arg13 m c))⟩, h.2⟩) (runs m ρ)

set_option maxHeartbeats 4000000 in
/-- The run leaves the kept rows in their result. -/
theorem result : θ_run defs (onTc (τ := τ) (main (F := F))) ⟨m, fun _ => 0, ρ⟩ (fun r => ∀ c : Dev nD,
      r.2.mem ((cfg0.spec 23).arr.view.loc (c.tc : Thread nD τ)) = (left m 0 c).arrAt 23 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((left m 0 c).toRForget_arrAt_iff (fgt := forgets) (w := 23) rfl _ _).mp ((h.1 c).1 23),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 17 rfl).trans ((left_arr m c 17).trans (V_main_arg9 m c)),
      (h.1.arr_in c 18 rfl).trans ((left_arr m c 18).trans (V_main_arg10 m c)),
      (h.1.arr_in c 19 rfl).trans ((left_arr m c 19).trans (V_main_arg11 m c)),
      ((h.1 c).2 main_arg12 (Pipeline.mem_restRefs_of main_arg12 (by decide) (by decide))).trans (V_main_arg12 m c),
      (h.1.arr_in c 21 rfl).trans ((left_arr m c 21).trans (V_main_arg13 m c))⟩) (runs m ρ)

end Cert.Proof.Mx

end
-- ==== Proof.MxIn.lean ====
/- The mixer's first two windows, read off its arguments. -/
module

public import proofs.«01_k».proof.Proof.Gen.KernelMxIdeal
public import proofs.«01_k».proof.Proof.Gen.KernelMxIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Proof.Mx

open Cert.KernelMxIdeal Cert.KernelMxIdeal.Gen

variable (m : (ℓ : Loc nD τ sig) → Buf (Elt Ideal) ℓ)

set_option maxHeartbeats 4000000 in
theorem rows_in (c : Dev nD) : V m c main_v36 = (shapeCast S1024x1024 (m ((c : Thread nD τ).loc main_arg0) : FVec Ideal S32x32x1024 .f32) shapeCasts_S32x32x1024_S1024x1024 : FVec Ideal S1024x1024 .f32) := by
  unfold V
  simp only [hostOps0, hostOps0_1, hostOps0_2, hostOps0_3, hostOps0_4, hostOps0_5, hostOps0_6, List.flatten_cons, List.flatten_nil, List.append_nil, List.cons_append, List.nil_append]
  after_results_simp
  all_goals rfl

/-- The tiled kernel's weights: the gates' columns taken out. -/
abbrev mainOf (W : FVec Ideal S1024x4104 .f32) : FVec Ideal S1024x4096 .bf16 :=
  truncf .bf16 (concatenate S1024x4096 1 [⟨S1024x2048, extractStridedSlice S1024x2048 ![0, 0] (shapeCast S1024x4104 (broadcastInDim S1x1024x4104 ![1, 2]
      bcast_S1024x4104_S1x1024x4104_1_2 W) shapeCasts_S1x1024x4104_S1024x4104) slices_S1024x4104_S1024x2048_0_0⟩,
    ⟨S1024x2048, extractStridedSlice S1024x2048 ![0, 2056] (shapeCast S1024x4104 (broadcastInDim S1x1024x4104 ![1, 2]
      bcast_S1024x4104_S1x1024x4104_1_2 W) shapeCasts_S1x1024x4104_S1024x4104) slices_S1024x4104_S1024x2048_0_2056⟩]
    concatenates_S1024x2048_S1024x2048_S1024x4096_d1) bitsLt_bf16_f32

theorem mainOf_at (W : FVec Ideal S1024x4104 .f32) (k : Fin 1024) (j : Fin 4096) (h : j.val < 1024) :
    mainOf W (ix2 k j) = W (ix2 k ⟨j.val, by omega⟩) := by
  pointwise [mainOf]
  rw [dif_pos (show j.val < 2048 by omega)]

theorem rowsOf_at (X : FVec Ideal S32x32x1024 .f32) (i k : Fin 1024) :
    (shapeCast S1024x1024 X shapeCasts_S32x32x1024_S1024x1024 : FVec Ideal S1024x1024 .f32) (ix2 i k)
      = X (ix3 ⟨i.val / 32, by omega⟩ ⟨i.val % 32, by omega⟩ k) := by
  pointwise []

set_option maxHeartbeats 4000000 in
theorem weights_in (c : Dev nD) : V m c main_v14 = mainOf (m ((c : Thread nD τ).loc main_arg1)) := by
  unfold V
  simp only [hostOps0, hostOps0_1, hostOps0_2, hostOps0_3, hostOps0_4, hostOps0_5, hostOps0_6, List.flatten_cons, List.flatten_nil, List.append_nil, List.cons_append, List.nil_append]
  after_results_simp
  all_goals rfl

/-- The weights of the convolution's branch, entry by entry. -/
theorem weights_at (c : Dev nD) (k : Fin 1024) (j : Fin 4096) (h : j.val < 1024) :
    (V m c main_v14 : FVec Ideal S1024x4096 .bf16) (ix2 k j) = (m ((c : Thread nD τ).loc main_arg1) : FVec Ideal S1024x4104 .f32) (ix2 k ⟨j.val, by omega⟩) :=
  (congrFun (weights_in m c) _).trans (mainOf_at _ k j h)

theorem rows_at (c : Dev nD) (i k : Fin 1024) :
    (V m c main_v36 : FVec Ideal S1024x1024 .f32) (ix2 i k)
      = (m ((c : Thread nD τ).loc main_arg0) : FVec Ideal S32x32x1024 .f32) (ix3 ⟨i.val / 32, by omega⟩ ⟨i.val % 32, by omega⟩ k) :=
  (congrFun (rows_in m c) _).trans (rowsOf_at _ i k)

end Cert.Proof.Mx

end
-- ==== Proof.MxVal.lean ====
/- The mixer: the rows it keeps for the convolution are the reference's. -/
module

public import proofs.«01_k».proof.Defs
public import proofs.«01_k».proof.Proof.MxFrame
public import proofs.«01_k».proof.Proof.MxIn
public import proofs.«01_k».proof.Proof.Gen.ReferenceMxIdeal.Run
public import Idealize.ShloMosaic.Lib.Pipeline.ValueKit
public import Idealize.ShloMosaic.Lib.Quiescent
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Proof.Mx

open Cert.KernelMxIdeal Cert.KernelMxIdeal.Gen

variable (m : (ℓ : Loc nD τ sig) → Buf (Elt Ideal) ℓ)

/-- The reference's kept rows: the last three of the state's rows followed by the projected ones. -/
abbrev REF (X : FVec Ideal S32x32x1024 .f32) (W : FVec Ideal S1024x4104 .f32) (S : FVec Ideal S32x3x1024 .f32) : FVec Ideal S32x3x1024 .f32 :=
  extractStridedSlice Cert.ReferenceMxIdeal.S32x3x1024 ![0, 32, 0] (concatenate Cert.ReferenceMxIdeal.S32x35x1024 1 [⟨Cert.ReferenceMxIdeal.S32x3x1024, S⟩,
    ⟨Cert.ReferenceMxIdeal.S32x32x1024, Host.dotGeneral Cert.ReferenceMxIdeal.dot_S32x32x1024_S1024x1024_S32x32x1024_2_0_01_1_n_n none X
      (extractStridedSlice Cert.ReferenceMxIdeal.S1024x1024 ![0, 0] W Cert.ReferenceMxIdeal.Gen.slices_S1024x4104_S1024x1024_0_0)⟩]
    Cert.ReferenceMxIdeal.Gen.concatenates_S32x3x1024_S32x32x1024_S32x35x1024_d1) Cert.ReferenceMxIdeal.Gen.slices_S32x35x1024_S32x3x1024_0_32_0

theorem REF_at (X : FVec Ideal S32x32x1024 .f32) (W : FVec Ideal S1024x4104 .f32) (S : FVec Ideal S32x3x1024 .f32) (b : Fin 32) (r : Fin 3) (j : Fin 1024) :
    REF X W S (ix3 b r j) = ∑ k : Fin 1024, X (ix3 b ⟨29 + r.val, by omega⟩ k) * W (ix2 k ⟨j.val, by omega⟩) := by
  pointwise [REF]
  rw [dif_neg (show ¬ 32 + r.val < 3 by omega)]
  refine Finset.sum_congr rfl fun k _ => congrArg (· * _) (congrArg X ?_)
  blk_ext []

theorem pay409_at (X : FVec Ideal S256x1024 .f32) (W : FVec Ideal S1024x512 .bf16) (a : Fin 1) (i : Fin 256) (j : Fin 512) :
    k0_pay409 (F := Ideal) X W (ix3 a i j) = ∑ k : Fin 1024, X (ix2 i k) * W (ix2 k j) := by
  pointwise [k0_pay409, k0_pay407, k0_pay406]

theorem pay410_at (X : FVec Ideal S256x1024 .f32) (W : FVec Ideal S1024x512 .bf16) (a : Fin 1) (i : Fin 256) (j : Fin 512) :
    k0_pay410 (F := Ideal) X W (ix3 a i j) = ∑ k : Fin 1024, X (ix2 i k) * W (ix2 k j) := by
  pointwise [k0_pay410, k0_pay407, k0_pay406]

theorem conv_at (X : FVec Ideal S256x1024 .f32) (W : FVec Ideal S1024x4096 .bf16) (b : Fin 8) (r : Fin 3) (j : Fin 1024) :
    convOf (F := Ideal) X W (ix3 b r j) = ∑ k : Fin 1024, X (ix2 ⟨32 * b.val + 29 + r.val, by omega⟩ k) * W (ix2 k ⟨j.val, by omega⟩) := by
  unfold convOf
  split
  · refine (pay409_at _ _ _ _ _).trans (Finset.sum_congr rfl fun k _ => congrArg (_ * ·) ?_)
    exact View.ld_unit_apply_of _ _ _ _ _ (ix2 k ⟨j.val, by omega⟩ : S1024x4096.Idx)
      (Fin.forall_fin_two.mpr ⟨(Nat.zero_add _).symm, (Nat.zero_add _).symm⟩)
  · rename_i h
    refine (pay410_at _ _ _ _ _).trans (Finset.sum_congr rfl fun k _ => congrArg (_ * ·) ?_)
    have h' : ¬ j.val < 512 := h
    exact View.ld_unit_apply_of _ _ _ _ _ (ix2 k ⟨j.val, by omega⟩ : S1024x4096.Idx)
      (Fin.forall_fin_two.mpr ⟨(Nat.zero_add _).symm, show j.val = 512 + (j.val - 512) by omega⟩)

theorem idx : ∀ t : Fin cfg0.N, win0_0.index t = ![t.val, 0] ∧ win0_1.index t = ![0, 0] ∧ win0_23.index t = ![t.val, 0, 0] :=
  (by decide +kernel : ∀ t : Fin grid0.N, _)

theorem batch_lt (t : Fin cfg0.N) (b : Fin 8) : t.val * 8 + b.val < 32 := by
  have h : t.val < 4 := lt_of_lt_of_eq t.isLt N_0
  omega

theorem place0 (t : Fin cfg0.N) (i : Fin 256) (k : Fin 1024) (h : t.val * 256 + i.val < 1024) :
    (((View.whole main_v36).slice (win0_0.rect t)).emb (ix2 i k)) = (ix2 ⟨t.val * 256 + i.val, h⟩ k : S1024x1024.Idx) := by
  have hi := (idx t).1
  blk_ext [hi]

theorem place1 (t : Fin cfg0.N) (k : Fin 1024) (j : Fin 4096) :
    (((View.whole main_v14).slice (win0_1.rect t)).emb (ix2 k j)) = (ix2 k j : S1024x4096.Idx) := by
  have hi := (idx t).2.1
  blk_ext [hi]

theorem row_lt (t : Fin cfg0.N) (i : Fin 256) : t.val * 256 + i.val < 1024 := by
  have h : t.val < 4 := lt_of_lt_of_eq t.isLt N_0
  omega

theorem block0_at (c : Dev nD) (t : Fin cfg0.N) (i : Fin 256) (k : Fin 1024) :
    (iblk m c 0 t : FVec Ideal S256x1024 .f32) (ix2 i k) = (m ((c : Thread nD τ).loc main_arg0) : FVec Ideal S32x32x1024 .f32)
      (ix3 ⟨(t.val * 256 + i.val) / 32, by have := row_lt t i; omega⟩ ⟨(t.val * 256 + i.val) % 32, by omega⟩ k) :=
  (congrArg (V m c main_v36) (place0 t i k (row_lt t i))).trans (rows_at m c _ _)

theorem block1_at (c : Dev nD) (t : Fin cfg0.N) (k : Fin 1024) (j : Fin 4096) (h : j.val < 1024) :
    (iblk m c 1 t : FVec Ideal S1024x4096 .bf16) (ix2 k j) = (m ((c : Thread nD τ).loc main_arg1) : FVec Ideal S1024x4104 .f32) (ix2 k ⟨j.val, by omega⟩) :=
  (congrArg (V m c main_v14) (place1 t k j)).trans (weights_at m c _ _ h)

theorem ix3_of {a a' : Fin 32} {b b' : Fin 32} {k : Fin 1024} (h : a.val = a'.val) (h' : b.val = b'.val) :
    (ix3 a b k : S32x32x1024.Idx) = ix3 a' b' k := by
  rw [Fin.ext h, Fin.ext h']

theorem final23 (c : Dev nD) : (left m 0 c).arrAt 23 cfg0.N
    = REF (m ((c : Thread nD τ).loc main_arg0)) (m ((c : Thread nD τ).loc main_arg1)) (m ((c : Thread nD τ).loc main_arg9)) := by
  refine (left m 0 c).arrAt_eq_of_covers 23 _ (by decide +kernel) fun t _ y => ?_
  blk_simp
  rw [l23]
  idx_vars y
  refine (conv_at _ _ _ _ _).trans ?_
  have e : (((View.whole main_v106_1).slice (win0_23.rect t)).emb (ix3 y0 y1 y2)) = (ix3 ⟨t.val * 8 + y0.val, batch_lt t y0⟩ y1 y2 : S32x3x1024.Idx) := by
    blk_ext [idx t]
  refine Eq.trans ?_ (congrArg (REF (m ((c : Thread nD τ).loc main_arg0)) (m ((c : Thread nD τ).loc main_arg1)) (m ((c : Thread nD τ).loc main_arg9))) e).symm
  refine Eq.trans ?_ (REF_at _ _ _ _ _ _).symm
  refine Finset.sum_congr rfl fun k _ => congrArg₂ (· * ·) ?_ ?_
  · refine (block0_at m c t _ k).trans (congrArg _ ?_)
    exact ix3_of (show (t.val * 256 + (32 * y0.val + 29 + y1.val)) / 32 = t.val * 8 + y0.val by omega)
      (show (t.val * 256 + (32 * y0.val + 29 + y1.val)) % 32 = 29 + y1.val by omega)
  · exact block1_at m c t k _ y2.isLt

end Cert.Proof.Mx

end
-- ==== Proof.Mx.lean ====
/- The mixer's runs, as the claims state them. -/
module

public import proofs.«01_k».proof.Defs
public import proofs.«01_k».proof.Proof.MxBitsFrame
public import proofs.«01_k».proof.Proof.MxVal
public import proofs.«01_k».proof.Proof.Gen.On_conv_kept

@[expose] public section

set_option maxRecDepth 16384

noncomputable section

namespace Cert.Proof

open Idealize.ShloMosaic Idealize.SL.Sem

theorem mx_quiet_ideal : @Cert.quiescent_KernelMxIdeal Cert.KernelMxIdeal.Gen.facts :=
  fun m g _ => Mx.quiet (F := Ideal) m g

theorem mx_quiet_bits : @Cert.quiescent_KernelMx Cert.KernelMx.Gen.facts :=
  fun m g _ => MxBits.quiet (F := Bits) m g

theorem mx_quiet_ref : @Cert.quiescent_ReferenceMxIdeal Cert.ReferenceMxIdeal.Gen.facts :=
  fun m ρ _ => (θ_run Cert.ReferenceMxIdeal.defs _ _).mono (fun r h =>
    ⟨fun c => (h c).2.2.2.2.2.2, Idealize.ShloMosaic.sem_eq_zero_of_no_sems (by decide) r.2⟩)
    (Cert.ReferenceMxIdeal.Value.run (F := Ideal) m ρ)

theorem off {p : Prop} {b : BitVec 1} (h : b = 1#1) (e : b = 0#1) : p :=
  absurd (e.symm.trans h) (by decide)

/-- The rows kept for the convolution: on the mask the kernel's second result is the reference's. -/
theorem mx_values : @Cert.algebraic_KernelMxIdeal_ReferenceMxIdeal_on_conv_kept Cert.KernelMxIdeal.Gen.facts
    Cert.ReferenceMxIdeal.Gen.facts Cert.On_conv_kept.Gen.facts := by
  intro m g m' g' _ hagree
  refine ⟨fun c => m ((c.tc : Thread Cert.KernelMxIdeal.nD Cert.KernelMxIdeal.τ).loc Cert.KernelMxIdeal.main_v106_0),
    fun c => (Mx.left m 0 c).arrAt 23 Cert.KernelMxIdeal.cfg0.N,
    fun c => m ((c.tc : Thread Cert.KernelMxIdeal.nD Cert.KernelMxIdeal.τ).loc Cert.KernelMxIdeal.main_v106_2),
    fun c => m ((c.tc : Thread Cert.KernelMxIdeal.nD Cert.KernelMxIdeal.τ).loc Cert.KernelMxIdeal.main_v106_3),
    fun c => m ((c.tc : Thread Cert.KernelMxIdeal.nD Cert.KernelMxIdeal.τ).loc Cert.KernelMxIdeal.main_v106_4),
    fun c => m ((c.tc : Thread Cert.KernelMxIdeal.nD Cert.KernelMxIdeal.τ).loc Cert.KernelMxIdeal.main_v106_5), ?_, ?_⟩
  · refine (θ_run Cert.KernelMxIdeal.defs _ _).mono (fun r h c => ?_) (Mx.result m g)
    obtain ⟨h1, a⟩ := h c
    exact ⟨fun _ hi => off hi rfl, fun i _ => congrFun h1 i, fun _ hi => off hi rfl, fun _ hi => off hi rfl,
      fun _ hi => off hi rfl, fun _ hi => off hi rfl, a⟩
  · refine (θ_run Cert.ReferenceMxIdeal.defs _ _).mono (fun r h c => ?_) (Cert.ReferenceMxIdeal.Value.run (F := Ideal) m' g')
    obtain ⟨_, h1, _, _, _, _, a⟩ := h c
    obtain ⟨e0, e1, _, _, _, _, _, _, _, e9, _⟩ := hagree c
    refine ⟨fun _ hi => off hi rfl, fun i _ => ?_, fun _ hi => off hi rfl, fun _ hi => off hi rfl,
      fun _ hi => off hi rfl, fun _ hi => off hi rfl, a⟩
    refine (congrFun h1 i).trans (Eq.trans ?_ (congrFun (Mx.final23 m c) i).symm)
    rw [e0, e1, e9]

end Cert.Proof

end
-- ==== Proof.lean ====
module

public import proofs.«01_k».proof.Defs
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.ReferenceKvIdeal
public import proofs.«01_k».proof.Proof.Kv
public import proofs.«01_k».proof.Proof.Gen.KernelXa
public import proofs.«01_k».proof.Proof.Gen.KernelXa.Skeleton
public import proofs.«01_k».proof.Proof.Gen.KernelXa.Launch
public import proofs.«01_k».proof.Proof.Gen.KernelXa.Points
public import proofs.«01_k».proof.Proof.Gen.KernelXa.Frame
public import proofs.«01_k».proof.Proof.Gen.KernelXaIdeal
public import proofs.«01_k».proof.Proof.Gen.KernelXaIdeal.Skeleton
public import proofs.«01_k».proof.Proof.Gen.KernelXaIdeal.Launch
public import proofs.«01_k».proof.Proof.Gen.KernelXaIdeal.Points
public import proofs.«01_k».proof.Proof.Gen.KernelXaIdeal.Frame
public import proofs.«01_k».proof.Proof.Gen.ReferenceXaIdeal
public import proofs.«01_k».proof.Proof.Gen.On_attended
public import proofs.«01_k».proof.Proof.Xa
public import proofs.«01_k».proof.Proof.ExBits
public import proofs.«01_k».proof.Proof.Gen.KernelExIdeal
public import proofs.«01_k».proof.Proof.Gen.KernelExIdeal.Launch
public import proofs.«01_k».proof.Proof.Gen.KernelExIdeal.Skeleton
public import proofs.«01_k».proof.Proof.Gen.Pre_tables_ok
public import proofs.«01_k».proof.Proof.Gen.KernelEx
public import proofs.«01_k».proof.Proof.Gen.KernelEx.Launch
public import proofs.«01_k».proof.Proof.Gen.KernelEx.Skeleton
public import proofs.«01_k».proof.Proof.Gen.ReferenceExIdeal
public import proofs.«01_k».proof.Proof.Gen.ReferenceExIdeal.Run
public import proofs.«01_k».proof.Proof.Gen.KernelMx
public import proofs.«01_k».proof.Proof.Gen.KernelMx.Launch
public import proofs.«01_k».proof.Proof.Gen.KernelMx.Points
public import proofs.«01_k».proof.Proof.Gen.KernelMx.Frame
public import proofs.«01_k».proof.Proof.Gen.KernelMx.Skeleton
public import proofs.«01_k».proof.Proof.Gen.KernelMxIdeal
public import proofs.«01_k».proof.Proof.Gen.KernelMxIdeal.Launch
public import proofs.«01_k».proof.Proof.Gen.KernelMxIdeal.Points
public import proofs.«01_k».proof.Proof.Gen.KernelMxIdeal.Frame
public import proofs.«01_k».proof.Proof.Gen.KernelMxIdeal.Skeleton
public import proofs.«01_k».proof.Proof.Gen.ReferenceMxIdeal
public import proofs.«01_k».proof.Proof.Gen.ReferenceMxIdeal.Run
public import proofs.«01_k».proof.Proof.Gen.On_conv_kept
public import proofs.«01_k».proof.Proof.Mx
public import Idealize.ShloMosaic.Adequacy
public import Idealize.ShloMosaic.Init

@[expose] public section

noncomputable section

namespace Cert.Proof

open Idealize.ShloMosaic Idealize.SL.Sem Cert.KernelKv

/-- The values of the keys and values: every result of the tiled kernel is the reference's. -/
theorem kv_values : Cert.algebraic_KernelKvIdeal_ReferenceKvIdeal := by
  intro m g m' g' _ hagree
  refine ⟨fun c => (Cert.KernelKvIdeal.Gen.dats m 0 c).arrAt 3 Cert.KernelKvIdeal.cfg0.N,
    fun c => (Cert.KernelKvIdeal.Gen.dats m 0 c).arrAt 4 Cert.KernelKvIdeal.cfg0.N,
    fun c => (Cert.KernelKvIdeal.Gen.dats m 0 c).arrAt 5 Cert.KernelKvIdeal.cfg0.N,
    fun c => (Cert.KernelKvIdeal.Gen.dats m 0 c).arrAt 6 Cert.KernelKvIdeal.cfg0.N,
    Cert.KernelKvIdeal.Value.run_blocks m g, ?_⟩
  refine (θ_run Cert.ReferenceKvIdeal.defs _ _).mono (fun r h c => ?_) (Cert.ReferenceKvIdeal.Value.run (F := Ideal) m' g')
  obtain ⟨h3, h4, h5, h6, a0, a1, a2⟩ := h c
  obtain ⟨e0, e1, e2⟩ := hagree c
  refine ⟨h3.trans (Eq.trans ?_ (Kv.final3 m c).symm), h4.trans (Eq.trans ?_ (Kv.final4 m c).symm),
    h5.trans (Eq.trans ?_ (Kv.final5 m c).symm), h6.trans (Eq.trans ?_ (Kv.final6 m c).symm), a0, a1, a2⟩
  · rw [e0, e1]
  · rw [e0, e2]
  · rw [e0, e1]
  · rw [e0, e2]

/-- The mask holds only on lanes below the model width. -/
theorem attended_lt (x0 x1 x2 x3 x4 x5 x6 x7) (i : (⟨2, ![32768, 1152]⟩ : Shape).Idx)
    (h : (@Cert.On_attended.fn Cert.On_attended.Gen.facts Ideal _ x0 x1 x2 x3 x4 x5 x6 x7).1 i = 1#1) : (i 1).val < 1024 := by
  idx_vars i
  have h' : BitVec.ofBool ((BitVec.ofNat 32 i1.val).slt 1024#32) = 1#1 := h
  have hl := i1.isLt
  by_contra hc
  replace hc : ¬ (i1.val < 1024) := hc
  have h2 : (BitVec.ofNat 32 i1.val).slt 1024#32 = false := by
    rw [BitVec.slt, decide_eq_false_iff_not, BitVec.toInt_eq_toNat_of_lt, BitVec.toInt_eq_toNat_of_lt] <;> simp only [BitVec.toNat_ofNat] <;> omega
  rw [h2] at h'
  exact absurd h' (by decide)

theorem attended_none (x0 x1 x2 x3 x4 x5 x6 x7) (i : (⟨2, ![8, 32768]⟩ : Shape).Idx)
    (h : (@Cert.On_attended.fn Cert.On_attended.Gen.facts Ideal _ x0 x1 x2 x3 x4 x5 x6 x7).2.1 i = 1#1) : False :=
  absurd (show (0#1 : BitVec 1) = 1#1 from h) (by decide)

theorem attended_none' (x0 x1 x2 x3 x4 x5 x6 x7) (i : (⟨2, ![32, 128]⟩ : Shape).Idx)
    (h : (@Cert.On_attended.fn Cert.On_attended.Gen.facts Ideal _ x0 x1 x2 x3 x4 x5 x6 x7).2.2 i = 1#1) : False :=
  absurd (show (0#1 : BitVec 1) = 1#1 from h) (by decide)

/-- The attended rows: on the mask the kernel's first result is the reference's. -/
theorem xa_values : @Cert.algebraic_KernelXaIdeal_ReferenceXaIdeal_on_attended Cert.KernelXaIdeal.Gen.facts
    Cert.ReferenceXaIdeal.Gen.facts Cert.On_attended.Gen.facts := by
  intro m g m' g' _ hagree
  refine ⟨fun c => (Cert.KernelXaIdeal.Gen.dats m 0 c).arrAt 10 Cert.KernelXaIdeal.cfg0.N,
    fun c => (Cert.KernelXaIdeal.Gen.dats m 0 c).arrAt 11 Cert.KernelXaIdeal.cfg0.N,
    fun c => (Cert.KernelXaIdeal.Gen.dats m 0 c).arrAt 12 Cert.KernelXaIdeal.cfg0.N, ?_, ?_⟩
  · refine (θ_run Cert.KernelXaIdeal.defs _ _).mono (fun r h c => ?_) (Cert.KernelXaIdeal.Value.run_blocks m g)
    obtain ⟨h0, h1, h2, a⟩ := h c
    exact ⟨fun i _ => congrFun h0 i, fun i _ => congrFun h1 i, fun i _ => congrFun h2 i, a⟩
  · refine (θ_run Cert.ReferenceXaIdeal.defs _ _).mono (fun r h c => ?_) (Cert.ReferenceXaIdeal.Value.run (F := Ideal) m' g')
    obtain ⟨h0, _, _, a⟩ := h c
    obtain ⟨e0, e1, e2, e3, e4, e5, e6, _⟩ := hagree c
    refine ⟨fun i hi => ?_, fun i hi => (attended_none _ _ _ _ _ _ _ _ i hi).elim,
      fun i hi => (attended_none' _ _ _ _ _ _ _ _ i hi).elim, a⟩
    refine (congrFun (h0.trans (Xa.res_eq m' c)) i).trans
      (Eq.trans ?_ (Xa.final10 m c i (attended_lt _ _ _ _ _ _ _ _ i hi)).symm)
    rw [e0, e1, e2, e3, e4, e5, e6]

theorem claim : Cert.Claim :=
  ⟨Cert.KernelKv.Gen.facts, Cert.KernelKvIdeal.Gen.facts, Cert.ReferenceKvIdeal.Gen.facts,
    Cert.KernelXa.Gen.facts, Cert.KernelXaIdeal.Gen.facts, Cert.ReferenceXaIdeal.Gen.facts,
    Cert.KernelEx.Gen.facts, Cert.KernelExIdeal.Gen.facts, Cert.ReferenceExIdeal.Gen.facts,
    Cert.KernelMx.Gen.facts, Cert.KernelMxIdeal.Gen.facts, Cert.ReferenceMxIdeal.Gen.facts,
    Cert.Pre_tables_ok.Gen.facts, Cert.On_attended.Gen.facts, Cert.On_conv_kept.Gen.facts,
    fun m ρ _ => Cert.KernelKv.Gen.frame m ρ, fun m ρ _ => Cert.KernelKvIdeal.Gen.frame m ρ,
    fun m ρ _ => (θ_run Cert.ReferenceKvIdeal.defs _ _).mono (fun r h =>
      ⟨fun c => ⟨(h c).2.2.2.2.1, (h c).2.2.2.2.2.1, (h c).2.2.2.2.2.2⟩, Idealize.ShloMosaic.sem_eq_zero_of_no_sems (by decide) r.2⟩)
      (Cert.ReferenceKvIdeal.Value.run (F := Ideal) m ρ),
    fun m ρ _ => Cert.KernelXa.Gen.frame m ρ, fun m ρ _ => Cert.KernelXaIdeal.Gen.frame m ρ,
    fun m ρ _ => (θ_run Cert.ReferenceXaIdeal.defs _ _).mono (fun r h =>
      ⟨fun c => (h c).2.2.2, Idealize.ShloMosaic.sem_eq_zero_of_no_sems (by decide) r.2⟩)
      (Cert.ReferenceXaIdeal.Value.run (F := Ideal) m ρ),
    ex_quiet_bits, ex_quiet_ideal, ex_quiet_ref,
    mx_quiet_bits, mx_quiet_ideal, mx_quiet_ref,
    trivial, kv_values, trivial, xa_values, trivial, ex_values, trivial, mx_values⟩

end Cert.Proof

end
